-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 512, 512]⟩ ⟨3, ![32, 512, 512]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x512 : Shape := ⟨3, ![1, 512, 512]⟩
abbrev S512x512 : Shape := ⟨2, ![512, 512]⟩
abbrev S64x8x512 : Shape := ⟨3, ![64, 8, 512]⟩
abbrev S64 : Shape := ⟨1, ![64]⟩
abbrev S_ : Shape := ⟨0, ![]⟩
abbrev S1 : Shape := ⟨1, ![1]⟩
abbrev S1x8x512 : Shape := ⟨3, ![1, 8, 512]⟩
abbrev S8x512 : Shape := ⟨2, ![8, 512]⟩
abbrev S32x8x512 : Shape := ⟨3, ![32, 8, 512]⟩
abbrev S256x512 : Shape := ⟨2, ![256, 512]⟩

abbrev nBuf : Space → Nat
  | .hbm => 2
  | .vmem => 5
  | .smem => 0
  | _ => 0

abbrev bufTy : (tb : Table) → Fin (tcTables nBuf tb) → BufTy
  | .hbm, ⟨0, _⟩ => ⟨S1x512x512, .f32⟩
  | .hbm, ⟨1, _⟩ => ⟨S512x512, .f32⟩
  | .local _ .vmem, ⟨0, _⟩ => ⟨S1x512x512, .f32⟩
  | .local _ .vmem, ⟨1, _⟩ => ⟨S512x512, .f32⟩
  | .local _ .vmem, ⟨2, _⟩ => ⟨S512x512, .bf16⟩
  | .local _ .vmem, ⟨3, _⟩ => ⟨S64x8x512, .bf16⟩
  | .local _ .vmem, ⟨4, _⟩ => ⟨S64x8x512, .bf16⟩
  | _, _ => ⟨S1x512x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 258 → Bool
  | ⟨i, _⟩ => dmaSemScopedAt i

abbrev sig : RefSig :=
  (ofTc nBuf bufTy 1 258 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) (c0_i32_294 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v427 : BitVec 32 := Scalar.addi c0_i32_294 v2
  ![v427.toNat]
def k0_off2 (d0 : Dev nD) (c0_i32_293 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v426 : BitVec 32 := Scalar.addi c0_i32_293 v2
  let c0_i32_298 : BitVec 32 := 0#32
  let c0_i32_299 : BitVec 32 := 0#32
  ![v426.toNat, 0, 0]
def k0_off3 (d0 : Dev nD) (c0_i32_292 : BitVec 32) (c1_i32_284 : BitVec 32) : Fin 2 → Nat :=
  let c8_i32_291 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v413 : BitVec 32 := Scalar.addi v2 c1_i32_284
  let c32_i32_285 : BitVec 32 := 32#32
  let c0_i32_286 : BitVec 32 := 0#32
  let v414 : BitVec 1 := Scalar.cmpi .eq c32_i32_285 c0_i32_286
  let c1_i32_287 : BitVec 32 := 1#32
  let v415 : BitVec 32 := Scalar.select v414 c1_i32_287 c32_i32_285
  let v416 : BitVec 32 := Scalar.remsi v413 v415
  let c0_i32_289 : BitVec 32 := 0#32
  let v418 : BitVec 1 := Scalar.cmpi .slt v416 c0_i32_289
  let c0_i32_290 : BitVec 32 := 0#32
  let v419 : BitVec 1 := Scalar.cmpi .slt v415 c0_i32_290
  let v420 : BitVec 1 := Scalar.xori v418 v419
  let c0_i32_288 : BitVec 32 := 0#32
  let v417 : BitVec 1 := Scalar.cmpi .ne v416 c0_i32_288
  let v421 : BitVec 1 := Scalar.andi v420 v417
  let v422 : BitVec 32 := Scalar.addi v416 v415
  let v423 : BitVec 32 := Scalar.select v421 v422 v416
  let v424 : BitVec 32 := Scalar.muli c8_i32_291 v423
  let v425 : BitVec 32 := Scalar.addi c0_i32_292 v424
  let c0_i32_300 : BitVec 32 := 0#32
  ![v425.toNat, 0]
def k0_dev32 (d0 : Dev nD) : Nat :=
  let c0_i32_297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_284 : BitVec 32 := 1#32
  let v413 : BitVec 32 := Scalar.addi v2 c1_i32_284
  let c32_i32_285 : BitVec 32 := 32#32
  let c0_i32_286 : BitVec 32 := 0#32
  let v414 : BitVec 1 := Scalar.cmpi .eq c32_i32_285 c0_i32_286
  let c1_i32_287 : BitVec 32 := 1#32
  let v415 : BitVec 32 := Scalar.select v414 c1_i32_287 c32_i32_285
  let v416 : BitVec 32 := Scalar.remsi v413 v415
  let c0_i32_289 : BitVec 32 := 0#32
  let v418 : BitVec 1 := Scalar.cmpi .slt v416 c0_i32_289
  let c0_i32_290 : BitVec 32 := 0#32
  let v419 : BitVec 1 := Scalar.cmpi .slt v415 c0_i32_290
  let v420 : BitVec 1 := Scalar.xori v418 v419
  let c0_i32_288 : BitVec 32 := 0#32
  let v417 : BitVec 1 := Scalar.cmpi .ne v416 c0_i32_288
  let v421 : BitVec 1 := Scalar.andi v420 v417
  let v422 : BitVec 32 := Scalar.addi v416 v415
  let v423 : BitVec 32 := Scalar.select v421 v422 v416
  let c1_i32_296 : BitVec 32 := 1#32
  let v428 : BitVec 32 := Scalar.muli v423 c1_i32_296
  let v429 : BitVec 32 := Scalar.addi c0_i32_297 v428
  v429.toNat
def k0_dev33 (d0 : Dev nD) : Nat :=
  let c0_i32_314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_301 : BitVec 32 := 2#32
  let v437 : BitVec 32 := Scalar.addi v2 c2_i32_301
  let c32_i32_302 : BitVec 32 := 32#32
  let c0_i32_303 : BitVec 32 := 0#32
  let v438 : BitVec 1 := Scalar.cmpi .eq c32_i32_302 c0_i32_303
  let c1_i32_304 : BitVec 32 := 1#32
  let v439 : BitVec 32 := Scalar.select v438 c1_i32_304 c32_i32_302
  let v440 : BitVec 32 := Scalar.remsi v437 v439
  let c0_i32_306 : BitVec 32 := 0#32
  let v442 : BitVec 1 := Scalar.cmpi .slt v440 c0_i32_306
  let c0_i32_307 : BitVec 32 := 0#32
  let v443 : BitVec 1 := Scalar.cmpi .slt v439 c0_i32_307
  let v444 : BitVec 1 := Scalar.xori v442 v443
  let c0_i32_305 : BitVec 32 := 0#32
  let v441 : BitVec 1 := Scalar.cmpi .ne v440 c0_i32_305
  let v445 : BitVec 1 := Scalar.andi v444 v441
  let v446 : BitVec 32 := Scalar.addi v440 v439
  let v447 : BitVec 32 := Scalar.select v445 v446 v440
  let c1_i32_313 : BitVec 32 := 1#32
  let v452 : BitVec 32 := Scalar.muli v447 c1_i32_313
  let v453 : BitVec 32 := Scalar.addi c0_i32_314 v452
  v453.toNat
def k0_dev34 (d0 : Dev nD) : Nat :=
  let c0_i32_331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_318 : BitVec 32 := 3#32
  let v461 : BitVec 32 := Scalar.addi v2 c3_i32_318
  let c32_i32_319 : BitVec 32 := 32#32
  let c0_i32_320 : BitVec 32 := 0#32
  let v462 : BitVec 1 := Scalar.cmpi .eq c32_i32_319 c0_i32_320
  let c1_i32_321 : BitVec 32 := 1#32
  let v463 : BitVec 32 := Scalar.select v462 c1_i32_321 c32_i32_319
  let v464 : BitVec 32 := Scalar.remsi v461 v463
  let c0_i32_323 : BitVec 32 := 0#32
  let v466 : BitVec 1 := Scalar.cmpi .slt v464 c0_i32_323
  let c0_i32_324 : BitVec 32 := 0#32
  let v467 : BitVec 1 := Scalar.cmpi .slt v463 c0_i32_324
  let v468 : BitVec 1 := Scalar.xori v466 v467
  let c0_i32_322 : BitVec 32 := 0#32
  let v465 : BitVec 1 := Scalar.cmpi .ne v464 c0_i32_322
  let v469 : BitVec 1 := Scalar.andi v468 v465
  let v470 : BitVec 32 := Scalar.addi v464 v463
  let v471 : BitVec 32 := Scalar.select v469 v470 v464
  let c1_i32_330 : BitVec 32 := 1#32
  let v476 : BitVec 32 := Scalar.muli v471 c1_i32_330
  let v477 : BitVec 32 := Scalar.addi c0_i32_331 v476
  v477.toNat
def k0_dev35 (d0 : Dev nD) : Nat :=
  let c0_i32_348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_335 : BitVec 32 := 4#32
  let v485 : BitVec 32 := Scalar.addi v2 c4_i32_335
  let c32_i32_336 : BitVec 32 := 32#32
  let c0_i32_337 : BitVec 32 := 0#32
  let v486 : BitVec 1 := Scalar.cmpi .eq c32_i32_336 c0_i32_337
  let c1_i32_338 : BitVec 32 := 1#32
  let v487 : BitVec 32 := Scalar.select v486 c1_i32_338 c32_i32_336
  let v488 : BitVec 32 := Scalar.remsi v485 v487
  let c0_i32_340 : BitVec 32 := 0#32
  let v490 : BitVec 1 := Scalar.cmpi .slt v488 c0_i32_340
  let c0_i32_341 : BitVec 32 := 0#32
  let v491 : BitVec 1 := Scalar.cmpi .slt v487 c0_i32_341
  let v492 : BitVec 1 := Scalar.xori v490 v491
  let c0_i32_339 : BitVec 32 := 0#32
  let v489 : BitVec 1 := Scalar.cmpi .ne v488 c0_i32_339
  let v493 : BitVec 1 := Scalar.andi v492 v489
  let v494 : BitVec 32 := Scalar.addi v488 v487
  let v495 : BitVec 32 := Scalar.select v493 v494 v488
  let c1_i32_347 : BitVec 32 := 1#32
  let v500 : BitVec 32 := Scalar.muli v495 c1_i32_347
  let v501 : BitVec 32 := Scalar.addi c0_i32_348 v500
  v501.toNat
def k0_dev36 (d0 : Dev nD) : Nat :=
  let c0_i32_365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_352 : BitVec 32 := 5#32
  let v509 : BitVec 32 := Scalar.addi v2 c5_i32_352
  let c32_i32_353 : BitVec 32 := 32#32
  let c0_i32_354 : BitVec 32 := 0#32
  let v510 : BitVec 1 := Scalar.cmpi .eq c32_i32_353 c0_i32_354
  let c1_i32_355 : BitVec 32 := 1#32
  let v511 : BitVec 32 := Scalar.select v510 c1_i32_355 c32_i32_353
  let v512 : BitVec 32 := Scalar.remsi v509 v511
  let c0_i32_357 : BitVec 32 := 0#32
  let v514 : BitVec 1 := Scalar.cmpi .slt v512 c0_i32_357
  let c0_i32_358 : BitVec 32 := 0#32
  let v515 : BitVec 1 := Scalar.cmpi .slt v511 c0_i32_358
  let v516 : BitVec 1 := Scalar.xori v514 v515
  let c0_i32_356 : BitVec 32 := 0#32
  let v513 : BitVec 1 := Scalar.cmpi .ne v512 c0_i32_356
  let v517 : BitVec 1 := Scalar.andi v516 v513
  let v518 : BitVec 32 := Scalar.addi v512 v511
  let v519 : BitVec 32 := Scalar.select v517 v518 v512
  let c1_i32_364 : BitVec 32 := 1#32
  let v524 : BitVec 32 := Scalar.muli v519 c1_i32_364
  let v525 : BitVec 32 := Scalar.addi c0_i32_365 v524
  v525.toNat
def k0_dev37 (d0 : Dev nD) : Nat :=
  let c0_i32_382 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_369 : BitVec 32 := 6#32
  let v533 : BitVec 32 := Scalar.addi v2 c6_i32_369
  let c32_i32_370 : BitVec 32 := 32#32
  let c0_i32_371 : BitVec 32 := 0#32
  let v534 : BitVec 1 := Scalar.cmpi .eq c32_i32_370 c0_i32_371
  let c1_i32_372 : BitVec 32 := 1#32
  let v535 : BitVec 32 := Scalar.select v534 c1_i32_372 c32_i32_370
  let v536 : BitVec 32 := Scalar.remsi v533 v535
  let c0_i32_374 : BitVec 32 := 0#32
  let v538 : BitVec 1 := Scalar.cmpi .slt v536 c0_i32_374
  let c0_i32_375 : BitVec 32 := 0#32
  let v539 : BitVec 1 := Scalar.cmpi .slt v535 c0_i32_375
  let v540 : BitVec 1 := Scalar.xori v538 v539
  let c0_i32_373 : BitVec 32 := 0#32
  let v537 : BitVec 1 := Scalar.cmpi .ne v536 c0_i32_373
  let v541 : BitVec 1 := Scalar.andi v540 v537
  let v542 : BitVec 32 := Scalar.addi v536 v535
  let v543 : BitVec 32 := Scalar.select v541 v542 v536
  let c1_i32_381 : BitVec 32 := 1#32
  let v548 : BitVec 32 := Scalar.muli v543 c1_i32_381
  let v549 : BitVec 32 := Scalar.addi c0_i32_382 v548
  v549.toNat
def k0_dev38 (d0 : Dev nD) : Nat :=
  let c0_i32_399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_386 : BitVec 32 := 7#32
  let v557 : BitVec 32 := Scalar.addi v2 c7_i32_386
  let c32_i32_387 : BitVec 32 := 32#32
  let c0_i32_388 : BitVec 32 := 0#32
  let v558 : BitVec 1 := Scalar.cmpi .eq c32_i32_387 c0_i32_388
  let c1_i32_389 : BitVec 32 := 1#32
  let v559 : BitVec 32 := Scalar.select v558 c1_i32_389 c32_i32_387
  let v560 : BitVec 32 := Scalar.remsi v557 v559
  let c0_i32_391 : BitVec 32 := 0#32
  let v562 : BitVec 1 := Scalar.cmpi .slt v560 c0_i32_391
  let c0_i32_392 : BitVec 32 := 0#32
  let v563 : BitVec 1 := Scalar.cmpi .slt v559 c0_i32_392
  let v564 : BitVec 1 := Scalar.xori v562 v563
  let c0_i32_390 : BitVec 32 := 0#32
  let v561 : BitVec 1 := Scalar.cmpi .ne v560 c0_i32_390
  let v565 : BitVec 1 := Scalar.andi v564 v561
  let v566 : BitVec 32 := Scalar.addi v560 v559
  let v567 : BitVec 32 := Scalar.select v565 v566 v560
  let c1_i32_398 : BitVec 32 := 1#32
  let v572 : BitVec 32 := Scalar.muli v567 c1_i32_398
  let v573 : BitVec 32 := Scalar.addi c0_i32_399 v572
  v573.toNat
def k0_dev39 (d0 : Dev nD) : Nat :=
  let c0_i32_416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_403 : BitVec 32 := 8#32
  let v581 : BitVec 32 := Scalar.addi v2 c8_i32_403
  let c32_i32_404 : BitVec 32 := 32#32
  let c0_i32_405 : BitVec 32 := 0#32
  let v582 : BitVec 1 := Scalar.cmpi .eq c32_i32_404 c0_i32_405
  let c1_i32_406 : BitVec 32 := 1#32
  let v583 : BitVec 32 := Scalar.select v582 c1_i32_406 c32_i32_404
  let v584 : BitVec 32 := Scalar.remsi v581 v583
  let c0_i32_408 : BitVec 32 := 0#32
  let v586 : BitVec 1 := Scalar.cmpi .slt v584 c0_i32_408
  let c0_i32_409 : BitVec 32 := 0#32
  let v587 : BitVec 1 := Scalar.cmpi .slt v583 c0_i32_409
  let v588 : BitVec 1 := Scalar.xori v586 v587
  let c0_i32_407 : BitVec 32 := 0#32
  let v585 : BitVec 1 := Scalar.cmpi .ne v584 c0_i32_407
  let v589 : BitVec 1 := Scalar.andi v588 v585
  let v590 : BitVec 32 := Scalar.addi v584 v583
  let v591 : BitVec 32 := Scalar.select v589 v590 v584
  let c1_i32_415 : BitVec 32 := 1#32
  let v596 : BitVec 32 := Scalar.muli v591 c1_i32_415
  let v597 : BitVec 32 := Scalar.addi c0_i32_416 v596
  v597.toNat
def k0_dev40 (d0 : Dev nD) : Nat :=
  let c0_i32_433 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_420 : BitVec 32 := 9#32
  let v605 : BitVec 32 := Scalar.addi v2 c9_i32_420
  let c32_i32_421 : BitVec 32 := 32#32
  let c0_i32_422 : BitVec 32 := 0#32
  let v606 : BitVec 1 := Scalar.cmpi .eq c32_i32_421 c0_i32_422
  let c1_i32_423 : BitVec 32 := 1#32
  let v607 : BitVec 32 := Scalar.select v606 c1_i32_423 c32_i32_421
  let v608 : BitVec 32 := Scalar.remsi v605 v607
  let c0_i32_425 : BitVec 32 := 0#32
  let v610 : BitVec 1 := Scalar.cmpi .slt v608 c0_i32_425
  let c0_i32_426 : BitVec 32 := 0#32
  let v611 : BitVec 1 := Scalar.cmpi .slt v607 c0_i32_426
  let v612 : BitVec 1 := Scalar.xori v610 v611
  let c0_i32_424 : BitVec 32 := 0#32
  let v609 : BitVec 1 := Scalar.cmpi .ne v608 c0_i32_424
  let v613 : BitVec 1 := Scalar.andi v612 v609
  let v614 : BitVec 32 := Scalar.addi v608 v607
  let v615 : BitVec 32 := Scalar.select v613 v614 v608
  let c1_i32_432 : BitVec 32 := 1#32
  let v620 : BitVec 32 := Scalar.muli v615 c1_i32_432
  let v621 : BitVec 32 := Scalar.addi c0_i32_433 v620
  v621.toNat
def k0_dev41 (d0 : Dev nD) : Nat :=
  let c0_i32_450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_437 : BitVec 32 := 10#32
  let v629 : BitVec 32 := Scalar.addi v2 c10_i32_437
  let c32_i32_438 : BitVec 32 := 32#32
  let c0_i32_439 : BitVec 32 := 0#32
  let v630 : BitVec 1 := Scalar.cmpi .eq c32_i32_438 c0_i32_439
  let c1_i32_440 : BitVec 32 := 1#32
  let v631 : BitVec 32 := Scalar.select v630 c1_i32_440 c32_i32_438
  let v632 : BitVec 32 := Scalar.remsi v629 v631
  let c0_i32_442 : BitVec 32 := 0#32
  let v634 : BitVec 1 := Scalar.cmpi .slt v632 c0_i32_442
  let c0_i32_443 : BitVec 32 := 0#32
  let v635 : BitVec 1 := Scalar.cmpi .slt v631 c0_i32_443
  let v636 : BitVec 1 := Scalar.xori v634 v635
  let c0_i32_441 : BitVec 32 := 0#32
  let v633 : BitVec 1 := Scalar.cmpi .ne v632 c0_i32_441
  let v637 : BitVec 1 := Scalar.andi v636 v633
  let v638 : BitVec 32 := Scalar.addi v632 v631
  let v639 : BitVec 32 := Scalar.select v637 v638 v632
  let c1_i32_449 : BitVec 32 := 1#32
  let v644 : BitVec 32 := Scalar.muli v639 c1_i32_449
  let v645 : BitVec 32 := Scalar.addi c0_i32_450 v644
  v645.toNat
def k0_dev42 (d0 : Dev nD) : Nat :=
  let c0_i32_467 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_454 : BitVec 32 := 11#32
  let v653 : BitVec 32 := Scalar.addi v2 c11_i32_454
  let c32_i32_455 : BitVec 32 := 32#32
  let c0_i32_456 : BitVec 32 := 0#32
  let v654 : BitVec 1 := Scalar.cmpi .eq c32_i32_455 c0_i32_456
  let c1_i32_457 : BitVec 32 := 1#32
  let v655 : BitVec 32 := Scalar.select v654 c1_i32_457 c32_i32_455
  let v656 : BitVec 32 := Scalar.remsi v653 v655
  let c0_i32_459 : BitVec 32 := 0#32
  let v658 : BitVec 1 := Scalar.cmpi .slt v656 c0_i32_459
  let c0_i32_460 : BitVec 32 := 0#32
  let v659 : BitVec 1 := Scalar.cmpi .slt v655 c0_i32_460
  let v660 : BitVec 1 := Scalar.xori v658 v659
  let c0_i32_458 : BitVec 32 := 0#32
  let v657 : BitVec 1 := Scalar.cmpi .ne v656 c0_i32_458
  let v661 : BitVec 1 := Scalar.andi v660 v657
  let v662 : BitVec 32 := Scalar.addi v656 v655
  let v663 : BitVec 32 := Scalar.select v661 v662 v656
  let c1_i32_466 : BitVec 32 := 1#32
  let v668 : BitVec 32 := Scalar.muli v663 c1_i32_466
  let v669 : BitVec 32 := Scalar.addi c0_i32_467 v668
  v669.toNat
def k0_dev43 (d0 : Dev nD) : Nat :=
  let c0_i32_484 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_471 : BitVec 32 := 12#32
  let v677 : BitVec 32 := Scalar.addi v2 c12_i32_471
  let c32_i32_472 : BitVec 32 := 32#32
  let c0_i32_473 : BitVec 32 := 0#32
  let v678 : BitVec 1 := Scalar.cmpi .eq c32_i32_472 c0_i32_473
  let c1_i32_474 : BitVec 32 := 1#32
  let v679 : BitVec 32 := Scalar.select v678 c1_i32_474 c32_i32_472
  let v680 : BitVec 32 := Scalar.remsi v677 v679
  let c0_i32_476 : BitVec 32 := 0#32
  let v682 : BitVec 1 := Scalar.cmpi .slt v680 c0_i32_476
  let c0_i32_477 : BitVec 32 := 0#32
  let v683 : BitVec 1 := Scalar.cmpi .slt v679 c0_i32_477
  let v684 : BitVec 1 := Scalar.xori v682 v683
  let c0_i32_475 : BitVec 32 := 0#32
  let v681 : BitVec 1 := Scalar.cmpi .ne v680 c0_i32_475
  let v685 : BitVec 1 := Scalar.andi v684 v681
  let v686 : BitVec 32 := Scalar.addi v680 v679
  let v687 : BitVec 32 := Scalar.select v685 v686 v680
  let c1_i32_483 : BitVec 32 := 1#32
  let v692 : BitVec 32 := Scalar.muli v687 c1_i32_483
  let v693 : BitVec 32 := Scalar.addi c0_i32_484 v692
  v693.toNat
def k0_dev44 (d0 : Dev nD) : Nat :=
  let c0_i32_501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_488 : BitVec 32 := 13#32
  let v701 : BitVec 32 := Scalar.addi v2 c13_i32_488
  let c32_i32_489 : BitVec 32 := 32#32
  let c0_i32_490 : BitVec 32 := 0#32
  let v702 : BitVec 1 := Scalar.cmpi .eq c32_i32_489 c0_i32_490
  let c1_i32_491 : BitVec 32 := 1#32
  let v703 : BitVec 32 := Scalar.select v702 c1_i32_491 c32_i32_489
  let v704 : BitVec 32 := Scalar.remsi v701 v703
  let c0_i32_493 : BitVec 32 := 0#32
  let v706 : BitVec 1 := Scalar.cmpi .slt v704 c0_i32_493
  let c0_i32_494 : BitVec 32 := 0#32
  let v707 : BitVec 1 := Scalar.cmpi .slt v703 c0_i32_494
  let v708 : BitVec 1 := Scalar.xori v706 v707
  let c0_i32_492 : BitVec 32 := 0#32
  let v705 : BitVec 1 := Scalar.cmpi .ne v704 c0_i32_492
  let v709 : BitVec 1 := Scalar.andi v708 v705
  let v710 : BitVec 32 := Scalar.addi v704 v703
  let v711 : BitVec 32 := Scalar.select v709 v710 v704
  let c1_i32_500 : BitVec 32 := 1#32
  let v716 : BitVec 32 := Scalar.muli v711 c1_i32_500
  let v717 : BitVec 32 := Scalar.addi c0_i32_501 v716
  v717.toNat
def k0_dev45 (d0 : Dev nD) : Nat :=
  let c0_i32_518 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_505 : BitVec 32 := 14#32
  let v725 : BitVec 32 := Scalar.addi v2 c14_i32_505
  let c32_i32_506 : BitVec 32 := 32#32
  let c0_i32_507 : BitVec 32 := 0#32
  let v726 : BitVec 1 := Scalar.cmpi .eq c32_i32_506 c0_i32_507
  let c1_i32_508 : BitVec 32 := 1#32
  let v727 : BitVec 32 := Scalar.select v726 c1_i32_508 c32_i32_506
  let v728 : BitVec 32 := Scalar.remsi v725 v727
  let c0_i32_510 : BitVec 32 := 0#32
  let v730 : BitVec 1 := Scalar.cmpi .slt v728 c0_i32_510
  let c0_i32_511 : BitVec 32 := 0#32
  let v731 : BitVec 1 := Scalar.cmpi .slt v727 c0_i32_511
  let v732 : BitVec 1 := Scalar.xori v730 v731
  let c0_i32_509 : BitVec 32 := 0#32
  let v729 : BitVec 1 := Scalar.cmpi .ne v728 c0_i32_509
  let v733 : BitVec 1 := Scalar.andi v732 v729
  let v734 : BitVec 32 := Scalar.addi v728 v727
  let v735 : BitVec 32 := Scalar.select v733 v734 v728
  let c1_i32_517 : BitVec 32 := 1#32
  let v740 : BitVec 32 := Scalar.muli v735 c1_i32_517
  let v741 : BitVec 32 := Scalar.addi c0_i32_518 v740
  v741.toNat
def k0_dev46 (d0 : Dev nD) : Nat :=
  let c0_i32_535 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_522 : BitVec 32 := 15#32
  let v749 : BitVec 32 := Scalar.addi v2 c15_i32_522
  let c32_i32_523 : BitVec 32 := 32#32
  let c0_i32_524 : BitVec 32 := 0#32
  let v750 : BitVec 1 := Scalar.cmpi .eq c32_i32_523 c0_i32_524
  let c1_i32_525 : BitVec 32 := 1#32
  let v751 : BitVec 32 := Scalar.select v750 c1_i32_525 c32_i32_523
  let v752 : BitVec 32 := Scalar.remsi v749 v751
  let c0_i32_527 : BitVec 32 := 0#32
  let v754 : BitVec 1 := Scalar.cmpi .slt v752 c0_i32_527
  let c0_i32_528 : BitVec 32 := 0#32
  let v755 : BitVec 1 := Scalar.cmpi .slt v751 c0_i32_528
  let v756 : BitVec 1 := Scalar.xori v754 v755
  let c0_i32_526 : BitVec 32 := 0#32
  let v753 : BitVec 1 := Scalar.cmpi .ne v752 c0_i32_526
  let v757 : BitVec 1 := Scalar.andi v756 v753
  let v758 : BitVec 32 := Scalar.addi v752 v751
  let v759 : BitVec 32 := Scalar.select v757 v758 v752
  let c1_i32_534 : BitVec 32 := 1#32
  let v764 : BitVec 32 := Scalar.muli v759 c1_i32_534
  let v765 : BitVec 32 := Scalar.addi c0_i32_535 v764
  v765.toNat
def k0_dev47 (d0 : Dev nD) : Nat :=
  let c0_i32_552 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_539 : BitVec 32 := 16#32
  let v773 : BitVec 32 := Scalar.addi v2 c16_i32_539
  let c32_i32_540 : BitVec 32 := 32#32
  let c0_i32_541 : BitVec 32 := 0#32
  let v774 : BitVec 1 := Scalar.cmpi .eq c32_i32_540 c0_i32_541
  let c1_i32_542 : BitVec 32 := 1#32
  let v775 : BitVec 32 := Scalar.select v774 c1_i32_542 c32_i32_540
  let v776 : BitVec 32 := Scalar.remsi v773 v775
  let c0_i32_544 : BitVec 32 := 0#32
  let v778 : BitVec 1 := Scalar.cmpi .slt v776 c0_i32_544
  let c0_i32_545 : BitVec 32 := 0#32
  let v779 : BitVec 1 := Scalar.cmpi .slt v775 c0_i32_545
  let v780 : BitVec 1 := Scalar.xori v778 v779
  let c0_i32_543 : BitVec 32 := 0#32
  let v777 : BitVec 1 := Scalar.cmpi .ne v776 c0_i32_543
  let v781 : BitVec 1 := Scalar.andi v780 v777
  let v782 : BitVec 32 := Scalar.addi v776 v775
  let v783 : BitVec 32 := Scalar.select v781 v782 v776
  let c1_i32_551 : BitVec 32 := 1#32
  let v788 : BitVec 32 := Scalar.muli v783 c1_i32_551
  let v789 : BitVec 32 := Scalar.addi c0_i32_552 v788
  v789.toNat
def k0_dev48 (d0 : Dev nD) : Nat :=
  let c0_i32_569 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_556 : BitVec 32 := 17#32
  let v797 : BitVec 32 := Scalar.addi v2 c17_i32_556
  let c32_i32_557 : BitVec 32 := 32#32
  let c0_i32_558 : BitVec 32 := 0#32
  let v798 : BitVec 1 := Scalar.cmpi .eq c32_i32_557 c0_i32_558
  let c1_i32_559 : BitVec 32 := 1#32
  let v799 : BitVec 32 := Scalar.select v798 c1_i32_559 c32_i32_557
  let v800 : BitVec 32 := Scalar.remsi v797 v799
  let c0_i32_561 : BitVec 32 := 0#32
  let v802 : BitVec 1 := Scalar.cmpi .slt v800 c0_i32_561
  let c0_i32_562 : BitVec 32 := 0#32
  let v803 : BitVec 1 := Scalar.cmpi .slt v799 c0_i32_562
  let v804 : BitVec 1 := Scalar.xori v802 v803
  let c0_i32_560 : BitVec 32 := 0#32
  let v801 : BitVec 1 := Scalar.cmpi .ne v800 c0_i32_560
  let v805 : BitVec 1 := Scalar.andi v804 v801
  let v806 : BitVec 32 := Scalar.addi v800 v799
  let v807 : BitVec 32 := Scalar.select v805 v806 v800
  let c1_i32_568 : BitVec 32 := 1#32
  let v812 : BitVec 32 := Scalar.muli v807 c1_i32_568
  let v813 : BitVec 32 := Scalar.addi c0_i32_569 v812
  v813.toNat
def k0_dev49 (d0 : Dev nD) : Nat :=
  let c0_i32_586 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_573 : BitVec 32 := 18#32
  let v821 : BitVec 32 := Scalar.addi v2 c18_i32_573
  let c32_i32_574 : BitVec 32 := 32#32
  let c0_i32_575 : BitVec 32 := 0#32
  let v822 : BitVec 1 := Scalar.cmpi .eq c32_i32_574 c0_i32_575
  let c1_i32_576 : BitVec 32 := 1#32
  let v823 : BitVec 32 := Scalar.select v822 c1_i32_576 c32_i32_574
  let v824 : BitVec 32 := Scalar.remsi v821 v823
  let c0_i32_578 : BitVec 32 := 0#32
  let v826 : BitVec 1 := Scalar.cmpi .slt v824 c0_i32_578
  let c0_i32_579 : BitVec 32 := 0#32
  let v827 : BitVec 1 := Scalar.cmpi .slt v823 c0_i32_579
  let v828 : BitVec 1 := Scalar.xori v826 v827
  let c0_i32_577 : BitVec 32 := 0#32
  let v825 : BitVec 1 := Scalar.cmpi .ne v824 c0_i32_577
  let v829 : BitVec 1 := Scalar.andi v828 v825
  let v830 : BitVec 32 := Scalar.addi v824 v823
  let v831 : BitVec 32 := Scalar.select v829 v830 v824
  let c1_i32_585 : BitVec 32 := 1#32
  let v836 : BitVec 32 := Scalar.muli v831 c1_i32_585
  let v837 : BitVec 32 := Scalar.addi c0_i32_586 v836
  v837.toNat
def k0_dev50 (d0 : Dev nD) : Nat :=
  let c0_i32_603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_590 : BitVec 32 := 19#32
  let v845 : BitVec 32 := Scalar.addi v2 c19_i32_590
  let c32_i32_591 : BitVec 32 := 32#32
  let c0_i32_592 : BitVec 32 := 0#32
  let v846 : BitVec 1 := Scalar.cmpi .eq c32_i32_591 c0_i32_592
  let c1_i32_593 : BitVec 32 := 1#32
  let v847 : BitVec 32 := Scalar.select v846 c1_i32_593 c32_i32_591
  let v848 : BitVec 32 := Scalar.remsi v845 v847
  let c0_i32_595 : BitVec 32 := 0#32
  let v850 : BitVec 1 := Scalar.cmpi .slt v848 c0_i32_595
  let c0_i32_596 : BitVec 32 := 0#32
  let v851 : BitVec 1 := Scalar.cmpi .slt v847 c0_i32_596
  let v852 : BitVec 1 := Scalar.xori v850 v851
  let c0_i32_594 : BitVec 32 := 0#32
  let v849 : BitVec 1 := Scalar.cmpi .ne v848 c0_i32_594
  let v853 : BitVec 1 := Scalar.andi v852 v849
  let v854 : BitVec 32 := Scalar.addi v848 v847
  let v855 : BitVec 32 := Scalar.select v853 v854 v848
  let c1_i32_602 : BitVec 32 := 1#32
  let v860 : BitVec 32 := Scalar.muli v855 c1_i32_602
  let v861 : BitVec 32 := Scalar.addi c0_i32_603 v860
  v861.toNat
def k0_dev51 (d0 : Dev nD) : Nat :=
  let c0_i32_620 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_607 : BitVec 32 := 20#32
  let v869 : BitVec 32 := Scalar.addi v2 c20_i32_607
  let c32_i32_608 : BitVec 32 := 32#32
  let c0_i32_609 : BitVec 32 := 0#32
  let v870 : BitVec 1 := Scalar.cmpi .eq c32_i32_608 c0_i32_609
  let c1_i32_610 : BitVec 32 := 1#32
  let v871 : BitVec 32 := Scalar.select v870 c1_i32_610 c32_i32_608
  let v872 : BitVec 32 := Scalar.remsi v869 v871
  let c0_i32_612 : BitVec 32 := 0#32
  let v874 : BitVec 1 := Scalar.cmpi .slt v872 c0_i32_612
  let c0_i32_613 : BitVec 32 := 0#32
  let v875 : BitVec 1 := Scalar.cmpi .slt v871 c0_i32_613
  let v876 : BitVec 1 := Scalar.xori v874 v875
  let c0_i32_611 : BitVec 32 := 0#32
  let v873 : BitVec 1 := Scalar.cmpi .ne v872 c0_i32_611
  let v877 : BitVec 1 := Scalar.andi v876 v873
  let v878 : BitVec 32 := Scalar.addi v872 v871
  let v879 : BitVec 32 := Scalar.select v877 v878 v872
  let c1_i32_619 : BitVec 32 := 1#32
  let v884 : BitVec 32 := Scalar.muli v879 c1_i32_619
  let v885 : BitVec 32 := Scalar.addi c0_i32_620 v884
  v885.toNat
def k0_dev52 (d0 : Dev nD) : Nat :=
  let c0_i32_637 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_624 : BitVec 32 := 21#32
  let v893 : BitVec 32 := Scalar.addi v2 c21_i32_624
  let c32_i32_625 : BitVec 32 := 32#32
  let c0_i32_626 : BitVec 32 := 0#32
  let v894 : BitVec 1 := Scalar.cmpi .eq c32_i32_625 c0_i32_626
  let c1_i32_627 : BitVec 32 := 1#32
  let v895 : BitVec 32 := Scalar.select v894 c1_i32_627 c32_i32_625
  let v896 : BitVec 32 := Scalar.remsi v893 v895
  let c0_i32_629 : BitVec 32 := 0#32
  let v898 : BitVec 1 := Scalar.cmpi .slt v896 c0_i32_629
  let c0_i32_630 : BitVec 32 := 0#32
  let v899 : BitVec 1 := Scalar.cmpi .slt v895 c0_i32_630
  let v900 : BitVec 1 := Scalar.xori v898 v899
  let c0_i32_628 : BitVec 32 := 0#32
  let v897 : BitVec 1 := Scalar.cmpi .ne v896 c0_i32_628
  let v901 : BitVec 1 := Scalar.andi v900 v897
  let v902 : BitVec 32 := Scalar.addi v896 v895
  let v903 : BitVec 32 := Scalar.select v901 v902 v896
  let c1_i32_636 : BitVec 32 := 1#32
  let v908 : BitVec 32 := Scalar.muli v903 c1_i32_636
  let v909 : BitVec 32 := Scalar.addi c0_i32_637 v908
  v909.toNat
def k0_dev53 (d0 : Dev nD) : Nat :=
  let c0_i32_654 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_641 : BitVec 32 := 22#32
  let v917 : BitVec 32 := Scalar.addi v2 c22_i32_641
  let c32_i32_642 : BitVec 32 := 32#32
  let c0_i32_643 : BitVec 32 := 0#32
  let v918 : BitVec 1 := Scalar.cmpi .eq c32_i32_642 c0_i32_643
  let c1_i32_644 : BitVec 32 := 1#32
  let v919 : BitVec 32 := Scalar.select v918 c1_i32_644 c32_i32_642
  let v920 : BitVec 32 := Scalar.remsi v917 v919
  let c0_i32_646 : BitVec 32 := 0#32
  let v922 : BitVec 1 := Scalar.cmpi .slt v920 c0_i32_646
  let c0_i32_647 : BitVec 32 := 0#32
  let v923 : BitVec 1 := Scalar.cmpi .slt v919 c0_i32_647
  let v924 : BitVec 1 := Scalar.xori v922 v923
  let c0_i32_645 : BitVec 32 := 0#32
  let v921 : BitVec 1 := Scalar.cmpi .ne v920 c0_i32_645
  let v925 : BitVec 1 := Scalar.andi v924 v921
  let v926 : BitVec 32 := Scalar.addi v920 v919
  let v927 : BitVec 32 := Scalar.select v925 v926 v920
  let c1_i32_653 : BitVec 32 := 1#32
  let v932 : BitVec 32 := Scalar.muli v927 c1_i32_653
  let v933 : BitVec 32 := Scalar.addi c0_i32_654 v932
  v933.toNat
def k0_dev54 (d0 : Dev nD) : Nat :=
  let c0_i32_671 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_658 : BitVec 32 := 23#32
  let v941 : BitVec 32 := Scalar.addi v2 c23_i32_658
  let c32_i32_659 : BitVec 32 := 32#32
  let c0_i32_660 : BitVec 32 := 0#32
  let v942 : BitVec 1 := Scalar.cmpi .eq c32_i32_659 c0_i32_660
  let c1_i32_661 : BitVec 32 := 1#32
  let v943 : BitVec 32 := Scalar.select v942 c1_i32_661 c32_i32_659
  let v944 : BitVec 32 := Scalar.remsi v941 v943
  let c0_i32_663 : BitVec 32 := 0#32
  let v946 : BitVec 1 := Scalar.cmpi .slt v944 c0_i32_663
  let c0_i32_664 : BitVec 32 := 0#32
  let v947 : BitVec 1 := Scalar.cmpi .slt v943 c0_i32_664
  let v948 : BitVec 1 := Scalar.xori v946 v947
  let c0_i32_662 : BitVec 32 := 0#32
  let v945 : BitVec 1 := Scalar.cmpi .ne v944 c0_i32_662
  let v949 : BitVec 1 := Scalar.andi v948 v945
  let v950 : BitVec 32 := Scalar.addi v944 v943
  let v951 : BitVec 32 := Scalar.select v949 v950 v944
  let c1_i32_670 : BitVec 32 := 1#32
  let v956 : BitVec 32 := Scalar.muli v951 c1_i32_670
  let v957 : BitVec 32 := Scalar.addi c0_i32_671 v956
  v957.toNat
def k0_dev55 (d0 : Dev nD) : Nat :=
  let c0_i32_688 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_675 : BitVec 32 := 24#32
  let v965 : BitVec 32 := Scalar.addi v2 c24_i32_675
  let c32_i32_676 : BitVec 32 := 32#32
  let c0_i32_677 : BitVec 32 := 0#32
  let v966 : BitVec 1 := Scalar.cmpi .eq c32_i32_676 c0_i32_677
  let c1_i32_678 : BitVec 32 := 1#32
  let v967 : BitVec 32 := Scalar.select v966 c1_i32_678 c32_i32_676
  let v968 : BitVec 32 := Scalar.remsi v965 v967
  let c0_i32_680 : BitVec 32 := 0#32
  let v970 : BitVec 1 := Scalar.cmpi .slt v968 c0_i32_680
  let c0_i32_681 : BitVec 32 := 0#32
  let v971 : BitVec 1 := Scalar.cmpi .slt v967 c0_i32_681
  let v972 : BitVec 1 := Scalar.xori v970 v971
  let c0_i32_679 : BitVec 32 := 0#32
  let v969 : BitVec 1 := Scalar.cmpi .ne v968 c0_i32_679
  let v973 : BitVec 1 := Scalar.andi v972 v969
  let v974 : BitVec 32 := Scalar.addi v968 v967
  let v975 : BitVec 32 := Scalar.select v973 v974 v968
  let c1_i32_687 : BitVec 32 := 1#32
  let v980 : BitVec 32 := Scalar.muli v975 c1_i32_687
  let v981 : BitVec 32 := Scalar.addi c0_i32_688 v980
  v981.toNat
def k0_dev56 (d0 : Dev nD) : Nat :=
  let c0_i32_705 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_692 : BitVec 32 := 25#32
  let v989 : BitVec 32 := Scalar.addi v2 c25_i32_692
  let c32_i32_693 : BitVec 32 := 32#32
  let c0_i32_694 : BitVec 32 := 0#32
  let v990 : BitVec 1 := Scalar.cmpi .eq c32_i32_693 c0_i32_694
  let c1_i32_695 : BitVec 32 := 1#32
  let v991 : BitVec 32 := Scalar.select v990 c1_i32_695 c32_i32_693
  let v992 : BitVec 32 := Scalar.remsi v989 v991
  let c0_i32_697 : BitVec 32 := 0#32
  let v994 : BitVec 1 := Scalar.cmpi .slt v992 c0_i32_697
  let c0_i32_698 : BitVec 32 := 0#32
  let v995 : BitVec 1 := Scalar.cmpi .slt v991 c0_i32_698
  let v996 : BitVec 1 := Scalar.xori v994 v995
  let c0_i32_696 : BitVec 32 := 0#32
  let v993 : BitVec 1 := Scalar.cmpi .ne v992 c0_i32_696
  let v997 : BitVec 1 := Scalar.andi v996 v993
  let v998 : BitVec 32 := Scalar.addi v992 v991
  let v999 : BitVec 32 := Scalar.select v997 v998 v992
  let c1_i32_704 : BitVec 32 := 1#32
  let v1004 : BitVec 32 := Scalar.muli v999 c1_i32_704
  let v1005 : BitVec 32 := Scalar.addi c0_i32_705 v1004
  v1005.toNat
def k0_dev57 (d0 : Dev nD) : Nat :=
  let c0_i32_722 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_709 : BitVec 32 := 26#32
  let v1013 : BitVec 32 := Scalar.addi v2 c26_i32_709
  let c32_i32_710 : BitVec 32 := 32#32
  let c0_i32_711 : BitVec 32 := 0#32
  let v1014 : BitVec 1 := Scalar.cmpi .eq c32_i32_710 c0_i32_711
  let c1_i32_712 : BitVec 32 := 1#32
  let v1015 : BitVec 32 := Scalar.select v1014 c1_i32_712 c32_i32_710
  let v1016 : BitVec 32 := Scalar.remsi v1013 v1015
  let c0_i32_714 : BitVec 32 := 0#32
  let v1018 : BitVec 1 := Scalar.cmpi .slt v1016 c0_i32_714
  let c0_i32_715 : BitVec 32 := 0#32
  let v1019 : BitVec 1 := Scalar.cmpi .slt v1015 c0_i32_715
  let v1020 : BitVec 1 := Scalar.xori v1018 v1019
  let c0_i32_713 : BitVec 32 := 0#32
  let v1017 : BitVec 1 := Scalar.cmpi .ne v1016 c0_i32_713
  let v1021 : BitVec 1 := Scalar.andi v1020 v1017
  let v1022 : BitVec 32 := Scalar.addi v1016 v1015
  let v1023 : BitVec 32 := Scalar.select v1021 v1022 v1016
  let c1_i32_721 : BitVec 32 := 1#32
  let v1028 : BitVec 32 := Scalar.muli v1023 c1_i32_721
  let v1029 : BitVec 32 := Scalar.addi c0_i32_722 v1028
  v1029.toNat
def k0_dev58 (d0 : Dev nD) : Nat :=
  let c0_i32_739 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_726 : BitVec 32 := 27#32
  let v1037 : BitVec 32 := Scalar.addi v2 c27_i32_726
  let c32_i32_727 : BitVec 32 := 32#32
  let c0_i32_728 : BitVec 32 := 0#32
  let v1038 : BitVec 1 := Scalar.cmpi .eq c32_i32_727 c0_i32_728
  let c1_i32_729 : BitVec 32 := 1#32
  let v1039 : BitVec 32 := Scalar.select v1038 c1_i32_729 c32_i32_727
  let v1040 : BitVec 32 := Scalar.remsi v1037 v1039
  let c0_i32_731 : BitVec 32 := 0#32
  let v1042 : BitVec 1 := Scalar.cmpi .slt v1040 c0_i32_731
  let c0_i32_732 : BitVec 32 := 0#32
  let v1043 : BitVec 1 := Scalar.cmpi .slt v1039 c0_i32_732
  let v1044 : BitVec 1 := Scalar.xori v1042 v1043
  let c0_i32_730 : BitVec 32 := 0#32
  let v1041 : BitVec 1 := Scalar.cmpi .ne v1040 c0_i32_730
  let v1045 : BitVec 1 := Scalar.andi v1044 v1041
  let v1046 : BitVec 32 := Scalar.addi v1040 v1039
  let v1047 : BitVec 32 := Scalar.select v1045 v1046 v1040
  let c1_i32_738 : BitVec 32 := 1#32
  let v1052 : BitVec 32 := Scalar.muli v1047 c1_i32_738
  let v1053 : BitVec 32 := Scalar.addi c0_i32_739 v1052
  v1053.toNat
def k0_dev59 (d0 : Dev nD) : Nat :=
  let c0_i32_756 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_743 : BitVec 32 := 28#32
  let v1061 : BitVec 32 := Scalar.addi v2 c28_i32_743
  let c32_i32_744 : BitVec 32 := 32#32
  let c0_i32_745 : BitVec 32 := 0#32
  let v1062 : BitVec 1 := Scalar.cmpi .eq c32_i32_744 c0_i32_745
  let c1_i32_746 : BitVec 32 := 1#32
  let v1063 : BitVec 32 := Scalar.select v1062 c1_i32_746 c32_i32_744
  let v1064 : BitVec 32 := Scalar.remsi v1061 v1063
  let c0_i32_748 : BitVec 32 := 0#32
  let v1066 : BitVec 1 := Scalar.cmpi .slt v1064 c0_i32_748
  let c0_i32_749 : BitVec 32 := 0#32
  let v1067 : BitVec 1 := Scalar.cmpi .slt v1063 c0_i32_749
  let v1068 : BitVec 1 := Scalar.xori v1066 v1067
  let c0_i32_747 : BitVec 32 := 0#32
  let v1065 : BitVec 1 := Scalar.cmpi .ne v1064 c0_i32_747
  let v1069 : BitVec 1 := Scalar.andi v1068 v1065
  let v1070 : BitVec 32 := Scalar.addi v1064 v1063
  let v1071 : BitVec 32 := Scalar.select v1069 v1070 v1064
  let c1_i32_755 : BitVec 32 := 1#32
  let v1076 : BitVec 32 := Scalar.muli v1071 c1_i32_755
  let v1077 : BitVec 32 := Scalar.addi c0_i32_756 v1076
  v1077.toNat
def k0_dev60 (d0 : Dev nD) : Nat :=
  let c0_i32_773 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_760 : BitVec 32 := 29#32
  let v1085 : BitVec 32 := Scalar.addi v2 c29_i32_760
  let c32_i32_761 : BitVec 32 := 32#32
  let c0_i32_762 : BitVec 32 := 0#32
  let v1086 : BitVec 1 := Scalar.cmpi .eq c32_i32_761 c0_i32_762
  let c1_i32_763 : BitVec 32 := 1#32
  let v1087 : BitVec 32 := Scalar.select v1086 c1_i32_763 c32_i32_761
  let v1088 : BitVec 32 := Scalar.remsi v1085 v1087
  let c0_i32_765 : BitVec 32 := 0#32
  let v1090 : BitVec 1 := Scalar.cmpi .slt v1088 c0_i32_765
  let c0_i32_766 : BitVec 32 := 0#32
  let v1091 : BitVec 1 := Scalar.cmpi .slt v1087 c0_i32_766
  let v1092 : BitVec 1 := Scalar.xori v1090 v1091
  let c0_i32_764 : BitVec 32 := 0#32
  let v1089 : BitVec 1 := Scalar.cmpi .ne v1088 c0_i32_764
  let v1093 : BitVec 1 := Scalar.andi v1092 v1089
  let v1094 : BitVec 32 := Scalar.addi v1088 v1087
  let v1095 : BitVec 32 := Scalar.select v1093 v1094 v1088
  let c1_i32_772 : BitVec 32 := 1#32
  let v1100 : BitVec 32 := Scalar.muli v1095 c1_i32_772
  let v1101 : BitVec 32 := Scalar.addi c0_i32_773 v1100
  v1101.toNat
def k0_dev61 (d0 : Dev nD) : Nat :=
  let c0_i32_790 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_777 : BitVec 32 := 30#32
  let v1109 : BitVec 32 := Scalar.addi v2 c30_i32_777
  let c32_i32_778 : BitVec 32 := 32#32
  let c0_i32_779 : BitVec 32 := 0#32
  let v1110 : BitVec 1 := Scalar.cmpi .eq c32_i32_778 c0_i32_779
  let c1_i32_780 : BitVec 32 := 1#32
  let v1111 : BitVec 32 := Scalar.select v1110 c1_i32_780 c32_i32_778
  let v1112 : BitVec 32 := Scalar.remsi v1109 v1111
  let c0_i32_782 : BitVec 32 := 0#32
  let v1114 : BitVec 1 := Scalar.cmpi .slt v1112 c0_i32_782
  let c0_i32_783 : BitVec 32 := 0#32
  let v1115 : BitVec 1 := Scalar.cmpi .slt v1111 c0_i32_783
  let v1116 : BitVec 1 := Scalar.xori v1114 v1115
  let c0_i32_781 : BitVec 32 := 0#32
  let v1113 : BitVec 1 := Scalar.cmpi .ne v1112 c0_i32_781
  let v1117 : BitVec 1 := Scalar.andi v1116 v1113
  let v1118 : BitVec 32 := Scalar.addi v1112 v1111
  let v1119 : BitVec 32 := Scalar.select v1117 v1118 v1112
  let c1_i32_789 : BitVec 32 := 1#32
  let v1124 : BitVec 32 := Scalar.muli v1119 c1_i32_789
  let v1125 : BitVec 32 := Scalar.addi c0_i32_790 v1124
  v1125.toNat
def k0_dev62 (d0 : Dev nD) : Nat :=
  let c0_i32_807 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_794 : BitVec 32 := 31#32
  let v1133 : BitVec 32 := Scalar.addi v2 c31_i32_794
  let c32_i32_795 : BitVec 32 := 32#32
  let c0_i32_796 : BitVec 32 := 0#32
  let v1134 : BitVec 1 := Scalar.cmpi .eq c32_i32_795 c0_i32_796
  let c1_i32_797 : BitVec 32 := 1#32
  let v1135 : BitVec 32 := Scalar.select v1134 c1_i32_797 c32_i32_795
  let v1136 : BitVec 32 := Scalar.remsi v1133 v1135
  let c0_i32_799 : BitVec 32 := 0#32
  let v1138 : BitVec 1 := Scalar.cmpi .slt v1136 c0_i32_799
  let c0_i32_800 : BitVec 32 := 0#32
  let v1139 : BitVec 1 := Scalar.cmpi .slt v1135 c0_i32_800
  let v1140 : BitVec 1 := Scalar.xori v1138 v1139
  let c0_i32_798 : BitVec 32 := 0#32
  let v1137 : BitVec 1 := Scalar.cmpi .ne v1136 c0_i32_798
  let v1141 : BitVec 1 := Scalar.andi v1140 v1137
  let v1142 : BitVec 32 := Scalar.addi v1136 v1135
  let v1143 : BitVec 32 := Scalar.select v1141 v1142 v1136
  let c1_i32_806 : BitVec 32 := 1#32
  let v1148 : BitVec 32 := Scalar.muli v1143 c1_i32_806
  let v1149 : BitVec 32 := Scalar.addi c0_i32_807 v1148
  v1149.toNat
def k0_dev63 (d0 : Dev nD) : Nat :=
  let c0_i32_822 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_811 : BitVec 32 := 1#32
  let v1157 : BitVec 32 := Scalar.addi v2 c1_i32_811
  let c32_i32_812 : BitVec 32 := 32#32
  let c0_i32_813 : BitVec 32 := 0#32
  let v1158 : BitVec 1 := Scalar.cmpi .eq c32_i32_812 c0_i32_813
  let c1_i32_814 : BitVec 32 := 1#32
  let v1159 : BitVec 32 := Scalar.select v1158 c1_i32_814 c32_i32_812
  let v1160 : BitVec 32 := Scalar.remsi v1157 v1159
  let c0_i32_816 : BitVec 32 := 0#32
  let v1162 : BitVec 1 := Scalar.cmpi .slt v1160 c0_i32_816
  let c0_i32_817 : BitVec 32 := 0#32
  let v1163 : BitVec 1 := Scalar.cmpi .slt v1159 c0_i32_817
  let v1164 : BitVec 1 := Scalar.xori v1162 v1163
  let c0_i32_815 : BitVec 32 := 0#32
  let v1161 : BitVec 1 := Scalar.cmpi .ne v1160 c0_i32_815
  let v1165 : BitVec 1 := Scalar.andi v1164 v1161
  let v1166 : BitVec 32 := Scalar.addi v1160 v1159
  let v1167 : BitVec 32 := Scalar.select v1165 v1166 v1160
  let c1_i32_821 : BitVec 32 := 1#32
  let v1172 : BitVec 32 := Scalar.muli v1167 c1_i32_821
  let v1173 : BitVec 32 := Scalar.addi c0_i32_822 v1172
  v1173.toNat
def k0_dev64 (d0 : Dev nD) : Nat :=
  let c0_i32_838 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_826 : BitVec 32 := 2#32
  let v1181 : BitVec 32 := Scalar.addi v2 c2_i32_826
  let c32_i32_827 : BitVec 32 := 32#32
  let c0_i32_828 : BitVec 32 := 0#32
  let v1182 : BitVec 1 := Scalar.cmpi .eq c32_i32_827 c0_i32_828
  let c1_i32_829 : BitVec 32 := 1#32
  let v1183 : BitVec 32 := Scalar.select v1182 c1_i32_829 c32_i32_827
  let v1184 : BitVec 32 := Scalar.remsi v1181 v1183
  let c0_i32_831 : BitVec 32 := 0#32
  let v1186 : BitVec 1 := Scalar.cmpi .slt v1184 c0_i32_831
  let c0_i32_832 : BitVec 32 := 0#32
  let v1187 : BitVec 1 := Scalar.cmpi .slt v1183 c0_i32_832
  let v1188 : BitVec 1 := Scalar.xori v1186 v1187
  let c0_i32_830 : BitVec 32 := 0#32
  let v1185 : BitVec 1 := Scalar.cmpi .ne v1184 c0_i32_830
  let v1189 : BitVec 1 := Scalar.andi v1188 v1185
  let v1190 : BitVec 32 := Scalar.addi v1184 v1183
  let v1191 : BitVec 32 := Scalar.select v1189 v1190 v1184
  let c1_i32_837 : BitVec 32 := 1#32
  let v1196 : BitVec 32 := Scalar.muli v1191 c1_i32_837
  let v1197 : BitVec 32 := Scalar.addi c0_i32_838 v1196
  v1197.toNat
def k0_dev65 (d0 : Dev nD) : Nat :=
  let c0_i32_854 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_842 : BitVec 32 := 3#32
  let v1205 : BitVec 32 := Scalar.addi v2 c3_i32_842
  let c32_i32_843 : BitVec 32 := 32#32
  let c0_i32_844 : BitVec 32 := 0#32
  let v1206 : BitVec 1 := Scalar.cmpi .eq c32_i32_843 c0_i32_844
  let c1_i32_845 : BitVec 32 := 1#32
  let v1207 : BitVec 32 := Scalar.select v1206 c1_i32_845 c32_i32_843
  let v1208 : BitVec 32 := Scalar.remsi v1205 v1207
  let c0_i32_847 : BitVec 32 := 0#32
  let v1210 : BitVec 1 := Scalar.cmpi .slt v1208 c0_i32_847
  let c0_i32_848 : BitVec 32 := 0#32
  let v1211 : BitVec 1 := Scalar.cmpi .slt v1207 c0_i32_848
  let v1212 : BitVec 1 := Scalar.xori v1210 v1211
  let c0_i32_846 : BitVec 32 := 0#32
  let v1209 : BitVec 1 := Scalar.cmpi .ne v1208 c0_i32_846
  let v1213 : BitVec 1 := Scalar.andi v1212 v1209
  let v1214 : BitVec 32 := Scalar.addi v1208 v1207
  let v1215 : BitVec 32 := Scalar.select v1213 v1214 v1208
  let c1_i32_853 : BitVec 32 := 1#32
  let v1220 : BitVec 32 := Scalar.muli v1215 c1_i32_853
  let v1221 : BitVec 32 := Scalar.addi c0_i32_854 v1220
  v1221.toNat
def k0_dev66 (d0 : Dev nD) : Nat :=
  let c0_i32_870 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_858 : BitVec 32 := 4#32
  let v1229 : BitVec 32 := Scalar.addi v2 c4_i32_858
  let c32_i32_859 : BitVec 32 := 32#32
  let c0_i32_860 : BitVec 32 := 0#32
  let v1230 : BitVec 1 := Scalar.cmpi .eq c32_i32_859 c0_i32_860
  let c1_i32_861 : BitVec 32 := 1#32
  let v1231 : BitVec 32 := Scalar.select v1230 c1_i32_861 c32_i32_859
  let v1232 : BitVec 32 := Scalar.remsi v1229 v1231
  let c0_i32_863 : BitVec 32 := 0#32
  let v1234 : BitVec 1 := Scalar.cmpi .slt v1232 c0_i32_863
  let c0_i32_864 : BitVec 32 := 0#32
  let v1235 : BitVec 1 := Scalar.cmpi .slt v1231 c0_i32_864
  let v1236 : BitVec 1 := Scalar.xori v1234 v1235
  let c0_i32_862 : BitVec 32 := 0#32
  let v1233 : BitVec 1 := Scalar.cmpi .ne v1232 c0_i32_862
  let v1237 : BitVec 1 := Scalar.andi v1236 v1233
  let v1238 : BitVec 32 := Scalar.addi v1232 v1231
  let v1239 : BitVec 32 := Scalar.select v1237 v1238 v1232
  let c1_i32_869 : BitVec 32 := 1#32
  let v1244 : BitVec 32 := Scalar.muli v1239 c1_i32_869
  let v1245 : BitVec 32 := Scalar.addi c0_i32_870 v1244
  v1245.toNat
def k0_dev67 (d0 : Dev nD) : Nat :=
  let c0_i32_886 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_874 : BitVec 32 := 5#32
  let v1253 : BitVec 32 := Scalar.addi v2 c5_i32_874
  let c32_i32_875 : BitVec 32 := 32#32
  let c0_i32_876 : BitVec 32 := 0#32
  let v1254 : BitVec 1 := Scalar.cmpi .eq c32_i32_875 c0_i32_876
  let c1_i32_877 : BitVec 32 := 1#32
  let v1255 : BitVec 32 := Scalar.select v1254 c1_i32_877 c32_i32_875
  let v1256 : BitVec 32 := Scalar.remsi v1253 v1255
  let c0_i32_879 : BitVec 32 := 0#32
  let v1258 : BitVec 1 := Scalar.cmpi .slt v1256 c0_i32_879
  let c0_i32_880 : BitVec 32 := 0#32
  let v1259 : BitVec 1 := Scalar.cmpi .slt v1255 c0_i32_880
  let v1260 : BitVec 1 := Scalar.xori v1258 v1259
  let c0_i32_878 : BitVec 32 := 0#32
  let v1257 : BitVec 1 := Scalar.cmpi .ne v1256 c0_i32_878
  let v1261 : BitVec 1 := Scalar.andi v1260 v1257
  let v1262 : BitVec 32 := Scalar.addi v1256 v1255
  let v1263 : BitVec 32 := Scalar.select v1261 v1262 v1256
  let c1_i32_885 : BitVec 32 := 1#32
  let v1268 : BitVec 32 := Scalar.muli v1263 c1_i32_885
  let v1269 : BitVec 32 := Scalar.addi c0_i32_886 v1268
  v1269.toNat
def k0_dev68 (d0 : Dev nD) : Nat :=
  let c0_i32_902 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_890 : BitVec 32 := 6#32
  let v1277 : BitVec 32 := Scalar.addi v2 c6_i32_890
  let c32_i32_891 : BitVec 32 := 32#32
  let c0_i32_892 : BitVec 32 := 0#32
  let v1278 : BitVec 1 := Scalar.cmpi .eq c32_i32_891 c0_i32_892
  let c1_i32_893 : BitVec 32 := 1#32
  let v1279 : BitVec 32 := Scalar.select v1278 c1_i32_893 c32_i32_891
  let v1280 : BitVec 32 := Scalar.remsi v1277 v1279
  let c0_i32_895 : BitVec 32 := 0#32
  let v1282 : BitVec 1 := Scalar.cmpi .slt v1280 c0_i32_895
  let c0_i32_896 : BitVec 32 := 0#32
  let v1283 : BitVec 1 := Scalar.cmpi .slt v1279 c0_i32_896
  let v1284 : BitVec 1 := Scalar.xori v1282 v1283
  let c0_i32_894 : BitVec 32 := 0#32
  let v1281 : BitVec 1 := Scalar.cmpi .ne v1280 c0_i32_894
  let v1285 : BitVec 1 := Scalar.andi v1284 v1281
  let v1286 : BitVec 32 := Scalar.addi v1280 v1279
  let v1287 : BitVec 32 := Scalar.select v1285 v1286 v1280
  let c1_i32_901 : BitVec 32 := 1#32
  let v1292 : BitVec 32 := Scalar.muli v1287 c1_i32_901
  let v1293 : BitVec 32 := Scalar.addi c0_i32_902 v1292
  v1293.toNat
def k0_dev69 (d0 : Dev nD) : Nat :=
  let c0_i32_918 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_906 : BitVec 32 := 7#32
  let v1301 : BitVec 32 := Scalar.addi v2 c7_i32_906
  let c32_i32_907 : BitVec 32 := 32#32
  let c0_i32_908 : BitVec 32 := 0#32
  let v1302 : BitVec 1 := Scalar.cmpi .eq c32_i32_907 c0_i32_908
  let c1_i32_909 : BitVec 32 := 1#32
  let v1303 : BitVec 32 := Scalar.select v1302 c1_i32_909 c32_i32_907
  let v1304 : BitVec 32 := Scalar.remsi v1301 v1303
  let c0_i32_911 : BitVec 32 := 0#32
  let v1306 : BitVec 1 := Scalar.cmpi .slt v1304 c0_i32_911
  let c0_i32_912 : BitVec 32 := 0#32
  let v1307 : BitVec 1 := Scalar.cmpi .slt v1303 c0_i32_912
  let v1308 : BitVec 1 := Scalar.xori v1306 v1307
  let c0_i32_910 : BitVec 32 := 0#32
  let v1305 : BitVec 1 := Scalar.cmpi .ne v1304 c0_i32_910
  let v1309 : BitVec 1 := Scalar.andi v1308 v1305
  let v1310 : BitVec 32 := Scalar.addi v1304 v1303
  let v1311 : BitVec 32 := Scalar.select v1309 v1310 v1304
  let c1_i32_917 : BitVec 32 := 1#32
  let v1316 : BitVec 32 := Scalar.muli v1311 c1_i32_917
  let v1317 : BitVec 32 := Scalar.addi c0_i32_918 v1316
  v1317.toNat
def k0_dev70 (d0 : Dev nD) : Nat :=
  let c0_i32_934 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_922 : BitVec 32 := 8#32
  let v1325 : BitVec 32 := Scalar.addi v2 c8_i32_922
  let c32_i32_923 : BitVec 32 := 32#32
  let c0_i32_924 : BitVec 32 := 0#32
  let v1326 : BitVec 1 := Scalar.cmpi .eq c32_i32_923 c0_i32_924
  let c1_i32_925 : BitVec 32 := 1#32
  let v1327 : BitVec 32 := Scalar.select v1326 c1_i32_925 c32_i32_923
  let v1328 : BitVec 32 := Scalar.remsi v1325 v1327
  let c0_i32_927 : BitVec 32 := 0#32
  let v1330 : BitVec 1 := Scalar.cmpi .slt v1328 c0_i32_927
  let c0_i32_928 : BitVec 32 := 0#32
  let v1331 : BitVec 1 := Scalar.cmpi .slt v1327 c0_i32_928
  let v1332 : BitVec 1 := Scalar.xori v1330 v1331
  let c0_i32_926 : BitVec 32 := 0#32
  let v1329 : BitVec 1 := Scalar.cmpi .ne v1328 c0_i32_926
  let v1333 : BitVec 1 := Scalar.andi v1332 v1329
  let v1334 : BitVec 32 := Scalar.addi v1328 v1327
  let v1335 : BitVec 32 := Scalar.select v1333 v1334 v1328
  let c1_i32_933 : BitVec 32 := 1#32
  let v1340 : BitVec 32 := Scalar.muli v1335 c1_i32_933
  let v1341 : BitVec 32 := Scalar.addi c0_i32_934 v1340
  v1341.toNat
def k0_dev71 (d0 : Dev nD) : Nat :=
  let c0_i32_950 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_938 : BitVec 32 := 9#32
  let v1349 : BitVec 32 := Scalar.addi v2 c9_i32_938
  let c32_i32_939 : BitVec 32 := 32#32
  let c0_i32_940 : BitVec 32 := 0#32
  let v1350 : BitVec 1 := Scalar.cmpi .eq c32_i32_939 c0_i32_940
  let c1_i32_941 : BitVec 32 := 1#32
  let v1351 : BitVec 32 := Scalar.select v1350 c1_i32_941 c32_i32_939
  let v1352 : BitVec 32 := Scalar.remsi v1349 v1351
  let c0_i32_943 : BitVec 32 := 0#32
  let v1354 : BitVec 1 := Scalar.cmpi .slt v1352 c0_i32_943
  let c0_i32_944 : BitVec 32 := 0#32
  let v1355 : BitVec 1 := Scalar.cmpi .slt v1351 c0_i32_944
  let v1356 : BitVec 1 := Scalar.xori v1354 v1355
  let c0_i32_942 : BitVec 32 := 0#32
  let v1353 : BitVec 1 := Scalar.cmpi .ne v1352 c0_i32_942
  let v1357 : BitVec 1 := Scalar.andi v1356 v1353
  let v1358 : BitVec 32 := Scalar.addi v1352 v1351
  let v1359 : BitVec 32 := Scalar.select v1357 v1358 v1352
  let c1_i32_949 : BitVec 32 := 1#32
  let v1364 : BitVec 32 := Scalar.muli v1359 c1_i32_949
  let v1365 : BitVec 32 := Scalar.addi c0_i32_950 v1364
  v1365.toNat
def k0_dev72 (d0 : Dev nD) : Nat :=
  let c0_i32_966 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_954 : BitVec 32 := 10#32
  let v1373 : BitVec 32 := Scalar.addi v2 c10_i32_954
  let c32_i32_955 : BitVec 32 := 32#32
  let c0_i32_956 : BitVec 32 := 0#32
  let v1374 : BitVec 1 := Scalar.cmpi .eq c32_i32_955 c0_i32_956
  let c1_i32_957 : BitVec 32 := 1#32
  let v1375 : BitVec 32 := Scalar.select v1374 c1_i32_957 c32_i32_955
  let v1376 : BitVec 32 := Scalar.remsi v1373 v1375
  let c0_i32_959 : BitVec 32 := 0#32
  let v1378 : BitVec 1 := Scalar.cmpi .slt v1376 c0_i32_959
  let c0_i32_960 : BitVec 32 := 0#32
  let v1379 : BitVec 1 := Scalar.cmpi .slt v1375 c0_i32_960
  let v1380 : BitVec 1 := Scalar.xori v1378 v1379
  let c0_i32_958 : BitVec 32 := 0#32
  let v1377 : BitVec 1 := Scalar.cmpi .ne v1376 c0_i32_958
  let v1381 : BitVec 1 := Scalar.andi v1380 v1377
  let v1382 : BitVec 32 := Scalar.addi v1376 v1375
  let v1383 : BitVec 32 := Scalar.select v1381 v1382 v1376
  let c1_i32_965 : BitVec 32 := 1#32
  let v1388 : BitVec 32 := Scalar.muli v1383 c1_i32_965
  let v1389 : BitVec 32 := Scalar.addi c0_i32_966 v1388
  v1389.toNat
def k0_dev73 (d0 : Dev nD) : Nat :=
  let c0_i32_982 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_970 : BitVec 32 := 11#32
  let v1397 : BitVec 32 := Scalar.addi v2 c11_i32_970
  let c32_i32_971 : BitVec 32 := 32#32
  let c0_i32_972 : BitVec 32 := 0#32
  let v1398 : BitVec 1 := Scalar.cmpi .eq c32_i32_971 c0_i32_972
  let c1_i32_973 : BitVec 32 := 1#32
  let v1399 : BitVec 32 := Scalar.select v1398 c1_i32_973 c32_i32_971
  let v1400 : BitVec 32 := Scalar.remsi v1397 v1399
  let c0_i32_975 : BitVec 32 := 0#32
  let v1402 : BitVec 1 := Scalar.cmpi .slt v1400 c0_i32_975
  let c0_i32_976 : BitVec 32 := 0#32
  let v1403 : BitVec 1 := Scalar.cmpi .slt v1399 c0_i32_976
  let v1404 : BitVec 1 := Scalar.xori v1402 v1403
  let c0_i32_974 : BitVec 32 := 0#32
  let v1401 : BitVec 1 := Scalar.cmpi .ne v1400 c0_i32_974
  let v1405 : BitVec 1 := Scalar.andi v1404 v1401
  let v1406 : BitVec 32 := Scalar.addi v1400 v1399
  let v1407 : BitVec 32 := Scalar.select v1405 v1406 v1400
  let c1_i32_981 : BitVec 32 := 1#32
  let v1412 : BitVec 32 := Scalar.muli v1407 c1_i32_981
  let v1413 : BitVec 32 := Scalar.addi c0_i32_982 v1412
  v1413.toNat
def k0_dev74 (d0 : Dev nD) : Nat :=
  let c0_i32_998 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_986 : BitVec 32 := 12#32
  let v1421 : BitVec 32 := Scalar.addi v2 c12_i32_986
  let c32_i32_987 : BitVec 32 := 32#32
  let c0_i32_988 : BitVec 32 := 0#32
  let v1422 : BitVec 1 := Scalar.cmpi .eq c32_i32_987 c0_i32_988
  let c1_i32_989 : BitVec 32 := 1#32
  let v1423 : BitVec 32 := Scalar.select v1422 c1_i32_989 c32_i32_987
  let v1424 : BitVec 32 := Scalar.remsi v1421 v1423
  let c0_i32_991 : BitVec 32 := 0#32
  let v1426 : BitVec 1 := Scalar.cmpi .slt v1424 c0_i32_991
  let c0_i32_992 : BitVec 32 := 0#32
  let v1427 : BitVec 1 := Scalar.cmpi .slt v1423 c0_i32_992
  let v1428 : BitVec 1 := Scalar.xori v1426 v1427
  let c0_i32_990 : BitVec 32 := 0#32
  let v1425 : BitVec 1 := Scalar.cmpi .ne v1424 c0_i32_990
  let v1429 : BitVec 1 := Scalar.andi v1428 v1425
  let v1430 : BitVec 32 := Scalar.addi v1424 v1423
  let v1431 : BitVec 32 := Scalar.select v1429 v1430 v1424
  let c1_i32_997 : BitVec 32 := 1#32
  let v1436 : BitVec 32 := Scalar.muli v1431 c1_i32_997
  let v1437 : BitVec 32 := Scalar.addi c0_i32_998 v1436
  v1437.toNat
def k0_dev75 (d0 : Dev nD) : Nat :=
  let c0_i32_1014 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1002 : BitVec 32 := 13#32
  let v1445 : BitVec 32 := Scalar.addi v2 c13_i32_1002
  let c32_i32_1003 : BitVec 32 := 32#32
  let c0_i32_1004 : BitVec 32 := 0#32
  let v1446 : BitVec 1 := Scalar.cmpi .eq c32_i32_1003 c0_i32_1004
  let c1_i32_1005 : BitVec 32 := 1#32
  let v1447 : BitVec 32 := Scalar.select v1446 c1_i32_1005 c32_i32_1003
  let v1448 : BitVec 32 := Scalar.remsi v1445 v1447
  let c0_i32_1007 : BitVec 32 := 0#32
  let v1450 : BitVec 1 := Scalar.cmpi .slt v1448 c0_i32_1007
  let c0_i32_1008 : BitVec 32 := 0#32
  let v1451 : BitVec 1 := Scalar.cmpi .slt v1447 c0_i32_1008
  let v1452 : BitVec 1 := Scalar.xori v1450 v1451
  let c0_i32_1006 : BitVec 32 := 0#32
  let v1449 : BitVec 1 := Scalar.cmpi .ne v1448 c0_i32_1006
  let v1453 : BitVec 1 := Scalar.andi v1452 v1449
  let v1454 : BitVec 32 := Scalar.addi v1448 v1447
  let v1455 : BitVec 32 := Scalar.select v1453 v1454 v1448
  let c1_i32_1013 : BitVec 32 := 1#32
  let v1460 : BitVec 32 := Scalar.muli v1455 c1_i32_1013
  let v1461 : BitVec 32 := Scalar.addi c0_i32_1014 v1460
  v1461.toNat
def k0_dev76 (d0 : Dev nD) : Nat :=
  let c0_i32_1030 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1018 : BitVec 32 := 14#32
  let v1469 : BitVec 32 := Scalar.addi v2 c14_i32_1018
  let c32_i32_1019 : BitVec 32 := 32#32
  let c0_i32_1020 : BitVec 32 := 0#32
  let v1470 : BitVec 1 := Scalar.cmpi .eq c32_i32_1019 c0_i32_1020
  let c1_i32_1021 : BitVec 32 := 1#32
  let v1471 : BitVec 32 := Scalar.select v1470 c1_i32_1021 c32_i32_1019
  let v1472 : BitVec 32 := Scalar.remsi v1469 v1471
  let c0_i32_1023 : BitVec 32 := 0#32
  let v1474 : BitVec 1 := Scalar.cmpi .slt v1472 c0_i32_1023
  let c0_i32_1024 : BitVec 32 := 0#32
  let v1475 : BitVec 1 := Scalar.cmpi .slt v1471 c0_i32_1024
  let v1476 : BitVec 1 := Scalar.xori v1474 v1475
  let c0_i32_1022 : BitVec 32 := 0#32
  let v1473 : BitVec 1 := Scalar.cmpi .ne v1472 c0_i32_1022
  let v1477 : BitVec 1 := Scalar.andi v1476 v1473
  let v1478 : BitVec 32 := Scalar.addi v1472 v1471
  let v1479 : BitVec 32 := Scalar.select v1477 v1478 v1472
  let c1_i32_1029 : BitVec 32 := 1#32
  let v1484 : BitVec 32 := Scalar.muli v1479 c1_i32_1029
  let v1485 : BitVec 32 := Scalar.addi c0_i32_1030 v1484
  v1485.toNat
def k0_dev77 (d0 : Dev nD) : Nat :=
  let c0_i32_1046 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1034 : BitVec 32 := 15#32
  let v1493 : BitVec 32 := Scalar.addi v2 c15_i32_1034
  let c32_i32_1035 : BitVec 32 := 32#32
  let c0_i32_1036 : BitVec 32 := 0#32
  let v1494 : BitVec 1 := Scalar.cmpi .eq c32_i32_1035 c0_i32_1036
  let c1_i32_1037 : BitVec 32 := 1#32
  let v1495 : BitVec 32 := Scalar.select v1494 c1_i32_1037 c32_i32_1035
  let v1496 : BitVec 32 := Scalar.remsi v1493 v1495
  let c0_i32_1039 : BitVec 32 := 0#32
  let v1498 : BitVec 1 := Scalar.cmpi .slt v1496 c0_i32_1039
  let c0_i32_1040 : BitVec 32 := 0#32
  let v1499 : BitVec 1 := Scalar.cmpi .slt v1495 c0_i32_1040
  let v1500 : BitVec 1 := Scalar.xori v1498 v1499
  let c0_i32_1038 : BitVec 32 := 0#32
  let v1497 : BitVec 1 := Scalar.cmpi .ne v1496 c0_i32_1038
  let v1501 : BitVec 1 := Scalar.andi v1500 v1497
  let v1502 : BitVec 32 := Scalar.addi v1496 v1495
  let v1503 : BitVec 32 := Scalar.select v1501 v1502 v1496
  let c1_i32_1045 : BitVec 32 := 1#32
  let v1508 : BitVec 32 := Scalar.muli v1503 c1_i32_1045
  let v1509 : BitVec 32 := Scalar.addi c0_i32_1046 v1508
  v1509.toNat
def k0_dev78 (d0 : Dev nD) : Nat :=
  let c0_i32_1062 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1050 : BitVec 32 := 16#32
  let v1517 : BitVec 32 := Scalar.addi v2 c16_i32_1050
  let c32_i32_1051 : BitVec 32 := 32#32
  let c0_i32_1052 : BitVec 32 := 0#32
  let v1518 : BitVec 1 := Scalar.cmpi .eq c32_i32_1051 c0_i32_1052
  let c1_i32_1053 : BitVec 32 := 1#32
  let v1519 : BitVec 32 := Scalar.select v1518 c1_i32_1053 c32_i32_1051
  let v1520 : BitVec 32 := Scalar.remsi v1517 v1519
  let c0_i32_1055 : BitVec 32 := 0#32
  let v1522 : BitVec 1 := Scalar.cmpi .slt v1520 c0_i32_1055
  let c0_i32_1056 : BitVec 32 := 0#32
  let v1523 : BitVec 1 := Scalar.cmpi .slt v1519 c0_i32_1056
  let v1524 : BitVec 1 := Scalar.xori v1522 v1523
  let c0_i32_1054 : BitVec 32 := 0#32
  let v1521 : BitVec 1 := Scalar.cmpi .ne v1520 c0_i32_1054
  let v1525 : BitVec 1 := Scalar.andi v1524 v1521
  let v1526 : BitVec 32 := Scalar.addi v1520 v1519
  let v1527 : BitVec 32 := Scalar.select v1525 v1526 v1520
  let c1_i32_1061 : BitVec 32 := 1#32
  let v1532 : BitVec 32 := Scalar.muli v1527 c1_i32_1061
  let v1533 : BitVec 32 := Scalar.addi c0_i32_1062 v1532
  v1533.toNat
def k0_dev79 (d0 : Dev nD) : Nat :=
  let c0_i32_1078 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1066 : BitVec 32 := 17#32
  let v1541 : BitVec 32 := Scalar.addi v2 c17_i32_1066
  let c32_i32_1067 : BitVec 32 := 32#32
  let c0_i32_1068 : BitVec 32 := 0#32
  let v1542 : BitVec 1 := Scalar.cmpi .eq c32_i32_1067 c0_i32_1068
  let c1_i32_1069 : BitVec 32 := 1#32
  let v1543 : BitVec 32 := Scalar.select v1542 c1_i32_1069 c32_i32_1067
  let v1544 : BitVec 32 := Scalar.remsi v1541 v1543
  let c0_i32_1071 : BitVec 32 := 0#32
  let v1546 : BitVec 1 := Scalar.cmpi .slt v1544 c0_i32_1071
  let c0_i32_1072 : BitVec 32 := 0#32
  let v1547 : BitVec 1 := Scalar.cmpi .slt v1543 c0_i32_1072
  let v1548 : BitVec 1 := Scalar.xori v1546 v1547
  let c0_i32_1070 : BitVec 32 := 0#32
  let v1545 : BitVec 1 := Scalar.cmpi .ne v1544 c0_i32_1070
  let v1549 : BitVec 1 := Scalar.andi v1548 v1545
  let v1550 : BitVec 32 := Scalar.addi v1544 v1543
  let v1551 : BitVec 32 := Scalar.select v1549 v1550 v1544
  let c1_i32_1077 : BitVec 32 := 1#32
  let v1556 : BitVec 32 := Scalar.muli v1551 c1_i32_1077
  let v1557 : BitVec 32 := Scalar.addi c0_i32_1078 v1556
  v1557.toNat
def k0_dev80 (d0 : Dev nD) : Nat :=
  let c0_i32_1094 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1082 : BitVec 32 := 18#32
  let v1565 : BitVec 32 := Scalar.addi v2 c18_i32_1082
  let c32_i32_1083 : BitVec 32 := 32#32
  let c0_i32_1084 : BitVec 32 := 0#32
  let v1566 : BitVec 1 := Scalar.cmpi .eq c32_i32_1083 c0_i32_1084
  let c1_i32_1085 : BitVec 32 := 1#32
  let v1567 : BitVec 32 := Scalar.select v1566 c1_i32_1085 c32_i32_1083
  let v1568 : BitVec 32 := Scalar.remsi v1565 v1567
  let c0_i32_1087 : BitVec 32 := 0#32
  let v1570 : BitVec 1 := Scalar.cmpi .slt v1568 c0_i32_1087
  let c0_i32_1088 : BitVec 32 := 0#32
  let v1571 : BitVec 1 := Scalar.cmpi .slt v1567 c0_i32_1088
  let v1572 : BitVec 1 := Scalar.xori v1570 v1571
  let c0_i32_1086 : BitVec 32 := 0#32
  let v1569 : BitVec 1 := Scalar.cmpi .ne v1568 c0_i32_1086
  let v1573 : BitVec 1 := Scalar.andi v1572 v1569
  let v1574 : BitVec 32 := Scalar.addi v1568 v1567
  let v1575 : BitVec 32 := Scalar.select v1573 v1574 v1568
  let c1_i32_1093 : BitVec 32 := 1#32
  let v1580 : BitVec 32 := Scalar.muli v1575 c1_i32_1093
  let v1581 : BitVec 32 := Scalar.addi c0_i32_1094 v1580
  v1581.toNat
def k0_dev81 (d0 : Dev nD) : Nat :=
  let c0_i32_1110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1098 : BitVec 32 := 19#32
  let v1589 : BitVec 32 := Scalar.addi v2 c19_i32_1098
  let c32_i32_1099 : BitVec 32 := 32#32
  let c0_i32_1100 : BitVec 32 := 0#32
  let v1590 : BitVec 1 := Scalar.cmpi .eq c32_i32_1099 c0_i32_1100
  let c1_i32_1101 : BitVec 32 := 1#32
  let v1591 : BitVec 32 := Scalar.select v1590 c1_i32_1101 c32_i32_1099
  let v1592 : BitVec 32 := Scalar.remsi v1589 v1591
  let c0_i32_1103 : BitVec 32 := 0#32
  let v1594 : BitVec 1 := Scalar.cmpi .slt v1592 c0_i32_1103
  let c0_i32_1104 : BitVec 32 := 0#32
  let v1595 : BitVec 1 := Scalar.cmpi .slt v1591 c0_i32_1104
  let v1596 : BitVec 1 := Scalar.xori v1594 v1595
  let c0_i32_1102 : BitVec 32 := 0#32
  let v1593 : BitVec 1 := Scalar.cmpi .ne v1592 c0_i32_1102
  let v1597 : BitVec 1 := Scalar.andi v1596 v1593
  let v1598 : BitVec 32 := Scalar.addi v1592 v1591
  let v1599 : BitVec 32 := Scalar.select v1597 v1598 v1592
  let c1_i32_1109 : BitVec 32 := 1#32
  let v1604 : BitVec 32 := Scalar.muli v1599 c1_i32_1109
  let v1605 : BitVec 32 := Scalar.addi c0_i32_1110 v1604
  v1605.toNat
def k0_dev82 (d0 : Dev nD) : Nat :=
  let c0_i32_1126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1114 : BitVec 32 := 20#32
  let v1613 : BitVec 32 := Scalar.addi v2 c20_i32_1114
  let c32_i32_1115 : BitVec 32 := 32#32
  let c0_i32_1116 : BitVec 32 := 0#32
  let v1614 : BitVec 1 := Scalar.cmpi .eq c32_i32_1115 c0_i32_1116
  let c1_i32_1117 : BitVec 32 := 1#32
  let v1615 : BitVec 32 := Scalar.select v1614 c1_i32_1117 c32_i32_1115
  let v1616 : BitVec 32 := Scalar.remsi v1613 v1615
  let c0_i32_1119 : BitVec 32 := 0#32
  let v1618 : BitVec 1 := Scalar.cmpi .slt v1616 c0_i32_1119
  let c0_i32_1120 : BitVec 32 := 0#32
  let v1619 : BitVec 1 := Scalar.cmpi .slt v1615 c0_i32_1120
  let v1620 : BitVec 1 := Scalar.xori v1618 v1619
  let c0_i32_1118 : BitVec 32 := 0#32
  let v1617 : BitVec 1 := Scalar.cmpi .ne v1616 c0_i32_1118
  let v1621 : BitVec 1 := Scalar.andi v1620 v1617
  let v1622 : BitVec 32 := Scalar.addi v1616 v1615
  let v1623 : BitVec 32 := Scalar.select v1621 v1622 v1616
  let c1_i32_1125 : BitVec 32 := 1#32
  let v1628 : BitVec 32 := Scalar.muli v1623 c1_i32_1125
  let v1629 : BitVec 32 := Scalar.addi c0_i32_1126 v1628
  v1629.toNat
def k0_dev83 (d0 : Dev nD) : Nat :=
  let c0_i32_1142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1130 : BitVec 32 := 21#32
  let v1637 : BitVec 32 := Scalar.addi v2 c21_i32_1130
  let c32_i32_1131 : BitVec 32 := 32#32
  let c0_i32_1132 : BitVec 32 := 0#32
  let v1638 : BitVec 1 := Scalar.cmpi .eq c32_i32_1131 c0_i32_1132
  let c1_i32_1133 : BitVec 32 := 1#32
  let v1639 : BitVec 32 := Scalar.select v1638 c1_i32_1133 c32_i32_1131
  let v1640 : BitVec 32 := Scalar.remsi v1637 v1639
  let c0_i32_1135 : BitVec 32 := 0#32
  let v1642 : BitVec 1 := Scalar.cmpi .slt v1640 c0_i32_1135
  let c0_i32_1136 : BitVec 32 := 0#32
  let v1643 : BitVec 1 := Scalar.cmpi .slt v1639 c0_i32_1136
  let v1644 : BitVec 1 := Scalar.xori v1642 v1643
  let c0_i32_1134 : BitVec 32 := 0#32
  let v1641 : BitVec 1 := Scalar.cmpi .ne v1640 c0_i32_1134
  let v1645 : BitVec 1 := Scalar.andi v1644 v1641
  let v1646 : BitVec 32 := Scalar.addi v1640 v1639
  let v1647 : BitVec 32 := Scalar.select v1645 v1646 v1640
  let c1_i32_1141 : BitVec 32 := 1#32
  let v1652 : BitVec 32 := Scalar.muli v1647 c1_i32_1141
  let v1653 : BitVec 32 := Scalar.addi c0_i32_1142 v1652
  v1653.toNat
def k0_dev84 (d0 : Dev nD) : Nat :=
  let c0_i32_1158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1146 : BitVec 32 := 22#32
  let v1661 : BitVec 32 := Scalar.addi v2 c22_i32_1146
  let c32_i32_1147 : BitVec 32 := 32#32
  let c0_i32_1148 : BitVec 32 := 0#32
  let v1662 : BitVec 1 := Scalar.cmpi .eq c32_i32_1147 c0_i32_1148
  let c1_i32_1149 : BitVec 32 := 1#32
  let v1663 : BitVec 32 := Scalar.select v1662 c1_i32_1149 c32_i32_1147
  let v1664 : BitVec 32 := Scalar.remsi v1661 v1663
  let c0_i32_1151 : BitVec 32 := 0#32
  let v1666 : BitVec 1 := Scalar.cmpi .slt v1664 c0_i32_1151
  let c0_i32_1152 : BitVec 32 := 0#32
  let v1667 : BitVec 1 := Scalar.cmpi .slt v1663 c0_i32_1152
  let v1668 : BitVec 1 := Scalar.xori v1666 v1667
  let c0_i32_1150 : BitVec 32 := 0#32
  let v1665 : BitVec 1 := Scalar.cmpi .ne v1664 c0_i32_1150
  let v1669 : BitVec 1 := Scalar.andi v1668 v1665
  let v1670 : BitVec 32 := Scalar.addi v1664 v1663
  let v1671 : BitVec 32 := Scalar.select v1669 v1670 v1664
  let c1_i32_1157 : BitVec 32 := 1#32
  let v1676 : BitVec 32 := Scalar.muli v1671 c1_i32_1157
  let v1677 : BitVec 32 := Scalar.addi c0_i32_1158 v1676
  v1677.toNat
def k0_dev85 (d0 : Dev nD) : Nat :=
  let c0_i32_1174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1162 : BitVec 32 := 23#32
  let v1685 : BitVec 32 := Scalar.addi v2 c23_i32_1162
  let c32_i32_1163 : BitVec 32 := 32#32
  let c0_i32_1164 : BitVec 32 := 0#32
  let v1686 : BitVec 1 := Scalar.cmpi .eq c32_i32_1163 c0_i32_1164
  let c1_i32_1165 : BitVec 32 := 1#32
  let v1687 : BitVec 32 := Scalar.select v1686 c1_i32_1165 c32_i32_1163
  let v1688 : BitVec 32 := Scalar.remsi v1685 v1687
  let c0_i32_1167 : BitVec 32 := 0#32
  let v1690 : BitVec 1 := Scalar.cmpi .slt v1688 c0_i32_1167
  let c0_i32_1168 : BitVec 32 := 0#32
  let v1691 : BitVec 1 := Scalar.cmpi .slt v1687 c0_i32_1168
  let v1692 : BitVec 1 := Scalar.xori v1690 v1691
  let c0_i32_1166 : BitVec 32 := 0#32
  let v1689 : BitVec 1 := Scalar.cmpi .ne v1688 c0_i32_1166
  let v1693 : BitVec 1 := Scalar.andi v1692 v1689
  let v1694 : BitVec 32 := Scalar.addi v1688 v1687
  let v1695 : BitVec 32 := Scalar.select v1693 v1694 v1688
  let c1_i32_1173 : BitVec 32 := 1#32
  let v1700 : BitVec 32 := Scalar.muli v1695 c1_i32_1173
  let v1701 : BitVec 32 := Scalar.addi c0_i32_1174 v1700
  v1701.toNat
def k0_dev86 (d0 : Dev nD) : Nat :=
  let c0_i32_1190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1178 : BitVec 32 := 24#32
  let v1709 : BitVec 32 := Scalar.addi v2 c24_i32_1178
  let c32_i32_1179 : BitVec 32 := 32#32
  let c0_i32_1180 : BitVec 32 := 0#32
  let v1710 : BitVec 1 := Scalar.cmpi .eq c32_i32_1179 c0_i32_1180
  let c1_i32_1181 : BitVec 32 := 1#32
  let v1711 : BitVec 32 := Scalar.select v1710 c1_i32_1181 c32_i32_1179
  let v1712 : BitVec 32 := Scalar.remsi v1709 v1711
  let c0_i32_1183 : BitVec 32 := 0#32
  let v1714 : BitVec 1 := Scalar.cmpi .slt v1712 c0_i32_1183
  let c0_i32_1184 : BitVec 32 := 0#32
  let v1715 : BitVec 1 := Scalar.cmpi .slt v1711 c0_i32_1184
  let v1716 : BitVec 1 := Scalar.xori v1714 v1715
  let c0_i32_1182 : BitVec 32 := 0#32
  let v1713 : BitVec 1 := Scalar.cmpi .ne v1712 c0_i32_1182
  let v1717 : BitVec 1 := Scalar.andi v1716 v1713
  let v1718 : BitVec 32 := Scalar.addi v1712 v1711
  let v1719 : BitVec 32 := Scalar.select v1717 v1718 v1712
  let c1_i32_1189 : BitVec 32 := 1#32
  let v1724 : BitVec 32 := Scalar.muli v1719 c1_i32_1189
  let v1725 : BitVec 32 := Scalar.addi c0_i32_1190 v1724
  v1725.toNat
def k0_dev87 (d0 : Dev nD) : Nat :=
  let c0_i32_1206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1194 : BitVec 32 := 25#32
  let v1733 : BitVec 32 := Scalar.addi v2 c25_i32_1194
  let c32_i32_1195 : BitVec 32 := 32#32
  let c0_i32_1196 : BitVec 32 := 0#32
  let v1734 : BitVec 1 := Scalar.cmpi .eq c32_i32_1195 c0_i32_1196
  let c1_i32_1197 : BitVec 32 := 1#32
  let v1735 : BitVec 32 := Scalar.select v1734 c1_i32_1197 c32_i32_1195
  let v1736 : BitVec 32 := Scalar.remsi v1733 v1735
  let c0_i32_1199 : BitVec 32 := 0#32
  let v1738 : BitVec 1 := Scalar.cmpi .slt v1736 c0_i32_1199
  let c0_i32_1200 : BitVec 32 := 0#32
  let v1739 : BitVec 1 := Scalar.cmpi .slt v1735 c0_i32_1200
  let v1740 : BitVec 1 := Scalar.xori v1738 v1739
  let c0_i32_1198 : BitVec 32 := 0#32
  let v1737 : BitVec 1 := Scalar.cmpi .ne v1736 c0_i32_1198
  let v1741 : BitVec 1 := Scalar.andi v1740 v1737
  let v1742 : BitVec 32 := Scalar.addi v1736 v1735
  let v1743 : BitVec 32 := Scalar.select v1741 v1742 v1736
  let c1_i32_1205 : BitVec 32 := 1#32
  let v1748 : BitVec 32 := Scalar.muli v1743 c1_i32_1205
  let v1749 : BitVec 32 := Scalar.addi c0_i32_1206 v1748
  v1749.toNat
def k0_dev88 (d0 : Dev nD) : Nat :=
  let c0_i32_1222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1210 : BitVec 32 := 26#32
  let v1757 : BitVec 32 := Scalar.addi v2 c26_i32_1210
  let c32_i32_1211 : BitVec 32 := 32#32
  let c0_i32_1212 : BitVec 32 := 0#32
  let v1758 : BitVec 1 := Scalar.cmpi .eq c32_i32_1211 c0_i32_1212
  let c1_i32_1213 : BitVec 32 := 1#32
  let v1759 : BitVec 32 := Scalar.select v1758 c1_i32_1213 c32_i32_1211
  let v1760 : BitVec 32 := Scalar.remsi v1757 v1759
  let c0_i32_1215 : BitVec 32 := 0#32
  let v1762 : BitVec 1 := Scalar.cmpi .slt v1760 c0_i32_1215
  let c0_i32_1216 : BitVec 32 := 0#32
  let v1763 : BitVec 1 := Scalar.cmpi .slt v1759 c0_i32_1216
  let v1764 : BitVec 1 := Scalar.xori v1762 v1763
  let c0_i32_1214 : BitVec 32 := 0#32
  let v1761 : BitVec 1 := Scalar.cmpi .ne v1760 c0_i32_1214
  let v1765 : BitVec 1 := Scalar.andi v1764 v1761
  let v1766 : BitVec 32 := Scalar.addi v1760 v1759
  let v1767 : BitVec 32 := Scalar.select v1765 v1766 v1760
  let c1_i32_1221 : BitVec 32 := 1#32
  let v1772 : BitVec 32 := Scalar.muli v1767 c1_i32_1221
  let v1773 : BitVec 32 := Scalar.addi c0_i32_1222 v1772
  v1773.toNat
def k0_dev89 (d0 : Dev nD) : Nat :=
  let c0_i32_1238 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1226 : BitVec 32 := 27#32
  let v1781 : BitVec 32 := Scalar.addi v2 c27_i32_1226
  let c32_i32_1227 : BitVec 32 := 32#32
  let c0_i32_1228 : BitVec 32 := 0#32
  let v1782 : BitVec 1 := Scalar.cmpi .eq c32_i32_1227 c0_i32_1228
  let c1_i32_1229 : BitVec 32 := 1#32
  let v1783 : BitVec 32 := Scalar.select v1782 c1_i32_1229 c32_i32_1227
  let v1784 : BitVec 32 := Scalar.remsi v1781 v1783
  let c0_i32_1231 : BitVec 32 := 0#32
  let v1786 : BitVec 1 := Scalar.cmpi .slt v1784 c0_i32_1231
  let c0_i32_1232 : BitVec 32 := 0#32
  let v1787 : BitVec 1 := Scalar.cmpi .slt v1783 c0_i32_1232
  let v1788 : BitVec 1 := Scalar.xori v1786 v1787
  let c0_i32_1230 : BitVec 32 := 0#32
  let v1785 : BitVec 1 := Scalar.cmpi .ne v1784 c0_i32_1230
  let v1789 : BitVec 1 := Scalar.andi v1788 v1785
  let v1790 : BitVec 32 := Scalar.addi v1784 v1783
  let v1791 : BitVec 32 := Scalar.select v1789 v1790 v1784
  let c1_i32_1237 : BitVec 32 := 1#32
  let v1796 : BitVec 32 := Scalar.muli v1791 c1_i32_1237
  let v1797 : BitVec 32 := Scalar.addi c0_i32_1238 v1796
  v1797.toNat
def k0_dev90 (d0 : Dev nD) : Nat :=
  let c0_i32_1254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1242 : BitVec 32 := 28#32
  let v1805 : BitVec 32 := Scalar.addi v2 c28_i32_1242
  let c32_i32_1243 : BitVec 32 := 32#32
  let c0_i32_1244 : BitVec 32 := 0#32
  let v1806 : BitVec 1 := Scalar.cmpi .eq c32_i32_1243 c0_i32_1244
  let c1_i32_1245 : BitVec 32 := 1#32
  let v1807 : BitVec 32 := Scalar.select v1806 c1_i32_1245 c32_i32_1243
  let v1808 : BitVec 32 := Scalar.remsi v1805 v1807
  let c0_i32_1247 : BitVec 32 := 0#32
  let v1810 : BitVec 1 := Scalar.cmpi .slt v1808 c0_i32_1247
  let c0_i32_1248 : BitVec 32 := 0#32
  let v1811 : BitVec 1 := Scalar.cmpi .slt v1807 c0_i32_1248
  let v1812 : BitVec 1 := Scalar.xori v1810 v1811
  let c0_i32_1246 : BitVec 32 := 0#32
  let v1809 : BitVec 1 := Scalar.cmpi .ne v1808 c0_i32_1246
  let v1813 : BitVec 1 := Scalar.andi v1812 v1809
  let v1814 : BitVec 32 := Scalar.addi v1808 v1807
  let v1815 : BitVec 32 := Scalar.select v1813 v1814 v1808
  let c1_i32_1253 : BitVec 32 := 1#32
  let v1820 : BitVec 32 := Scalar.muli v1815 c1_i32_1253
  let v1821 : BitVec 32 := Scalar.addi c0_i32_1254 v1820
  v1821.toNat
def k0_dev91 (d0 : Dev nD) : Nat :=
  let c0_i32_1270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1258 : BitVec 32 := 29#32
  let v1829 : BitVec 32 := Scalar.addi v2 c29_i32_1258
  let c32_i32_1259 : BitVec 32 := 32#32
  let c0_i32_1260 : BitVec 32 := 0#32
  let v1830 : BitVec 1 := Scalar.cmpi .eq c32_i32_1259 c0_i32_1260
  let c1_i32_1261 : BitVec 32 := 1#32
  let v1831 : BitVec 32 := Scalar.select v1830 c1_i32_1261 c32_i32_1259
  let v1832 : BitVec 32 := Scalar.remsi v1829 v1831
  let c0_i32_1263 : BitVec 32 := 0#32
  let v1834 : BitVec 1 := Scalar.cmpi .slt v1832 c0_i32_1263
  let c0_i32_1264 : BitVec 32 := 0#32
  let v1835 : BitVec 1 := Scalar.cmpi .slt v1831 c0_i32_1264
  let v1836 : BitVec 1 := Scalar.xori v1834 v1835
  let c0_i32_1262 : BitVec 32 := 0#32
  let v1833 : BitVec 1 := Scalar.cmpi .ne v1832 c0_i32_1262
  let v1837 : BitVec 1 := Scalar.andi v1836 v1833
  let v1838 : BitVec 32 := Scalar.addi v1832 v1831
  let v1839 : BitVec 32 := Scalar.select v1837 v1838 v1832
  let c1_i32_1269 : BitVec 32 := 1#32
  let v1844 : BitVec 32 := Scalar.muli v1839 c1_i32_1269
  let v1845 : BitVec 32 := Scalar.addi c0_i32_1270 v1844
  v1845.toNat
def k0_dev92 (d0 : Dev nD) : Nat :=
  let c0_i32_1286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1274 : BitVec 32 := 30#32
  let v1853 : BitVec 32 := Scalar.addi v2 c30_i32_1274
  let c32_i32_1275 : BitVec 32 := 32#32
  let c0_i32_1276 : BitVec 32 := 0#32
  let v1854 : BitVec 1 := Scalar.cmpi .eq c32_i32_1275 c0_i32_1276
  let c1_i32_1277 : BitVec 32 := 1#32
  let v1855 : BitVec 32 := Scalar.select v1854 c1_i32_1277 c32_i32_1275
  let v1856 : BitVec 32 := Scalar.remsi v1853 v1855
  let c0_i32_1279 : BitVec 32 := 0#32
  let v1858 : BitVec 1 := Scalar.cmpi .slt v1856 c0_i32_1279
  let c0_i32_1280 : BitVec 32 := 0#32
  let v1859 : BitVec 1 := Scalar.cmpi .slt v1855 c0_i32_1280
  let v1860 : BitVec 1 := Scalar.xori v1858 v1859
  let c0_i32_1278 : BitVec 32 := 0#32
  let v1857 : BitVec 1 := Scalar.cmpi .ne v1856 c0_i32_1278
  let v1861 : BitVec 1 := Scalar.andi v1860 v1857
  let v1862 : BitVec 32 := Scalar.addi v1856 v1855
  let v1863 : BitVec 32 := Scalar.select v1861 v1862 v1856
  let c1_i32_1285 : BitVec 32 := 1#32
  let v1868 : BitVec 32 := Scalar.muli v1863 c1_i32_1285
  let v1869 : BitVec 32 := Scalar.addi c0_i32_1286 v1868
  v1869.toNat
def k0_dev93 (d0 : Dev nD) : Nat :=
  let c0_i32_1302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1290 : BitVec 32 := 31#32
  let v1877 : BitVec 32 := Scalar.addi v2 c31_i32_1290
  let c32_i32_1291 : BitVec 32 := 32#32
  let c0_i32_1292 : BitVec 32 := 0#32
  let v1878 : BitVec 1 := Scalar.cmpi .eq c32_i32_1291 c0_i32_1292
  let c1_i32_1293 : BitVec 32 := 1#32
  let v1879 : BitVec 32 := Scalar.select v1878 c1_i32_1293 c32_i32_1291
  let v1880 : BitVec 32 := Scalar.remsi v1877 v1879
  let c0_i32_1295 : BitVec 32 := 0#32
  let v1882 : BitVec 1 := Scalar.cmpi .slt v1880 c0_i32_1295
  let c0_i32_1296 : BitVec 32 := 0#32
  let v1883 : BitVec 1 := Scalar.cmpi .slt v1879 c0_i32_1296
  let v1884 : BitVec 1 := Scalar.xori v1882 v1883
  let c0_i32_1294 : BitVec 32 := 0#32
  let v1881 : BitVec 1 := Scalar.cmpi .ne v1880 c0_i32_1294
  let v1885 : BitVec 1 := Scalar.andi v1884 v1881
  let v1886 : BitVec 32 := Scalar.addi v1880 v1879
  let v1887 : BitVec 32 := Scalar.select v1885 v1886 v1880
  let c1_i32_1301 : BitVec 32 := 1#32
  let v1892 : BitVec 32 := Scalar.muli v1887 c1_i32_1301
  let v1893 : BitVec 32 := Scalar.addi c0_i32_1302 v1892
  v1893.toNat
def k0_off4 (d0 : Dev nD) (c0_i32_1307 : BitVec 32) : Fin 2 → Nat :=
  let c8_i32_1306 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1901 : BitVec 32 := Scalar.muli c8_i32_1306 v2
  let v1902 : BitVec 32 := Scalar.addi c0_i32_1307 v1901
  let v1903 : Index := Scalar.indexCast v1902
  let c0_1308 : Index := 0#32
  ![v1903.toNat, 0]
def k0_off5 (d0 : Dev nD) (c0_i32_1309 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1905 : BitVec 32 := Scalar.addi c0_i32_1309 v2
  let v1906 : Index := Scalar.indexCast v1905
  let c0_1310 : Index := 0#32
  let c0_1311 : Index := 0#32
  ![v1906.toNat, 0, 0]
def k0_off6 (d0 : Dev nD) (c0_i32_1328 : BitVec 32) (c1_i32_1318 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1919 : BitVec 32 := Scalar.addi v2 c1_i32_1318
  let c32_i32_1319 : BitVec 32 := 32#32
  let c0_i32_1320 : BitVec 32 := 0#32
  let v1920 : BitVec 1 := Scalar.cmpi .eq c32_i32_1319 c0_i32_1320
  let c1_i32_1321 : BitVec 32 := 1#32
  let v1921 : BitVec 32 := Scalar.select v1920 c1_i32_1321 c32_i32_1319
  let v1922 : BitVec 32 := Scalar.remsi v1919 v1921
  let c0_i32_1323 : BitVec 32 := 0#32
  let v1924 : BitVec 1 := Scalar.cmpi .slt v1922 c0_i32_1323
  let c0_i32_1324 : BitVec 32 := 0#32
  let v1925 : BitVec 1 := Scalar.cmpi .slt v1921 c0_i32_1324
  let v1926 : BitVec 1 := Scalar.xori v1924 v1925
  let c0_i32_1322 : BitVec 32 := 0#32
  let v1923 : BitVec 1 := Scalar.cmpi .ne v1922 c0_i32_1322
  let v1927 : BitVec 1 := Scalar.andi v1926 v1923
  let v1928 : BitVec 32 := Scalar.addi v1922 v1921
  let v1929 : BitVec 32 := Scalar.select v1927 v1928 v1922
  let v1933 : BitVec 32 := Scalar.addi c0_i32_1328 v1929
  ![v1933.toNat]
def k0_off7 (d0 : Dev nD) (c0_i32_1327 : BitVec 32) (c1_i32_1318 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1919 : BitVec 32 := Scalar.addi v2 c1_i32_1318
  let c32_i32_1319 : BitVec 32 := 32#32
  let c0_i32_1320 : BitVec 32 := 0#32
  let v1920 : BitVec 1 := Scalar.cmpi .eq c32_i32_1319 c0_i32_1320
  let c1_i32_1321 : BitVec 32 := 1#32
  let v1921 : BitVec 32 := Scalar.select v1920 c1_i32_1321 c32_i32_1319
  let v1922 : BitVec 32 := Scalar.remsi v1919 v1921
  let c0_i32_1323 : BitVec 32 := 0#32
  let v1924 : BitVec 1 := Scalar.cmpi .slt v1922 c0_i32_1323
  let c0_i32_1324 : BitVec 32 := 0#32
  let v1925 : BitVec 1 := Scalar.cmpi .slt v1921 c0_i32_1324
  let v1926 : BitVec 1 := Scalar.xori v1924 v1925
  let c0_i32_1322 : BitVec 32 := 0#32
  let v1923 : BitVec 1 := Scalar.cmpi .ne v1922 c0_i32_1322
  let v1927 : BitVec 1 := Scalar.andi v1926 v1923
  let v1928 : BitVec 32 := Scalar.addi v1922 v1921
  let v1929 : BitVec 32 := Scalar.select v1927 v1928 v1922
  let v1932 : BitVec 32 := Scalar.addi c0_i32_1327 v1929
  let c0_i32_1332 : BitVec 32 := 0#32
  let c0_i32_1333 : BitVec 32 := 0#32
  ![v1932.toNat, 0, 0]
def k0_dev94 (d0 : Dev nD) : Nat :=
  let c0_i32_1863 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1851 : BitVec 32 := 1#32
  let v2610 : BitVec 32 := Scalar.addi v2 c1_i32_1851
  let c32_i32_1852 : BitVec 32 := 32#32
  let c0_i32_1853 : BitVec 32 := 0#32
  let v2611 : BitVec 1 := Scalar.cmpi .eq c32_i32_1852 c0_i32_1853
  let c1_i32_1854 : BitVec 32 := 1#32
  let v2612 : BitVec 32 := Scalar.select v2611 c1_i32_1854 c32_i32_1852
  let v2613 : BitVec 32 := Scalar.remsi v2610 v2612
  let c0_i32_1856 : BitVec 32 := 0#32
  let v2615 : BitVec 1 := Scalar.cmpi .slt v2613 c0_i32_1856
  let c0_i32_1857 : BitVec 32 := 0#32
  let v2616 : BitVec 1 := Scalar.cmpi .slt v2612 c0_i32_1857
  let v2617 : BitVec 1 := Scalar.xori v2615 v2616
  let c0_i32_1855 : BitVec 32 := 0#32
  let v2614 : BitVec 1 := Scalar.cmpi .ne v2613 c0_i32_1855
  let v2618 : BitVec 1 := Scalar.andi v2617 v2614
  let v2619 : BitVec 32 := Scalar.addi v2613 v2612
  let v2620 : BitVec 32 := Scalar.select v2618 v2619 v2613
  let c1_i32_1862 : BitVec 32 := 1#32
  let v2624 : BitVec 32 := Scalar.muli v2620 c1_i32_1862
  let v2625 : BitVec 32 := Scalar.addi c0_i32_1863 v2624
  v2625.toNat
def k0_dev95 (d0 : Dev nD) : Nat :=
  let c0_i32_1880 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1868 : BitVec 32 := 2#32
  let v2634 : BitVec 32 := Scalar.addi v2 c2_i32_1868
  let c32_i32_1869 : BitVec 32 := 32#32
  let c0_i32_1870 : BitVec 32 := 0#32
  let v2635 : BitVec 1 := Scalar.cmpi .eq c32_i32_1869 c0_i32_1870
  let c1_i32_1871 : BitVec 32 := 1#32
  let v2636 : BitVec 32 := Scalar.select v2635 c1_i32_1871 c32_i32_1869
  let v2637 : BitVec 32 := Scalar.remsi v2634 v2636
  let c0_i32_1873 : BitVec 32 := 0#32
  let v2639 : BitVec 1 := Scalar.cmpi .slt v2637 c0_i32_1873
  let c0_i32_1874 : BitVec 32 := 0#32
  let v2640 : BitVec 1 := Scalar.cmpi .slt v2636 c0_i32_1874
  let v2641 : BitVec 1 := Scalar.xori v2639 v2640
  let c0_i32_1872 : BitVec 32 := 0#32
  let v2638 : BitVec 1 := Scalar.cmpi .ne v2637 c0_i32_1872
  let v2642 : BitVec 1 := Scalar.andi v2641 v2638
  let v2643 : BitVec 32 := Scalar.addi v2637 v2636
  let v2644 : BitVec 32 := Scalar.select v2642 v2643 v2637
  let c1_i32_1879 : BitVec 32 := 1#32
  let v2648 : BitVec 32 := Scalar.muli v2644 c1_i32_1879
  let v2649 : BitVec 32 := Scalar.addi c0_i32_1880 v2648
  v2649.toNat
def k0_dev96 (d0 : Dev nD) : Nat :=
  let c0_i32_1897 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1885 : BitVec 32 := 3#32
  let v2658 : BitVec 32 := Scalar.addi v2 c3_i32_1885
  let c32_i32_1886 : BitVec 32 := 32#32
  let c0_i32_1887 : BitVec 32 := 0#32
  let v2659 : BitVec 1 := Scalar.cmpi .eq c32_i32_1886 c0_i32_1887
  let c1_i32_1888 : BitVec 32 := 1#32
  let v2660 : BitVec 32 := Scalar.select v2659 c1_i32_1888 c32_i32_1886
  let v2661 : BitVec 32 := Scalar.remsi v2658 v2660
  let c0_i32_1890 : BitVec 32 := 0#32
  let v2663 : BitVec 1 := Scalar.cmpi .slt v2661 c0_i32_1890
  let c0_i32_1891 : BitVec 32 := 0#32
  let v2664 : BitVec 1 := Scalar.cmpi .slt v2660 c0_i32_1891
  let v2665 : BitVec 1 := Scalar.xori v2663 v2664
  let c0_i32_1889 : BitVec 32 := 0#32
  let v2662 : BitVec 1 := Scalar.cmpi .ne v2661 c0_i32_1889
  let v2666 : BitVec 1 := Scalar.andi v2665 v2662
  let v2667 : BitVec 32 := Scalar.addi v2661 v2660
  let v2668 : BitVec 32 := Scalar.select v2666 v2667 v2661
  let c1_i32_1896 : BitVec 32 := 1#32
  let v2672 : BitVec 32 := Scalar.muli v2668 c1_i32_1896
  let v2673 : BitVec 32 := Scalar.addi c0_i32_1897 v2672
  v2673.toNat
def k0_dev97 (d0 : Dev nD) : Nat :=
  let c0_i32_1914 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1902 : BitVec 32 := 4#32
  let v2682 : BitVec 32 := Scalar.addi v2 c4_i32_1902
  let c32_i32_1903 : BitVec 32 := 32#32
  let c0_i32_1904 : BitVec 32 := 0#32
  let v2683 : BitVec 1 := Scalar.cmpi .eq c32_i32_1903 c0_i32_1904
  let c1_i32_1905 : BitVec 32 := 1#32
  let v2684 : BitVec 32 := Scalar.select v2683 c1_i32_1905 c32_i32_1903
  let v2685 : BitVec 32 := Scalar.remsi v2682 v2684
  let c0_i32_1907 : BitVec 32 := 0#32
  let v2687 : BitVec 1 := Scalar.cmpi .slt v2685 c0_i32_1907
  let c0_i32_1908 : BitVec 32 := 0#32
  let v2688 : BitVec 1 := Scalar.cmpi .slt v2684 c0_i32_1908
  let v2689 : BitVec 1 := Scalar.xori v2687 v2688
  let c0_i32_1906 : BitVec 32 := 0#32
  let v2686 : BitVec 1 := Scalar.cmpi .ne v2685 c0_i32_1906
  let v2690 : BitVec 1 := Scalar.andi v2689 v2686
  let v2691 : BitVec 32 := Scalar.addi v2685 v2684
  let v2692 : BitVec 32 := Scalar.select v2690 v2691 v2685
  let c1_i32_1913 : BitVec 32 := 1#32
  let v2696 : BitVec 32 := Scalar.muli v2692 c1_i32_1913
  let v2697 : BitVec 32 := Scalar.addi c0_i32_1914 v2696
  v2697.toNat
def k0_dev98 (d0 : Dev nD) : Nat :=
  let c0_i32_1931 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1919 : BitVec 32 := 5#32
  let v2706 : BitVec 32 := Scalar.addi v2 c5_i32_1919
  let c32_i32_1920 : BitVec 32 := 32#32
  let c0_i32_1921 : BitVec 32 := 0#32
  let v2707 : BitVec 1 := Scalar.cmpi .eq c32_i32_1920 c0_i32_1921
  let c1_i32_1922 : BitVec 32 := 1#32
  let v2708 : BitVec 32 := Scalar.select v2707 c1_i32_1922 c32_i32_1920
  let v2709 : BitVec 32 := Scalar.remsi v2706 v2708
  let c0_i32_1924 : BitVec 32 := 0#32
  let v2711 : BitVec 1 := Scalar.cmpi .slt v2709 c0_i32_1924
  let c0_i32_1925 : BitVec 32 := 0#32
  let v2712 : BitVec 1 := Scalar.cmpi .slt v2708 c0_i32_1925
  let v2713 : BitVec 1 := Scalar.xori v2711 v2712
  let c0_i32_1923 : BitVec 32 := 0#32
  let v2710 : BitVec 1 := Scalar.cmpi .ne v2709 c0_i32_1923
  let v2714 : BitVec 1 := Scalar.andi v2713 v2710
  let v2715 : BitVec 32 := Scalar.addi v2709 v2708
  let v2716 : BitVec 32 := Scalar.select v2714 v2715 v2709
  let c1_i32_1930 : BitVec 32 := 1#32
  let v2720 : BitVec 32 := Scalar.muli v2716 c1_i32_1930
  let v2721 : BitVec 32 := Scalar.addi c0_i32_1931 v2720
  v2721.toNat
def k0_dev99 (d0 : Dev nD) : Nat :=
  let c0_i32_1948 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1936 : BitVec 32 := 6#32
  let v2730 : BitVec 32 := Scalar.addi v2 c6_i32_1936
  let c32_i32_1937 : BitVec 32 := 32#32
  let c0_i32_1938 : BitVec 32 := 0#32
  let v2731 : BitVec 1 := Scalar.cmpi .eq c32_i32_1937 c0_i32_1938
  let c1_i32_1939 : BitVec 32 := 1#32
  let v2732 : BitVec 32 := Scalar.select v2731 c1_i32_1939 c32_i32_1937
  let v2733 : BitVec 32 := Scalar.remsi v2730 v2732
  let c0_i32_1941 : BitVec 32 := 0#32
  let v2735 : BitVec 1 := Scalar.cmpi .slt v2733 c0_i32_1941
  let c0_i32_1942 : BitVec 32 := 0#32
  let v2736 : BitVec 1 := Scalar.cmpi .slt v2732 c0_i32_1942
  let v2737 : BitVec 1 := Scalar.xori v2735 v2736
  let c0_i32_1940 : BitVec 32 := 0#32
  let v2734 : BitVec 1 := Scalar.cmpi .ne v2733 c0_i32_1940
  let v2738 : BitVec 1 := Scalar.andi v2737 v2734
  let v2739 : BitVec 32 := Scalar.addi v2733 v2732
  let v2740 : BitVec 32 := Scalar.select v2738 v2739 v2733
  let c1_i32_1947 : BitVec 32 := 1#32
  let v2744 : BitVec 32 := Scalar.muli v2740 c1_i32_1947
  let v2745 : BitVec 32 := Scalar.addi c0_i32_1948 v2744
  v2745.toNat
def k0_dev100 (d0 : Dev nD) : Nat :=
  let c0_i32_1965 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1953 : BitVec 32 := 7#32
  let v2754 : BitVec 32 := Scalar.addi v2 c7_i32_1953
  let c32_i32_1954 : BitVec 32 := 32#32
  let c0_i32_1955 : BitVec 32 := 0#32
  let v2755 : BitVec 1 := Scalar.cmpi .eq c32_i32_1954 c0_i32_1955
  let c1_i32_1956 : BitVec 32 := 1#32
  let v2756 : BitVec 32 := Scalar.select v2755 c1_i32_1956 c32_i32_1954
  let v2757 : BitVec 32 := Scalar.remsi v2754 v2756
  let c0_i32_1958 : BitVec 32 := 0#32
  let v2759 : BitVec 1 := Scalar.cmpi .slt v2757 c0_i32_1958
  let c0_i32_1959 : BitVec 32 := 0#32
  let v2760 : BitVec 1 := Scalar.cmpi .slt v2756 c0_i32_1959
  let v2761 : BitVec 1 := Scalar.xori v2759 v2760
  let c0_i32_1957 : BitVec 32 := 0#32
  let v2758 : BitVec 1 := Scalar.cmpi .ne v2757 c0_i32_1957
  let v2762 : BitVec 1 := Scalar.andi v2761 v2758
  let v2763 : BitVec 32 := Scalar.addi v2757 v2756
  let v2764 : BitVec 32 := Scalar.select v2762 v2763 v2757
  let c1_i32_1964 : BitVec 32 := 1#32
  let v2768 : BitVec 32 := Scalar.muli v2764 c1_i32_1964
  let v2769 : BitVec 32 := Scalar.addi c0_i32_1965 v2768
  v2769.toNat
def k0_dev101 (d0 : Dev nD) : Nat :=
  let c0_i32_1982 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1970 : BitVec 32 := 8#32
  let v2778 : BitVec 32 := Scalar.addi v2 c8_i32_1970
  let c32_i32_1971 : BitVec 32 := 32#32
  let c0_i32_1972 : BitVec 32 := 0#32
  let v2779 : BitVec 1 := Scalar.cmpi .eq c32_i32_1971 c0_i32_1972
  let c1_i32_1973 : BitVec 32 := 1#32
  let v2780 : BitVec 32 := Scalar.select v2779 c1_i32_1973 c32_i32_1971
  let v2781 : BitVec 32 := Scalar.remsi v2778 v2780
  let c0_i32_1975 : BitVec 32 := 0#32
  let v2783 : BitVec 1 := Scalar.cmpi .slt v2781 c0_i32_1975
  let c0_i32_1976 : BitVec 32 := 0#32
  let v2784 : BitVec 1 := Scalar.cmpi .slt v2780 c0_i32_1976
  let v2785 : BitVec 1 := Scalar.xori v2783 v2784
  let c0_i32_1974 : BitVec 32 := 0#32
  let v2782 : BitVec 1 := Scalar.cmpi .ne v2781 c0_i32_1974
  let v2786 : BitVec 1 := Scalar.andi v2785 v2782
  let v2787 : BitVec 32 := Scalar.addi v2781 v2780
  let v2788 : BitVec 32 := Scalar.select v2786 v2787 v2781
  let c1_i32_1981 : BitVec 32 := 1#32
  let v2792 : BitVec 32 := Scalar.muli v2788 c1_i32_1981
  let v2793 : BitVec 32 := Scalar.addi c0_i32_1982 v2792
  v2793.toNat
def k0_dev102 (d0 : Dev nD) : Nat :=
  let c0_i32_1999 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1987 : BitVec 32 := 9#32
  let v2802 : BitVec 32 := Scalar.addi v2 c9_i32_1987
  let c32_i32_1988 : BitVec 32 := 32#32
  let c0_i32_1989 : BitVec 32 := 0#32
  let v2803 : BitVec 1 := Scalar.cmpi .eq c32_i32_1988 c0_i32_1989
  let c1_i32_1990 : BitVec 32 := 1#32
  let v2804 : BitVec 32 := Scalar.select v2803 c1_i32_1990 c32_i32_1988
  let v2805 : BitVec 32 := Scalar.remsi v2802 v2804
  let c0_i32_1992 : BitVec 32 := 0#32
  let v2807 : BitVec 1 := Scalar.cmpi .slt v2805 c0_i32_1992
  let c0_i32_1993 : BitVec 32 := 0#32
  let v2808 : BitVec 1 := Scalar.cmpi .slt v2804 c0_i32_1993
  let v2809 : BitVec 1 := Scalar.xori v2807 v2808
  let c0_i32_1991 : BitVec 32 := 0#32
  let v2806 : BitVec 1 := Scalar.cmpi .ne v2805 c0_i32_1991
  let v2810 : BitVec 1 := Scalar.andi v2809 v2806
  let v2811 : BitVec 32 := Scalar.addi v2805 v2804
  let v2812 : BitVec 32 := Scalar.select v2810 v2811 v2805
  let c1_i32_1998 : BitVec 32 := 1#32
  let v2816 : BitVec 32 := Scalar.muli v2812 c1_i32_1998
  let v2817 : BitVec 32 := Scalar.addi c0_i32_1999 v2816
  v2817.toNat
def k0_dev103 (d0 : Dev nD) : Nat :=
  let c0_i32_2016 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_2004 : BitVec 32 := 10#32
  let v2826 : BitVec 32 := Scalar.addi v2 c10_i32_2004
  let c32_i32_2005 : BitVec 32 := 32#32
  let c0_i32_2006 : BitVec 32 := 0#32
  let v2827 : BitVec 1 := Scalar.cmpi .eq c32_i32_2005 c0_i32_2006
  let c1_i32_2007 : BitVec 32 := 1#32
  let v2828 : BitVec 32 := Scalar.select v2827 c1_i32_2007 c32_i32_2005
  let v2829 : BitVec 32 := Scalar.remsi v2826 v2828
  let c0_i32_2009 : BitVec 32 := 0#32
  let v2831 : BitVec 1 := Scalar.cmpi .slt v2829 c0_i32_2009
  let c0_i32_2010 : BitVec 32 := 0#32
  let v2832 : BitVec 1 := Scalar.cmpi .slt v2828 c0_i32_2010
  let v2833 : BitVec 1 := Scalar.xori v2831 v2832
  let c0_i32_2008 : BitVec 32 := 0#32
  let v2830 : BitVec 1 := Scalar.cmpi .ne v2829 c0_i32_2008
  let v2834 : BitVec 1 := Scalar.andi v2833 v2830
  let v2835 : BitVec 32 := Scalar.addi v2829 v2828
  let v2836 : BitVec 32 := Scalar.select v2834 v2835 v2829
  let c1_i32_2015 : BitVec 32 := 1#32
  let v2840 : BitVec 32 := Scalar.muli v2836 c1_i32_2015
  let v2841 : BitVec 32 := Scalar.addi c0_i32_2016 v2840
  v2841.toNat
def k0_dev104 (d0 : Dev nD) : Nat :=
  let c0_i32_2033 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2021 : BitVec 32 := 11#32
  let v2850 : BitVec 32 := Scalar.addi v2 c11_i32_2021
  let c32_i32_2022 : BitVec 32 := 32#32
  let c0_i32_2023 : BitVec 32 := 0#32
  let v2851 : BitVec 1 := Scalar.cmpi .eq c32_i32_2022 c0_i32_2023
  let c1_i32_2024 : BitVec 32 := 1#32
  let v2852 : BitVec 32 := Scalar.select v2851 c1_i32_2024 c32_i32_2022
  let v2853 : BitVec 32 := Scalar.remsi v2850 v2852
  let c0_i32_2026 : BitVec 32 := 0#32
  let v2855 : BitVec 1 := Scalar.cmpi .slt v2853 c0_i32_2026
  let c0_i32_2027 : BitVec 32 := 0#32
  let v2856 : BitVec 1 := Scalar.cmpi .slt v2852 c0_i32_2027
  let v2857 : BitVec 1 := Scalar.xori v2855 v2856
  let c0_i32_2025 : BitVec 32 := 0#32
  let v2854 : BitVec 1 := Scalar.cmpi .ne v2853 c0_i32_2025
  let v2858 : BitVec 1 := Scalar.andi v2857 v2854
  let v2859 : BitVec 32 := Scalar.addi v2853 v2852
  let v2860 : BitVec 32 := Scalar.select v2858 v2859 v2853
  let c1_i32_2032 : BitVec 32 := 1#32
  let v2864 : BitVec 32 := Scalar.muli v2860 c1_i32_2032
  let v2865 : BitVec 32 := Scalar.addi c0_i32_2033 v2864
  v2865.toNat
def k0_dev105 (d0 : Dev nD) : Nat :=
  let c0_i32_2050 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2038 : BitVec 32 := 12#32
  let v2874 : BitVec 32 := Scalar.addi v2 c12_i32_2038
  let c32_i32_2039 : BitVec 32 := 32#32
  let c0_i32_2040 : BitVec 32 := 0#32
  let v2875 : BitVec 1 := Scalar.cmpi .eq c32_i32_2039 c0_i32_2040
  let c1_i32_2041 : BitVec 32 := 1#32
  let v2876 : BitVec 32 := Scalar.select v2875 c1_i32_2041 c32_i32_2039
  let v2877 : BitVec 32 := Scalar.remsi v2874 v2876
  let c0_i32_2043 : BitVec 32 := 0#32
  let v2879 : BitVec 1 := Scalar.cmpi .slt v2877 c0_i32_2043
  let c0_i32_2044 : BitVec 32 := 0#32
  let v2880 : BitVec 1 := Scalar.cmpi .slt v2876 c0_i32_2044
  let v2881 : BitVec 1 := Scalar.xori v2879 v2880
  let c0_i32_2042 : BitVec 32 := 0#32
  let v2878 : BitVec 1 := Scalar.cmpi .ne v2877 c0_i32_2042
  let v2882 : BitVec 1 := Scalar.andi v2881 v2878
  let v2883 : BitVec 32 := Scalar.addi v2877 v2876
  let v2884 : BitVec 32 := Scalar.select v2882 v2883 v2877
  let c1_i32_2049 : BitVec 32 := 1#32
  let v2888 : BitVec 32 := Scalar.muli v2884 c1_i32_2049
  let v2889 : BitVec 32 := Scalar.addi c0_i32_2050 v2888
  v2889.toNat
def k0_dev106 (d0 : Dev nD) : Nat :=
  let c0_i32_2067 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_2055 : BitVec 32 := 13#32
  let v2898 : BitVec 32 := Scalar.addi v2 c13_i32_2055
  let c32_i32_2056 : BitVec 32 := 32#32
  let c0_i32_2057 : BitVec 32 := 0#32
  let v2899 : BitVec 1 := Scalar.cmpi .eq c32_i32_2056 c0_i32_2057
  let c1_i32_2058 : BitVec 32 := 1#32
  let v2900 : BitVec 32 := Scalar.select v2899 c1_i32_2058 c32_i32_2056
  let v2901 : BitVec 32 := Scalar.remsi v2898 v2900
  let c0_i32_2060 : BitVec 32 := 0#32
  let v2903 : BitVec 1 := Scalar.cmpi .slt v2901 c0_i32_2060
  let c0_i32_2061 : BitVec 32 := 0#32
  let v2904 : BitVec 1 := Scalar.cmpi .slt v2900 c0_i32_2061
  let v2905 : BitVec 1 := Scalar.xori v2903 v2904
  let c0_i32_2059 : BitVec 32 := 0#32
  let v2902 : BitVec 1 := Scalar.cmpi .ne v2901 c0_i32_2059
  let v2906 : BitVec 1 := Scalar.andi v2905 v2902
  let v2907 : BitVec 32 := Scalar.addi v2901 v2900
  let v2908 : BitVec 32 := Scalar.select v2906 v2907 v2901
  let c1_i32_2066 : BitVec 32 := 1#32
  let v2912 : BitVec 32 := Scalar.muli v2908 c1_i32_2066
  let v2913 : BitVec 32 := Scalar.addi c0_i32_2067 v2912
  v2913.toNat
def k0_dev107 (d0 : Dev nD) : Nat :=
  let c0_i32_2084 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2072 : BitVec 32 := 14#32
  let v2922 : BitVec 32 := Scalar.addi v2 c14_i32_2072
  let c32_i32_2073 : BitVec 32 := 32#32
  let c0_i32_2074 : BitVec 32 := 0#32
  let v2923 : BitVec 1 := Scalar.cmpi .eq c32_i32_2073 c0_i32_2074
  let c1_i32_2075 : BitVec 32 := 1#32
  let v2924 : BitVec 32 := Scalar.select v2923 c1_i32_2075 c32_i32_2073
  let v2925 : BitVec 32 := Scalar.remsi v2922 v2924
  let c0_i32_2077 : BitVec 32 := 0#32
  let v2927 : BitVec 1 := Scalar.cmpi .slt v2925 c0_i32_2077
  let c0_i32_2078 : BitVec 32 := 0#32
  let v2928 : BitVec 1 := Scalar.cmpi .slt v2924 c0_i32_2078
  let v2929 : BitVec 1 := Scalar.xori v2927 v2928
  let c0_i32_2076 : BitVec 32 := 0#32
  let v2926 : BitVec 1 := Scalar.cmpi .ne v2925 c0_i32_2076
  let v2930 : BitVec 1 := Scalar.andi v2929 v2926
  let v2931 : BitVec 32 := Scalar.addi v2925 v2924
  let v2932 : BitVec 32 := Scalar.select v2930 v2931 v2925
  let c1_i32_2083 : BitVec 32 := 1#32
  let v2936 : BitVec 32 := Scalar.muli v2932 c1_i32_2083
  let v2937 : BitVec 32 := Scalar.addi c0_i32_2084 v2936
  v2937.toNat
def k0_dev108 (d0 : Dev nD) : Nat :=
  let c0_i32_2101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2089 : BitVec 32 := 15#32
  let v2946 : BitVec 32 := Scalar.addi v2 c15_i32_2089
  let c32_i32_2090 : BitVec 32 := 32#32
  let c0_i32_2091 : BitVec 32 := 0#32
  let v2947 : BitVec 1 := Scalar.cmpi .eq c32_i32_2090 c0_i32_2091
  let c1_i32_2092 : BitVec 32 := 1#32
  let v2948 : BitVec 32 := Scalar.select v2947 c1_i32_2092 c32_i32_2090
  let v2949 : BitVec 32 := Scalar.remsi v2946 v2948
  let c0_i32_2094 : BitVec 32 := 0#32
  let v2951 : BitVec 1 := Scalar.cmpi .slt v2949 c0_i32_2094
  let c0_i32_2095 : BitVec 32 := 0#32
  let v2952 : BitVec 1 := Scalar.cmpi .slt v2948 c0_i32_2095
  let v2953 : BitVec 1 := Scalar.xori v2951 v2952
  let c0_i32_2093 : BitVec 32 := 0#32
  let v2950 : BitVec 1 := Scalar.cmpi .ne v2949 c0_i32_2093
  let v2954 : BitVec 1 := Scalar.andi v2953 v2950
  let v2955 : BitVec 32 := Scalar.addi v2949 v2948
  let v2956 : BitVec 32 := Scalar.select v2954 v2955 v2949
  let c1_i32_2100 : BitVec 32 := 1#32
  let v2960 : BitVec 32 := Scalar.muli v2956 c1_i32_2100
  let v2961 : BitVec 32 := Scalar.addi c0_i32_2101 v2960
  v2961.toNat
def k0_dev109 (d0 : Dev nD) : Nat :=
  let c0_i32_2118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2106 : BitVec 32 := 16#32
  let v2970 : BitVec 32 := Scalar.addi v2 c16_i32_2106
  let c32_i32_2107 : BitVec 32 := 32#32
  let c0_i32_2108 : BitVec 32 := 0#32
  let v2971 : BitVec 1 := Scalar.cmpi .eq c32_i32_2107 c0_i32_2108
  let c1_i32_2109 : BitVec 32 := 1#32
  let v2972 : BitVec 32 := Scalar.select v2971 c1_i32_2109 c32_i32_2107
  let v2973 : BitVec 32 := Scalar.remsi v2970 v2972
  let c0_i32_2111 : BitVec 32 := 0#32
  let v2975 : BitVec 1 := Scalar.cmpi .slt v2973 c0_i32_2111
  let c0_i32_2112 : BitVec 32 := 0#32
  let v2976 : BitVec 1 := Scalar.cmpi .slt v2972 c0_i32_2112
  let v2977 : BitVec 1 := Scalar.xori v2975 v2976
  let c0_i32_2110 : BitVec 32 := 0#32
  let v2974 : BitVec 1 := Scalar.cmpi .ne v2973 c0_i32_2110
  let v2978 : BitVec 1 := Scalar.andi v2977 v2974
  let v2979 : BitVec 32 := Scalar.addi v2973 v2972
  let v2980 : BitVec 32 := Scalar.select v2978 v2979 v2973
  let c1_i32_2117 : BitVec 32 := 1#32
  let v2984 : BitVec 32 := Scalar.muli v2980 c1_i32_2117
  let v2985 : BitVec 32 := Scalar.addi c0_i32_2118 v2984
  v2985.toNat
def k0_dev110 (d0 : Dev nD) : Nat :=
  let c0_i32_2135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2123 : BitVec 32 := 17#32
  let v2994 : BitVec 32 := Scalar.addi v2 c17_i32_2123
  let c32_i32_2124 : BitVec 32 := 32#32
  let c0_i32_2125 : BitVec 32 := 0#32
  let v2995 : BitVec 1 := Scalar.cmpi .eq c32_i32_2124 c0_i32_2125
  let c1_i32_2126 : BitVec 32 := 1#32
  let v2996 : BitVec 32 := Scalar.select v2995 c1_i32_2126 c32_i32_2124
  let v2997 : BitVec 32 := Scalar.remsi v2994 v2996
  let c0_i32_2128 : BitVec 32 := 0#32
  let v2999 : BitVec 1 := Scalar.cmpi .slt v2997 c0_i32_2128
  let c0_i32_2129 : BitVec 32 := 0#32
  let v3000 : BitVec 1 := Scalar.cmpi .slt v2996 c0_i32_2129
  let v3001 : BitVec 1 := Scalar.xori v2999 v3000
  let c0_i32_2127 : BitVec 32 := 0#32
  let v2998 : BitVec 1 := Scalar.cmpi .ne v2997 c0_i32_2127
  let v3002 : BitVec 1 := Scalar.andi v3001 v2998
  let v3003 : BitVec 32 := Scalar.addi v2997 v2996
  let v3004 : BitVec 32 := Scalar.select v3002 v3003 v2997
  let c1_i32_2134 : BitVec 32 := 1#32
  let v3008 : BitVec 32 := Scalar.muli v3004 c1_i32_2134
  let v3009 : BitVec 32 := Scalar.addi c0_i32_2135 v3008
  v3009.toNat
def k0_dev111 (d0 : Dev nD) : Nat :=
  let c0_i32_2152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2140 : BitVec 32 := 18#32
  let v3018 : BitVec 32 := Scalar.addi v2 c18_i32_2140
  let c32_i32_2141 : BitVec 32 := 32#32
  let c0_i32_2142 : BitVec 32 := 0#32
  let v3019 : BitVec 1 := Scalar.cmpi .eq c32_i32_2141 c0_i32_2142
  let c1_i32_2143 : BitVec 32 := 1#32
  let v3020 : BitVec 32 := Scalar.select v3019 c1_i32_2143 c32_i32_2141
  let v3021 : BitVec 32 := Scalar.remsi v3018 v3020
  let c0_i32_2145 : BitVec 32 := 0#32
  let v3023 : BitVec 1 := Scalar.cmpi .slt v3021 c0_i32_2145
  let c0_i32_2146 : BitVec 32 := 0#32
  let v3024 : BitVec 1 := Scalar.cmpi .slt v3020 c0_i32_2146
  let v3025 : BitVec 1 := Scalar.xori v3023 v3024
  let c0_i32_2144 : BitVec 32 := 0#32
  let v3022 : BitVec 1 := Scalar.cmpi .ne v3021 c0_i32_2144
  let v3026 : BitVec 1 := Scalar.andi v3025 v3022
  let v3027 : BitVec 32 := Scalar.addi v3021 v3020
  let v3028 : BitVec 32 := Scalar.select v3026 v3027 v3021
  let c1_i32_2151 : BitVec 32 := 1#32
  let v3032 : BitVec 32 := Scalar.muli v3028 c1_i32_2151
  let v3033 : BitVec 32 := Scalar.addi c0_i32_2152 v3032
  v3033.toNat
def k0_dev112 (d0 : Dev nD) : Nat :=
  let c0_i32_2169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2157 : BitVec 32 := 19#32
  let v3042 : BitVec 32 := Scalar.addi v2 c19_i32_2157
  let c32_i32_2158 : BitVec 32 := 32#32
  let c0_i32_2159 : BitVec 32 := 0#32
  let v3043 : BitVec 1 := Scalar.cmpi .eq c32_i32_2158 c0_i32_2159
  let c1_i32_2160 : BitVec 32 := 1#32
  let v3044 : BitVec 32 := Scalar.select v3043 c1_i32_2160 c32_i32_2158
  let v3045 : BitVec 32 := Scalar.remsi v3042 v3044
  let c0_i32_2162 : BitVec 32 := 0#32
  let v3047 : BitVec 1 := Scalar.cmpi .slt v3045 c0_i32_2162
  let c0_i32_2163 : BitVec 32 := 0#32
  let v3048 : BitVec 1 := Scalar.cmpi .slt v3044 c0_i32_2163
  let v3049 : BitVec 1 := Scalar.xori v3047 v3048
  let c0_i32_2161 : BitVec 32 := 0#32
  let v3046 : BitVec 1 := Scalar.cmpi .ne v3045 c0_i32_2161
  let v3050 : BitVec 1 := Scalar.andi v3049 v3046
  let v3051 : BitVec 32 := Scalar.addi v3045 v3044
  let v3052 : BitVec 32 := Scalar.select v3050 v3051 v3045
  let c1_i32_2168 : BitVec 32 := 1#32
  let v3056 : BitVec 32 := Scalar.muli v3052 c1_i32_2168
  let v3057 : BitVec 32 := Scalar.addi c0_i32_2169 v3056
  v3057.toNat
def k0_dev113 (d0 : Dev nD) : Nat :=
  let c0_i32_2186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2174 : BitVec 32 := 20#32
  let v3066 : BitVec 32 := Scalar.addi v2 c20_i32_2174
  let c32_i32_2175 : BitVec 32 := 32#32
  let c0_i32_2176 : BitVec 32 := 0#32
  let v3067 : BitVec 1 := Scalar.cmpi .eq c32_i32_2175 c0_i32_2176
  let c1_i32_2177 : BitVec 32 := 1#32
  let v3068 : BitVec 32 := Scalar.select v3067 c1_i32_2177 c32_i32_2175
  let v3069 : BitVec 32 := Scalar.remsi v3066 v3068
  let c0_i32_2179 : BitVec 32 := 0#32
  let v3071 : BitVec 1 := Scalar.cmpi .slt v3069 c0_i32_2179
  let c0_i32_2180 : BitVec 32 := 0#32
  let v3072 : BitVec 1 := Scalar.cmpi .slt v3068 c0_i32_2180
  let v3073 : BitVec 1 := Scalar.xori v3071 v3072
  let c0_i32_2178 : BitVec 32 := 0#32
  let v3070 : BitVec 1 := Scalar.cmpi .ne v3069 c0_i32_2178
  let v3074 : BitVec 1 := Scalar.andi v3073 v3070
  let v3075 : BitVec 32 := Scalar.addi v3069 v3068
  let v3076 : BitVec 32 := Scalar.select v3074 v3075 v3069
  let c1_i32_2185 : BitVec 32 := 1#32
  let v3080 : BitVec 32 := Scalar.muli v3076 c1_i32_2185
  let v3081 : BitVec 32 := Scalar.addi c0_i32_2186 v3080
  v3081.toNat
def k0_dev114 (d0 : Dev nD) : Nat :=
  let c0_i32_2203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2191 : BitVec 32 := 21#32
  let v3090 : BitVec 32 := Scalar.addi v2 c21_i32_2191
  let c32_i32_2192 : BitVec 32 := 32#32
  let c0_i32_2193 : BitVec 32 := 0#32
  let v3091 : BitVec 1 := Scalar.cmpi .eq c32_i32_2192 c0_i32_2193
  let c1_i32_2194 : BitVec 32 := 1#32
  let v3092 : BitVec 32 := Scalar.select v3091 c1_i32_2194 c32_i32_2192
  let v3093 : BitVec 32 := Scalar.remsi v3090 v3092
  let c0_i32_2196 : BitVec 32 := 0#32
  let v3095 : BitVec 1 := Scalar.cmpi .slt v3093 c0_i32_2196
  let c0_i32_2197 : BitVec 32 := 0#32
  let v3096 : BitVec 1 := Scalar.cmpi .slt v3092 c0_i32_2197
  let v3097 : BitVec 1 := Scalar.xori v3095 v3096
  let c0_i32_2195 : BitVec 32 := 0#32
  let v3094 : BitVec 1 := Scalar.cmpi .ne v3093 c0_i32_2195
  let v3098 : BitVec 1 := Scalar.andi v3097 v3094
  let v3099 : BitVec 32 := Scalar.addi v3093 v3092
  let v3100 : BitVec 32 := Scalar.select v3098 v3099 v3093
  let c1_i32_2202 : BitVec 32 := 1#32
  let v3104 : BitVec 32 := Scalar.muli v3100 c1_i32_2202
  let v3105 : BitVec 32 := Scalar.addi c0_i32_2203 v3104
  v3105.toNat
def k0_dev115 (d0 : Dev nD) : Nat :=
  let c0_i32_2220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2208 : BitVec 32 := 22#32
  let v3114 : BitVec 32 := Scalar.addi v2 c22_i32_2208
  let c32_i32_2209 : BitVec 32 := 32#32
  let c0_i32_2210 : BitVec 32 := 0#32
  let v3115 : BitVec 1 := Scalar.cmpi .eq c32_i32_2209 c0_i32_2210
  let c1_i32_2211 : BitVec 32 := 1#32
  let v3116 : BitVec 32 := Scalar.select v3115 c1_i32_2211 c32_i32_2209
  let v3117 : BitVec 32 := Scalar.remsi v3114 v3116
  let c0_i32_2213 : BitVec 32 := 0#32
  let v3119 : BitVec 1 := Scalar.cmpi .slt v3117 c0_i32_2213
  let c0_i32_2214 : BitVec 32 := 0#32
  let v3120 : BitVec 1 := Scalar.cmpi .slt v3116 c0_i32_2214
  let v3121 : BitVec 1 := Scalar.xori v3119 v3120
  let c0_i32_2212 : BitVec 32 := 0#32
  let v3118 : BitVec 1 := Scalar.cmpi .ne v3117 c0_i32_2212
  let v3122 : BitVec 1 := Scalar.andi v3121 v3118
  let v3123 : BitVec 32 := Scalar.addi v3117 v3116
  let v3124 : BitVec 32 := Scalar.select v3122 v3123 v3117
  let c1_i32_2219 : BitVec 32 := 1#32
  let v3128 : BitVec 32 := Scalar.muli v3124 c1_i32_2219
  let v3129 : BitVec 32 := Scalar.addi c0_i32_2220 v3128
  v3129.toNat
def k0_dev116 (d0 : Dev nD) : Nat :=
  let c0_i32_2237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2225 : BitVec 32 := 23#32
  let v3138 : BitVec 32 := Scalar.addi v2 c23_i32_2225
  let c32_i32_2226 : BitVec 32 := 32#32
  let c0_i32_2227 : BitVec 32 := 0#32
  let v3139 : BitVec 1 := Scalar.cmpi .eq c32_i32_2226 c0_i32_2227
  let c1_i32_2228 : BitVec 32 := 1#32
  let v3140 : BitVec 32 := Scalar.select v3139 c1_i32_2228 c32_i32_2226
  let v3141 : BitVec 32 := Scalar.remsi v3138 v3140
  let c0_i32_2230 : BitVec 32 := 0#32
  let v3143 : BitVec 1 := Scalar.cmpi .slt v3141 c0_i32_2230
  let c0_i32_2231 : BitVec 32 := 0#32
  let v3144 : BitVec 1 := Scalar.cmpi .slt v3140 c0_i32_2231
  let v3145 : BitVec 1 := Scalar.xori v3143 v3144
  let c0_i32_2229 : BitVec 32 := 0#32
  let v3142 : BitVec 1 := Scalar.cmpi .ne v3141 c0_i32_2229
  let v3146 : BitVec 1 := Scalar.andi v3145 v3142
  let v3147 : BitVec 32 := Scalar.addi v3141 v3140
  let v3148 : BitVec 32 := Scalar.select v3146 v3147 v3141
  let c1_i32_2236 : BitVec 32 := 1#32
  let v3152 : BitVec 32 := Scalar.muli v3148 c1_i32_2236
  let v3153 : BitVec 32 := Scalar.addi c0_i32_2237 v3152
  v3153.toNat
def k0_dev117 (d0 : Dev nD) : Nat :=
  let c0_i32_2254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2242 : BitVec 32 := 24#32
  let v3162 : BitVec 32 := Scalar.addi v2 c24_i32_2242
  let c32_i32_2243 : BitVec 32 := 32#32
  let c0_i32_2244 : BitVec 32 := 0#32
  let v3163 : BitVec 1 := Scalar.cmpi .eq c32_i32_2243 c0_i32_2244
  let c1_i32_2245 : BitVec 32 := 1#32
  let v3164 : BitVec 32 := Scalar.select v3163 c1_i32_2245 c32_i32_2243
  let v3165 : BitVec 32 := Scalar.remsi v3162 v3164
  let c0_i32_2247 : BitVec 32 := 0#32
  let v3167 : BitVec 1 := Scalar.cmpi .slt v3165 c0_i32_2247
  let c0_i32_2248 : BitVec 32 := 0#32
  let v3168 : BitVec 1 := Scalar.cmpi .slt v3164 c0_i32_2248
  let v3169 : BitVec 1 := Scalar.xori v3167 v3168
  let c0_i32_2246 : BitVec 32 := 0#32
  let v3166 : BitVec 1 := Scalar.cmpi .ne v3165 c0_i32_2246
  let v3170 : BitVec 1 := Scalar.andi v3169 v3166
  let v3171 : BitVec 32 := Scalar.addi v3165 v3164
  let v3172 : BitVec 32 := Scalar.select v3170 v3171 v3165
  let c1_i32_2253 : BitVec 32 := 1#32
  let v3176 : BitVec 32 := Scalar.muli v3172 c1_i32_2253
  let v3177 : BitVec 32 := Scalar.addi c0_i32_2254 v3176
  v3177.toNat
def k0_dev118 (d0 : Dev nD) : Nat :=
  let c0_i32_2271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2259 : BitVec 32 := 25#32
  let v3186 : BitVec 32 := Scalar.addi v2 c25_i32_2259
  let c32_i32_2260 : BitVec 32 := 32#32
  let c0_i32_2261 : BitVec 32 := 0#32
  let v3187 : BitVec 1 := Scalar.cmpi .eq c32_i32_2260 c0_i32_2261
  let c1_i32_2262 : BitVec 32 := 1#32
  let v3188 : BitVec 32 := Scalar.select v3187 c1_i32_2262 c32_i32_2260
  let v3189 : BitVec 32 := Scalar.remsi v3186 v3188
  let c0_i32_2264 : BitVec 32 := 0#32
  let v3191 : BitVec 1 := Scalar.cmpi .slt v3189 c0_i32_2264
  let c0_i32_2265 : BitVec 32 := 0#32
  let v3192 : BitVec 1 := Scalar.cmpi .slt v3188 c0_i32_2265
  let v3193 : BitVec 1 := Scalar.xori v3191 v3192
  let c0_i32_2263 : BitVec 32 := 0#32
  let v3190 : BitVec 1 := Scalar.cmpi .ne v3189 c0_i32_2263
  let v3194 : BitVec 1 := Scalar.andi v3193 v3190
  let v3195 : BitVec 32 := Scalar.addi v3189 v3188
  let v3196 : BitVec 32 := Scalar.select v3194 v3195 v3189
  let c1_i32_2270 : BitVec 32 := 1#32
  let v3200 : BitVec 32 := Scalar.muli v3196 c1_i32_2270
  let v3201 : BitVec 32 := Scalar.addi c0_i32_2271 v3200
  v3201.toNat
def k0_dev119 (d0 : Dev nD) : Nat :=
  let c0_i32_2288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2276 : BitVec 32 := 26#32
  let v3210 : BitVec 32 := Scalar.addi v2 c26_i32_2276
  let c32_i32_2277 : BitVec 32 := 32#32
  let c0_i32_2278 : BitVec 32 := 0#32
  let v3211 : BitVec 1 := Scalar.cmpi .eq c32_i32_2277 c0_i32_2278
  let c1_i32_2279 : BitVec 32 := 1#32
  let v3212 : BitVec 32 := Scalar.select v3211 c1_i32_2279 c32_i32_2277
  let v3213 : BitVec 32 := Scalar.remsi v3210 v3212
  let c0_i32_2281 : BitVec 32 := 0#32
  let v3215 : BitVec 1 := Scalar.cmpi .slt v3213 c0_i32_2281
  let c0_i32_2282 : BitVec 32 := 0#32
  let v3216 : BitVec 1 := Scalar.cmpi .slt v3212 c0_i32_2282
  let v3217 : BitVec 1 := Scalar.xori v3215 v3216
  let c0_i32_2280 : BitVec 32 := 0#32
  let v3214 : BitVec 1 := Scalar.cmpi .ne v3213 c0_i32_2280
  let v3218 : BitVec 1 := Scalar.andi v3217 v3214
  let v3219 : BitVec 32 := Scalar.addi v3213 v3212
  let v3220 : BitVec 32 := Scalar.select v3218 v3219 v3213
  let c1_i32_2287 : BitVec 32 := 1#32
  let v3224 : BitVec 32 := Scalar.muli v3220 c1_i32_2287
  let v3225 : BitVec 32 := Scalar.addi c0_i32_2288 v3224
  v3225.toNat
def k0_dev120 (d0 : Dev nD) : Nat :=
  let c0_i32_2305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2293 : BitVec 32 := 27#32
  let v3234 : BitVec 32 := Scalar.addi v2 c27_i32_2293
  let c32_i32_2294 : BitVec 32 := 32#32
  let c0_i32_2295 : BitVec 32 := 0#32
  let v3235 : BitVec 1 := Scalar.cmpi .eq c32_i32_2294 c0_i32_2295
  let c1_i32_2296 : BitVec 32 := 1#32
  let v3236 : BitVec 32 := Scalar.select v3235 c1_i32_2296 c32_i32_2294
  let v3237 : BitVec 32 := Scalar.remsi v3234 v3236
  let c0_i32_2298 : BitVec 32 := 0#32
  let v3239 : BitVec 1 := Scalar.cmpi .slt v3237 c0_i32_2298
  let c0_i32_2299 : BitVec 32 := 0#32
  let v3240 : BitVec 1 := Scalar.cmpi .slt v3236 c0_i32_2299
  let v3241 : BitVec 1 := Scalar.xori v3239 v3240
  let c0_i32_2297 : BitVec 32 := 0#32
  let v3238 : BitVec 1 := Scalar.cmpi .ne v3237 c0_i32_2297
  let v3242 : BitVec 1 := Scalar.andi v3241 v3238
  let v3243 : BitVec 32 := Scalar.addi v3237 v3236
  let v3244 : BitVec 32 := Scalar.select v3242 v3243 v3237
  let c1_i32_2304 : BitVec 32 := 1#32
  let v3248 : BitVec 32 := Scalar.muli v3244 c1_i32_2304
  let v3249 : BitVec 32 := Scalar.addi c0_i32_2305 v3248
  v3249.toNat
def k0_dev121 (d0 : Dev nD) : Nat :=
  let c0_i32_2322 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2310 : BitVec 32 := 28#32
  let v3258 : BitVec 32 := Scalar.addi v2 c28_i32_2310
  let c32_i32_2311 : BitVec 32 := 32#32
  let c0_i32_2312 : BitVec 32 := 0#32
  let v3259 : BitVec 1 := Scalar.cmpi .eq c32_i32_2311 c0_i32_2312
  let c1_i32_2313 : BitVec 32 := 1#32
  let v3260 : BitVec 32 := Scalar.select v3259 c1_i32_2313 c32_i32_2311
  let v3261 : BitVec 32 := Scalar.remsi v3258 v3260
  let c0_i32_2315 : BitVec 32 := 0#32
  let v3263 : BitVec 1 := Scalar.cmpi .slt v3261 c0_i32_2315
  let c0_i32_2316 : BitVec 32 := 0#32
  let v3264 : BitVec 1 := Scalar.cmpi .slt v3260 c0_i32_2316
  let v3265 : BitVec 1 := Scalar.xori v3263 v3264
  let c0_i32_2314 : BitVec 32 := 0#32
  let v3262 : BitVec 1 := Scalar.cmpi .ne v3261 c0_i32_2314
  let v3266 : BitVec 1 := Scalar.andi v3265 v3262
  let v3267 : BitVec 32 := Scalar.addi v3261 v3260
  let v3268 : BitVec 32 := Scalar.select v3266 v3267 v3261
  let c1_i32_2321 : BitVec 32 := 1#32
  let v3272 : BitVec 32 := Scalar.muli v3268 c1_i32_2321
  let v3273 : BitVec 32 := Scalar.addi c0_i32_2322 v3272
  v3273.toNat
def k0_dev122 (d0 : Dev nD) : Nat :=
  let c0_i32_2339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2327 : BitVec 32 := 29#32
  let v3282 : BitVec 32 := Scalar.addi v2 c29_i32_2327
  let c32_i32_2328 : BitVec 32 := 32#32
  let c0_i32_2329 : BitVec 32 := 0#32
  let v3283 : BitVec 1 := Scalar.cmpi .eq c32_i32_2328 c0_i32_2329
  let c1_i32_2330 : BitVec 32 := 1#32
  let v3284 : BitVec 32 := Scalar.select v3283 c1_i32_2330 c32_i32_2328
  let v3285 : BitVec 32 := Scalar.remsi v3282 v3284
  let c0_i32_2332 : BitVec 32 := 0#32
  let v3287 : BitVec 1 := Scalar.cmpi .slt v3285 c0_i32_2332
  let c0_i32_2333 : BitVec 32 := 0#32
  let v3288 : BitVec 1 := Scalar.cmpi .slt v3284 c0_i32_2333
  let v3289 : BitVec 1 := Scalar.xori v3287 v3288
  let c0_i32_2331 : BitVec 32 := 0#32
  let v3286 : BitVec 1 := Scalar.cmpi .ne v3285 c0_i32_2331
  let v3290 : BitVec 1 := Scalar.andi v3289 v3286
  let v3291 : BitVec 32 := Scalar.addi v3285 v3284
  let v3292 : BitVec 32 := Scalar.select v3290 v3291 v3285
  let c1_i32_2338 : BitVec 32 := 1#32
  let v3296 : BitVec 32 := Scalar.muli v3292 c1_i32_2338
  let v3297 : BitVec 32 := Scalar.addi c0_i32_2339 v3296
  v3297.toNat
def k0_dev123 (d0 : Dev nD) : Nat :=
  let c0_i32_2356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2344 : BitVec 32 := 30#32
  let v3306 : BitVec 32 := Scalar.addi v2 c30_i32_2344
  let c32_i32_2345 : BitVec 32 := 32#32
  let c0_i32_2346 : BitVec 32 := 0#32
  let v3307 : BitVec 1 := Scalar.cmpi .eq c32_i32_2345 c0_i32_2346
  let c1_i32_2347 : BitVec 32 := 1#32
  let v3308 : BitVec 32 := Scalar.select v3307 c1_i32_2347 c32_i32_2345
  let v3309 : BitVec 32 := Scalar.remsi v3306 v3308
  let c0_i32_2349 : BitVec 32 := 0#32
  let v3311 : BitVec 1 := Scalar.cmpi .slt v3309 c0_i32_2349
  let c0_i32_2350 : BitVec 32 := 0#32
  let v3312 : BitVec 1 := Scalar.cmpi .slt v3308 c0_i32_2350
  let v3313 : BitVec 1 := Scalar.xori v3311 v3312
  let c0_i32_2348 : BitVec 32 := 0#32
  let v3310 : BitVec 1 := Scalar.cmpi .ne v3309 c0_i32_2348
  let v3314 : BitVec 1 := Scalar.andi v3313 v3310
  let v3315 : BitVec 32 := Scalar.addi v3309 v3308
  let v3316 : BitVec 32 := Scalar.select v3314 v3315 v3309
  let c1_i32_2355 : BitVec 32 := 1#32
  let v3320 : BitVec 32 := Scalar.muli v3316 c1_i32_2355
  let v3321 : BitVec 32 := Scalar.addi c0_i32_2356 v3320
  v3321.toNat
def k0_dev124 (d0 : Dev nD) : Nat :=
  let c0_i32_2373 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2361 : BitVec 32 := 31#32
  let v3330 : BitVec 32 := Scalar.addi v2 c31_i32_2361
  let c32_i32_2362 : BitVec 32 := 32#32
  let c0_i32_2363 : BitVec 32 := 0#32
  let v3331 : BitVec 1 := Scalar.cmpi .eq c32_i32_2362 c0_i32_2363
  let c1_i32_2364 : BitVec 32 := 1#32
  let v3332 : BitVec 32 := Scalar.select v3331 c1_i32_2364 c32_i32_2362
  let v3333 : BitVec 32 := Scalar.remsi v3330 v3332
  let c0_i32_2366 : BitVec 32 := 0#32
  let v3335 : BitVec 1 := Scalar.cmpi .slt v3333 c0_i32_2366
  let c0_i32_2367 : BitVec 32 := 0#32
  let v3336 : BitVec 1 := Scalar.cmpi .slt v3332 c0_i32_2367
  let v3337 : BitVec 1 := Scalar.xori v3335 v3336
  let c0_i32_2365 : BitVec 32 := 0#32
  let v3334 : BitVec 1 := Scalar.cmpi .ne v3333 c0_i32_2365
  let v3338 : BitVec 1 := Scalar.andi v3337 v3334
  let v3339 : BitVec 32 := Scalar.addi v3333 v3332
  let v3340 : BitVec 32 := Scalar.select v3338 v3339 v3333
  let c1_i32_2372 : BitVec 32 := 1#32
  let v3344 : BitVec 32 := Scalar.muli v3340 c1_i32_2372
  let v3345 : BitVec 32 := Scalar.addi c0_i32_2373 v3344
  v3345.toNat
def k0_dev125 (d0 : Dev nD) : Nat :=
  let c0_i32_2923 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2911 : BitVec 32 := 1#32
  let v4045 : BitVec 32 := Scalar.addi v2 c1_i32_2911
  let c32_i32_2912 : BitVec 32 := 32#32
  let c0_i32_2913 : BitVec 32 := 0#32
  let v4046 : BitVec 1 := Scalar.cmpi .eq c32_i32_2912 c0_i32_2913
  let c1_i32_2914 : BitVec 32 := 1#32
  let v4047 : BitVec 32 := Scalar.select v4046 c1_i32_2914 c32_i32_2912
  let v4048 : BitVec 32 := Scalar.remsi v4045 v4047
  let c0_i32_2916 : BitVec 32 := 0#32
  let v4050 : BitVec 1 := Scalar.cmpi .slt v4048 c0_i32_2916
  let c0_i32_2917 : BitVec 32 := 0#32
  let v4051 : BitVec 1 := Scalar.cmpi .slt v4047 c0_i32_2917
  let v4052 : BitVec 1 := Scalar.xori v4050 v4051
  let c0_i32_2915 : BitVec 32 := 0#32
  let v4049 : BitVec 1 := Scalar.cmpi .ne v4048 c0_i32_2915
  let v4053 : BitVec 1 := Scalar.andi v4052 v4049
  let v4054 : BitVec 32 := Scalar.addi v4048 v4047
  let v4055 : BitVec 32 := Scalar.select v4053 v4054 v4048
  let c1_i32_2922 : BitVec 32 := 1#32
  let v4059 : BitVec 32 := Scalar.muli v4055 c1_i32_2922
  let v4060 : BitVec 32 := Scalar.addi c0_i32_2923 v4059
  v4060.toNat
def k0_dev126 (d0 : Dev nD) : Nat :=
  let c0_i32_2940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2928 : BitVec 32 := 2#32
  let v4069 : BitVec 32 := Scalar.addi v2 c2_i32_2928
  let c32_i32_2929 : BitVec 32 := 32#32
  let c0_i32_2930 : BitVec 32 := 0#32
  let v4070 : BitVec 1 := Scalar.cmpi .eq c32_i32_2929 c0_i32_2930
  let c1_i32_2931 : BitVec 32 := 1#32
  let v4071 : BitVec 32 := Scalar.select v4070 c1_i32_2931 c32_i32_2929
  let v4072 : BitVec 32 := Scalar.remsi v4069 v4071
  let c0_i32_2933 : BitVec 32 := 0#32
  let v4074 : BitVec 1 := Scalar.cmpi .slt v4072 c0_i32_2933
  let c0_i32_2934 : BitVec 32 := 0#32
  let v4075 : BitVec 1 := Scalar.cmpi .slt v4071 c0_i32_2934
  let v4076 : BitVec 1 := Scalar.xori v4074 v4075
  let c0_i32_2932 : BitVec 32 := 0#32
  let v4073 : BitVec 1 := Scalar.cmpi .ne v4072 c0_i32_2932
  let v4077 : BitVec 1 := Scalar.andi v4076 v4073
  let v4078 : BitVec 32 := Scalar.addi v4072 v4071
  let v4079 : BitVec 32 := Scalar.select v4077 v4078 v4072
  let c1_i32_2939 : BitVec 32 := 1#32
  let v4083 : BitVec 32 := Scalar.muli v4079 c1_i32_2939
  let v4084 : BitVec 32 := Scalar.addi c0_i32_2940 v4083
  v4084.toNat
def k0_dev127 (d0 : Dev nD) : Nat :=
  let c0_i32_2957 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_2945 : BitVec 32 := 3#32
  let v4093 : BitVec 32 := Scalar.addi v2 c3_i32_2945
  let c32_i32_2946 : BitVec 32 := 32#32
  let c0_i32_2947 : BitVec 32 := 0#32
  let v4094 : BitVec 1 := Scalar.cmpi .eq c32_i32_2946 c0_i32_2947
  let c1_i32_2948 : BitVec 32 := 1#32
  let v4095 : BitVec 32 := Scalar.select v4094 c1_i32_2948 c32_i32_2946
  let v4096 : BitVec 32 := Scalar.remsi v4093 v4095
  let c0_i32_2950 : BitVec 32 := 0#32
  let v4098 : BitVec 1 := Scalar.cmpi .slt v4096 c0_i32_2950
  let c0_i32_2951 : BitVec 32 := 0#32
  let v4099 : BitVec 1 := Scalar.cmpi .slt v4095 c0_i32_2951
  let v4100 : BitVec 1 := Scalar.xori v4098 v4099
  let c0_i32_2949 : BitVec 32 := 0#32
  let v4097 : BitVec 1 := Scalar.cmpi .ne v4096 c0_i32_2949
  let v4101 : BitVec 1 := Scalar.andi v4100 v4097
  let v4102 : BitVec 32 := Scalar.addi v4096 v4095
  let v4103 : BitVec 32 := Scalar.select v4101 v4102 v4096
  let c1_i32_2956 : BitVec 32 := 1#32
  let v4107 : BitVec 32 := Scalar.muli v4103 c1_i32_2956
  let v4108 : BitVec 32 := Scalar.addi c0_i32_2957 v4107
  v4108.toNat
def k0_dev128 (d0 : Dev nD) : Nat :=
  let c0_i32_2974 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2962 : BitVec 32 := 4#32
  let v4117 : BitVec 32 := Scalar.addi v2 c4_i32_2962
  let c32_i32_2963 : BitVec 32 := 32#32
  let c0_i32_2964 : BitVec 32 := 0#32
  let v4118 : BitVec 1 := Scalar.cmpi .eq c32_i32_2963 c0_i32_2964
  let c1_i32_2965 : BitVec 32 := 1#32
  let v4119 : BitVec 32 := Scalar.select v4118 c1_i32_2965 c32_i32_2963
  let v4120 : BitVec 32 := Scalar.remsi v4117 v4119
  let c0_i32_2967 : BitVec 32 := 0#32
  let v4122 : BitVec 1 := Scalar.cmpi .slt v4120 c0_i32_2967
  let c0_i32_2968 : BitVec 32 := 0#32
  let v4123 : BitVec 1 := Scalar.cmpi .slt v4119 c0_i32_2968
  let v4124 : BitVec 1 := Scalar.xori v4122 v4123
  let c0_i32_2966 : BitVec 32 := 0#32
  let v4121 : BitVec 1 := Scalar.cmpi .ne v4120 c0_i32_2966
  let v4125 : BitVec 1 := Scalar.andi v4124 v4121
  let v4126 : BitVec 32 := Scalar.addi v4120 v4119
  let v4127 : BitVec 32 := Scalar.select v4125 v4126 v4120
  let c1_i32_2973 : BitVec 32 := 1#32
  let v4131 : BitVec 32 := Scalar.muli v4127 c1_i32_2973
  let v4132 : BitVec 32 := Scalar.addi c0_i32_2974 v4131
  v4132.toNat
def k0_dev129 (d0 : Dev nD) : Nat :=
  let c0_i32_2991 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_2979 : BitVec 32 := 5#32
  let v4141 : BitVec 32 := Scalar.addi v2 c5_i32_2979
  let c32_i32_2980 : BitVec 32 := 32#32
  let c0_i32_2981 : BitVec 32 := 0#32
  let v4142 : BitVec 1 := Scalar.cmpi .eq c32_i32_2980 c0_i32_2981
  let c1_i32_2982 : BitVec 32 := 1#32
  let v4143 : BitVec 32 := Scalar.select v4142 c1_i32_2982 c32_i32_2980
  let v4144 : BitVec 32 := Scalar.remsi v4141 v4143
  let c0_i32_2984 : BitVec 32 := 0#32
  let v4146 : BitVec 1 := Scalar.cmpi .slt v4144 c0_i32_2984
  let c0_i32_2985 : BitVec 32 := 0#32
  let v4147 : BitVec 1 := Scalar.cmpi .slt v4143 c0_i32_2985
  let v4148 : BitVec 1 := Scalar.xori v4146 v4147
  let c0_i32_2983 : BitVec 32 := 0#32
  let v4145 : BitVec 1 := Scalar.cmpi .ne v4144 c0_i32_2983
  let v4149 : BitVec 1 := Scalar.andi v4148 v4145
  let v4150 : BitVec 32 := Scalar.addi v4144 v4143
  let v4151 : BitVec 32 := Scalar.select v4149 v4150 v4144
  let c1_i32_2990 : BitVec 32 := 1#32
  let v4155 : BitVec 32 := Scalar.muli v4151 c1_i32_2990
  let v4156 : BitVec 32 := Scalar.addi c0_i32_2991 v4155
  v4156.toNat
def k0_dev130 (d0 : Dev nD) : Nat :=
  let c0_i32_3008 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_2996 : BitVec 32 := 6#32
  let v4165 : BitVec 32 := Scalar.addi v2 c6_i32_2996
  let c32_i32_2997 : BitVec 32 := 32#32
  let c0_i32_2998 : BitVec 32 := 0#32
  let v4166 : BitVec 1 := Scalar.cmpi .eq c32_i32_2997 c0_i32_2998
  let c1_i32_2999 : BitVec 32 := 1#32
  let v4167 : BitVec 32 := Scalar.select v4166 c1_i32_2999 c32_i32_2997
  let v4168 : BitVec 32 := Scalar.remsi v4165 v4167
  let c0_i32_3001 : BitVec 32 := 0#32
  let v4170 : BitVec 1 := Scalar.cmpi .slt v4168 c0_i32_3001
  let c0_i32_3002 : BitVec 32 := 0#32
  let v4171 : BitVec 1 := Scalar.cmpi .slt v4167 c0_i32_3002
  let v4172 : BitVec 1 := Scalar.xori v4170 v4171
  let c0_i32_3000 : BitVec 32 := 0#32
  let v4169 : BitVec 1 := Scalar.cmpi .ne v4168 c0_i32_3000
  let v4173 : BitVec 1 := Scalar.andi v4172 v4169
  let v4174 : BitVec 32 := Scalar.addi v4168 v4167
  let v4175 : BitVec 32 := Scalar.select v4173 v4174 v4168
  let c1_i32_3007 : BitVec 32 := 1#32
  let v4179 : BitVec 32 := Scalar.muli v4175 c1_i32_3007
  let v4180 : BitVec 32 := Scalar.addi c0_i32_3008 v4179
  v4180.toNat
def k0_dev131 (d0 : Dev nD) : Nat :=
  let c0_i32_3025 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_3013 : BitVec 32 := 7#32
  let v4189 : BitVec 32 := Scalar.addi v2 c7_i32_3013
  let c32_i32_3014 : BitVec 32 := 32#32
  let c0_i32_3015 : BitVec 32 := 0#32
  let v4190 : BitVec 1 := Scalar.cmpi .eq c32_i32_3014 c0_i32_3015
  let c1_i32_3016 : BitVec 32 := 1#32
  let v4191 : BitVec 32 := Scalar.select v4190 c1_i32_3016 c32_i32_3014
  let v4192 : BitVec 32 := Scalar.remsi v4189 v4191
  let c0_i32_3018 : BitVec 32 := 0#32
  let v4194 : BitVec 1 := Scalar.cmpi .slt v4192 c0_i32_3018
  let c0_i32_3019 : BitVec 32 := 0#32
  let v4195 : BitVec 1 := Scalar.cmpi .slt v4191 c0_i32_3019
  let v4196 : BitVec 1 := Scalar.xori v4194 v4195
  let c0_i32_3017 : BitVec 32 := 0#32
  let v4193 : BitVec 1 := Scalar.cmpi .ne v4192 c0_i32_3017
  let v4197 : BitVec 1 := Scalar.andi v4196 v4193
  let v4198 : BitVec 32 := Scalar.addi v4192 v4191
  let v4199 : BitVec 32 := Scalar.select v4197 v4198 v4192
  let c1_i32_3024 : BitVec 32 := 1#32
  let v4203 : BitVec 32 := Scalar.muli v4199 c1_i32_3024
  let v4204 : BitVec 32 := Scalar.addi c0_i32_3025 v4203
  v4204.toNat
def k0_dev132 (d0 : Dev nD) : Nat :=
  let c0_i32_3042 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_3030 : BitVec 32 := 8#32
  let v4213 : BitVec 32 := Scalar.addi v2 c8_i32_3030
  let c32_i32_3031 : BitVec 32 := 32#32
  let c0_i32_3032 : BitVec 32 := 0#32
  let v4214 : BitVec 1 := Scalar.cmpi .eq c32_i32_3031 c0_i32_3032
  let c1_i32_3033 : BitVec 32 := 1#32
  let v4215 : BitVec 32 := Scalar.select v4214 c1_i32_3033 c32_i32_3031
  let v4216 : BitVec 32 := Scalar.remsi v4213 v4215
  let c0_i32_3035 : BitVec 32 := 0#32
  let v4218 : BitVec 1 := Scalar.cmpi .slt v4216 c0_i32_3035
  let c0_i32_3036 : BitVec 32 := 0#32
  let v4219 : BitVec 1 := Scalar.cmpi .slt v4215 c0_i32_3036
  let v4220 : BitVec 1 := Scalar.xori v4218 v4219
  let c0_i32_3034 : BitVec 32 := 0#32
  let v4217 : BitVec 1 := Scalar.cmpi .ne v4216 c0_i32_3034
  let v4221 : BitVec 1 := Scalar.andi v4220 v4217
  let v4222 : BitVec 32 := Scalar.addi v4216 v4215
  let v4223 : BitVec 32 := Scalar.select v4221 v4222 v4216
  let c1_i32_3041 : BitVec 32 := 1#32
  let v4227 : BitVec 32 := Scalar.muli v4223 c1_i32_3041
  let v4228 : BitVec 32 := Scalar.addi c0_i32_3042 v4227
  v4228.toNat
def k0_dev133 (d0 : Dev nD) : Nat :=
  let c0_i32_3059 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_3047 : BitVec 32 := 9#32
  let v4237 : BitVec 32 := Scalar.addi v2 c9_i32_3047
  let c32_i32_3048 : BitVec 32 := 32#32
  let c0_i32_3049 : BitVec 32 := 0#32
  let v4238 : BitVec 1 := Scalar.cmpi .eq c32_i32_3048 c0_i32_3049
  let c1_i32_3050 : BitVec 32 := 1#32
  let v4239 : BitVec 32 := Scalar.select v4238 c1_i32_3050 c32_i32_3048
  let v4240 : BitVec 32 := Scalar.remsi v4237 v4239
  let c0_i32_3052 : BitVec 32 := 0#32
  let v4242 : BitVec 1 := Scalar.cmpi .slt v4240 c0_i32_3052
  let c0_i32_3053 : BitVec 32 := 0#32
  let v4243 : BitVec 1 := Scalar.cmpi .slt v4239 c0_i32_3053
  let v4244 : BitVec 1 := Scalar.xori v4242 v4243
  let c0_i32_3051 : BitVec 32 := 0#32
  let v4241 : BitVec 1 := Scalar.cmpi .ne v4240 c0_i32_3051
  let v4245 : BitVec 1 := Scalar.andi v4244 v4241
  let v4246 : BitVec 32 := Scalar.addi v4240 v4239
  let v4247 : BitVec 32 := Scalar.select v4245 v4246 v4240
  let c1_i32_3058 : BitVec 32 := 1#32
  let v4251 : BitVec 32 := Scalar.muli v4247 c1_i32_3058
  let v4252 : BitVec 32 := Scalar.addi c0_i32_3059 v4251
  v4252.toNat
def k0_dev134 (d0 : Dev nD) : Nat :=
  let c0_i32_3076 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_3064 : BitVec 32 := 10#32
  let v4261 : BitVec 32 := Scalar.addi v2 c10_i32_3064
  let c32_i32_3065 : BitVec 32 := 32#32
  let c0_i32_3066 : BitVec 32 := 0#32
  let v4262 : BitVec 1 := Scalar.cmpi .eq c32_i32_3065 c0_i32_3066
  let c1_i32_3067 : BitVec 32 := 1#32
  let v4263 : BitVec 32 := Scalar.select v4262 c1_i32_3067 c32_i32_3065
  let v4264 : BitVec 32 := Scalar.remsi v4261 v4263
  let c0_i32_3069 : BitVec 32 := 0#32
  let v4266 : BitVec 1 := Scalar.cmpi .slt v4264 c0_i32_3069
  let c0_i32_3070 : BitVec 32 := 0#32
  let v4267 : BitVec 1 := Scalar.cmpi .slt v4263 c0_i32_3070
  let v4268 : BitVec 1 := Scalar.xori v4266 v4267
  let c0_i32_3068 : BitVec 32 := 0#32
  let v4265 : BitVec 1 := Scalar.cmpi .ne v4264 c0_i32_3068
  let v4269 : BitVec 1 := Scalar.andi v4268 v4265
  let v4270 : BitVec 32 := Scalar.addi v4264 v4263
  let v4271 : BitVec 32 := Scalar.select v4269 v4270 v4264
  let c1_i32_3075 : BitVec 32 := 1#32
  let v4275 : BitVec 32 := Scalar.muli v4271 c1_i32_3075
  let v4276 : BitVec 32 := Scalar.addi c0_i32_3076 v4275
  v4276.toNat
def k0_dev135 (d0 : Dev nD) : Nat :=
  let c0_i32_3093 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_3081 : BitVec 32 := 11#32
  let v4285 : BitVec 32 := Scalar.addi v2 c11_i32_3081
  let c32_i32_3082 : BitVec 32 := 32#32
  let c0_i32_3083 : BitVec 32 := 0#32
  let v4286 : BitVec 1 := Scalar.cmpi .eq c32_i32_3082 c0_i32_3083
  let c1_i32_3084 : BitVec 32 := 1#32
  let v4287 : BitVec 32 := Scalar.select v4286 c1_i32_3084 c32_i32_3082
  let v4288 : BitVec 32 := Scalar.remsi v4285 v4287
  let c0_i32_3086 : BitVec 32 := 0#32
  let v4290 : BitVec 1 := Scalar.cmpi .slt v4288 c0_i32_3086
  let c0_i32_3087 : BitVec 32 := 0#32
  let v4291 : BitVec 1 := Scalar.cmpi .slt v4287 c0_i32_3087
  let v4292 : BitVec 1 := Scalar.xori v4290 v4291
  let c0_i32_3085 : BitVec 32 := 0#32
  let v4289 : BitVec 1 := Scalar.cmpi .ne v4288 c0_i32_3085
  let v4293 : BitVec 1 := Scalar.andi v4292 v4289
  let v4294 : BitVec 32 := Scalar.addi v4288 v4287
  let v4295 : BitVec 32 := Scalar.select v4293 v4294 v4288
  let c1_i32_3092 : BitVec 32 := 1#32
  let v4299 : BitVec 32 := Scalar.muli v4295 c1_i32_3092
  let v4300 : BitVec 32 := Scalar.addi c0_i32_3093 v4299
  v4300.toNat
def k0_dev136 (d0 : Dev nD) : Nat :=
  let c0_i32_3110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_3098 : BitVec 32 := 12#32
  let v4309 : BitVec 32 := Scalar.addi v2 c12_i32_3098
  let c32_i32_3099 : BitVec 32 := 32#32
  let c0_i32_3100 : BitVec 32 := 0#32
  let v4310 : BitVec 1 := Scalar.cmpi .eq c32_i32_3099 c0_i32_3100
  let c1_i32_3101 : BitVec 32 := 1#32
  let v4311 : BitVec 32 := Scalar.select v4310 c1_i32_3101 c32_i32_3099
  let v4312 : BitVec 32 := Scalar.remsi v4309 v4311
  let c0_i32_3103 : BitVec 32 := 0#32
  let v4314 : BitVec 1 := Scalar.cmpi .slt v4312 c0_i32_3103
  let c0_i32_3104 : BitVec 32 := 0#32
  let v4315 : BitVec 1 := Scalar.cmpi .slt v4311 c0_i32_3104
  let v4316 : BitVec 1 := Scalar.xori v4314 v4315
  let c0_i32_3102 : BitVec 32 := 0#32
  let v4313 : BitVec 1 := Scalar.cmpi .ne v4312 c0_i32_3102
  let v4317 : BitVec 1 := Scalar.andi v4316 v4313
  let v4318 : BitVec 32 := Scalar.addi v4312 v4311
  let v4319 : BitVec 32 := Scalar.select v4317 v4318 v4312
  let c1_i32_3109 : BitVec 32 := 1#32
  let v4323 : BitVec 32 := Scalar.muli v4319 c1_i32_3109
  let v4324 : BitVec 32 := Scalar.addi c0_i32_3110 v4323
  v4324.toNat
def k0_dev137 (d0 : Dev nD) : Nat :=
  let c0_i32_3127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_3115 : BitVec 32 := 13#32
  let v4333 : BitVec 32 := Scalar.addi v2 c13_i32_3115
  let c32_i32_3116 : BitVec 32 := 32#32
  let c0_i32_3117 : BitVec 32 := 0#32
  let v4334 : BitVec 1 := Scalar.cmpi .eq c32_i32_3116 c0_i32_3117
  let c1_i32_3118 : BitVec 32 := 1#32
  let v4335 : BitVec 32 := Scalar.select v4334 c1_i32_3118 c32_i32_3116
  let v4336 : BitVec 32 := Scalar.remsi v4333 v4335
  let c0_i32_3120 : BitVec 32 := 0#32
  let v4338 : BitVec 1 := Scalar.cmpi .slt v4336 c0_i32_3120
  let c0_i32_3121 : BitVec 32 := 0#32
  let v4339 : BitVec 1 := Scalar.cmpi .slt v4335 c0_i32_3121
  let v4340 : BitVec 1 := Scalar.xori v4338 v4339
  let c0_i32_3119 : BitVec 32 := 0#32
  let v4337 : BitVec 1 := Scalar.cmpi .ne v4336 c0_i32_3119
  let v4341 : BitVec 1 := Scalar.andi v4340 v4337
  let v4342 : BitVec 32 := Scalar.addi v4336 v4335
  let v4343 : BitVec 32 := Scalar.select v4341 v4342 v4336
  let c1_i32_3126 : BitVec 32 := 1#32
  let v4347 : BitVec 32 := Scalar.muli v4343 c1_i32_3126
  let v4348 : BitVec 32 := Scalar.addi c0_i32_3127 v4347
  v4348.toNat
def k0_dev138 (d0 : Dev nD) : Nat :=
  let c0_i32_3144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_3132 : BitVec 32 := 14#32
  let v4357 : BitVec 32 := Scalar.addi v2 c14_i32_3132
  let c32_i32_3133 : BitVec 32 := 32#32
  let c0_i32_3134 : BitVec 32 := 0#32
  let v4358 : BitVec 1 := Scalar.cmpi .eq c32_i32_3133 c0_i32_3134
  let c1_i32_3135 : BitVec 32 := 1#32
  let v4359 : BitVec 32 := Scalar.select v4358 c1_i32_3135 c32_i32_3133
  let v4360 : BitVec 32 := Scalar.remsi v4357 v4359
  let c0_i32_3137 : BitVec 32 := 0#32
  let v4362 : BitVec 1 := Scalar.cmpi .slt v4360 c0_i32_3137
  let c0_i32_3138 : BitVec 32 := 0#32
  let v4363 : BitVec 1 := Scalar.cmpi .slt v4359 c0_i32_3138
  let v4364 : BitVec 1 := Scalar.xori v4362 v4363
  let c0_i32_3136 : BitVec 32 := 0#32
  let v4361 : BitVec 1 := Scalar.cmpi .ne v4360 c0_i32_3136
  let v4365 : BitVec 1 := Scalar.andi v4364 v4361
  let v4366 : BitVec 32 := Scalar.addi v4360 v4359
  let v4367 : BitVec 32 := Scalar.select v4365 v4366 v4360
  let c1_i32_3143 : BitVec 32 := 1#32
  let v4371 : BitVec 32 := Scalar.muli v4367 c1_i32_3143
  let v4372 : BitVec 32 := Scalar.addi c0_i32_3144 v4371
  v4372.toNat
def k0_dev139 (d0 : Dev nD) : Nat :=
  let c0_i32_3161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_3149 : BitVec 32 := 15#32
  let v4381 : BitVec 32 := Scalar.addi v2 c15_i32_3149
  let c32_i32_3150 : BitVec 32 := 32#32
  let c0_i32_3151 : BitVec 32 := 0#32
  let v4382 : BitVec 1 := Scalar.cmpi .eq c32_i32_3150 c0_i32_3151
  let c1_i32_3152 : BitVec 32 := 1#32
  let v4383 : BitVec 32 := Scalar.select v4382 c1_i32_3152 c32_i32_3150
  let v4384 : BitVec 32 := Scalar.remsi v4381 v4383
  let c0_i32_3154 : BitVec 32 := 0#32
  let v4386 : BitVec 1 := Scalar.cmpi .slt v4384 c0_i32_3154
  let c0_i32_3155 : BitVec 32 := 0#32
  let v4387 : BitVec 1 := Scalar.cmpi .slt v4383 c0_i32_3155
  let v4388 : BitVec 1 := Scalar.xori v4386 v4387
  let c0_i32_3153 : BitVec 32 := 0#32
  let v4385 : BitVec 1 := Scalar.cmpi .ne v4384 c0_i32_3153
  let v4389 : BitVec 1 := Scalar.andi v4388 v4385
  let v4390 : BitVec 32 := Scalar.addi v4384 v4383
  let v4391 : BitVec 32 := Scalar.select v4389 v4390 v4384
  let c1_i32_3160 : BitVec 32 := 1#32
  let v4395 : BitVec 32 := Scalar.muli v4391 c1_i32_3160
  let v4396 : BitVec 32 := Scalar.addi c0_i32_3161 v4395
  v4396.toNat
def k0_dev140 (d0 : Dev nD) : Nat :=
  let c0_i32_3178 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_3166 : BitVec 32 := 16#32
  let v4405 : BitVec 32 := Scalar.addi v2 c16_i32_3166
  let c32_i32_3167 : BitVec 32 := 32#32
  let c0_i32_3168 : BitVec 32 := 0#32
  let v4406 : BitVec 1 := Scalar.cmpi .eq c32_i32_3167 c0_i32_3168
  let c1_i32_3169 : BitVec 32 := 1#32
  let v4407 : BitVec 32 := Scalar.select v4406 c1_i32_3169 c32_i32_3167
  let v4408 : BitVec 32 := Scalar.remsi v4405 v4407
  let c0_i32_3171 : BitVec 32 := 0#32
  let v4410 : BitVec 1 := Scalar.cmpi .slt v4408 c0_i32_3171
  let c0_i32_3172 : BitVec 32 := 0#32
  let v4411 : BitVec 1 := Scalar.cmpi .slt v4407 c0_i32_3172
  let v4412 : BitVec 1 := Scalar.xori v4410 v4411
  let c0_i32_3170 : BitVec 32 := 0#32
  let v4409 : BitVec 1 := Scalar.cmpi .ne v4408 c0_i32_3170
  let v4413 : BitVec 1 := Scalar.andi v4412 v4409
  let v4414 : BitVec 32 := Scalar.addi v4408 v4407
  let v4415 : BitVec 32 := Scalar.select v4413 v4414 v4408
  let c1_i32_3177 : BitVec 32 := 1#32
  let v4419 : BitVec 32 := Scalar.muli v4415 c1_i32_3177
  let v4420 : BitVec 32 := Scalar.addi c0_i32_3178 v4419
  v4420.toNat
def k0_dev141 (d0 : Dev nD) : Nat :=
  let c0_i32_3195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_3183 : BitVec 32 := 17#32
  let v4429 : BitVec 32 := Scalar.addi v2 c17_i32_3183
  let c32_i32_3184 : BitVec 32 := 32#32
  let c0_i32_3185 : BitVec 32 := 0#32
  let v4430 : BitVec 1 := Scalar.cmpi .eq c32_i32_3184 c0_i32_3185
  let c1_i32_3186 : BitVec 32 := 1#32
  let v4431 : BitVec 32 := Scalar.select v4430 c1_i32_3186 c32_i32_3184
  let v4432 : BitVec 32 := Scalar.remsi v4429 v4431
  let c0_i32_3188 : BitVec 32 := 0#32
  let v4434 : BitVec 1 := Scalar.cmpi .slt v4432 c0_i32_3188
  let c0_i32_3189 : BitVec 32 := 0#32
  let v4435 : BitVec 1 := Scalar.cmpi .slt v4431 c0_i32_3189
  let v4436 : BitVec 1 := Scalar.xori v4434 v4435
  let c0_i32_3187 : BitVec 32 := 0#32
  let v4433 : BitVec 1 := Scalar.cmpi .ne v4432 c0_i32_3187
  let v4437 : BitVec 1 := Scalar.andi v4436 v4433
  let v4438 : BitVec 32 := Scalar.addi v4432 v4431
  let v4439 : BitVec 32 := Scalar.select v4437 v4438 v4432
  let c1_i32_3194 : BitVec 32 := 1#32
  let v4443 : BitVec 32 := Scalar.muli v4439 c1_i32_3194
  let v4444 : BitVec 32 := Scalar.addi c0_i32_3195 v4443
  v4444.toNat
def k0_dev142 (d0 : Dev nD) : Nat :=
  let c0_i32_3212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_3200 : BitVec 32 := 18#32
  let v4453 : BitVec 32 := Scalar.addi v2 c18_i32_3200
  let c32_i32_3201 : BitVec 32 := 32#32
  let c0_i32_3202 : BitVec 32 := 0#32
  let v4454 : BitVec 1 := Scalar.cmpi .eq c32_i32_3201 c0_i32_3202
  let c1_i32_3203 : BitVec 32 := 1#32
  let v4455 : BitVec 32 := Scalar.select v4454 c1_i32_3203 c32_i32_3201
  let v4456 : BitVec 32 := Scalar.remsi v4453 v4455
  let c0_i32_3205 : BitVec 32 := 0#32
  let v4458 : BitVec 1 := Scalar.cmpi .slt v4456 c0_i32_3205
  let c0_i32_3206 : BitVec 32 := 0#32
  let v4459 : BitVec 1 := Scalar.cmpi .slt v4455 c0_i32_3206
  let v4460 : BitVec 1 := Scalar.xori v4458 v4459
  let c0_i32_3204 : BitVec 32 := 0#32
  let v4457 : BitVec 1 := Scalar.cmpi .ne v4456 c0_i32_3204
  let v4461 : BitVec 1 := Scalar.andi v4460 v4457
  let v4462 : BitVec 32 := Scalar.addi v4456 v4455
  let v4463 : BitVec 32 := Scalar.select v4461 v4462 v4456
  let c1_i32_3211 : BitVec 32 := 1#32
  let v4467 : BitVec 32 := Scalar.muli v4463 c1_i32_3211
  let v4468 : BitVec 32 := Scalar.addi c0_i32_3212 v4467
  v4468.toNat
def k0_dev143 (d0 : Dev nD) : Nat :=
  let c0_i32_3229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_3217 : BitVec 32 := 19#32
  let v4477 : BitVec 32 := Scalar.addi v2 c19_i32_3217
  let c32_i32_3218 : BitVec 32 := 32#32
  let c0_i32_3219 : BitVec 32 := 0#32
  let v4478 : BitVec 1 := Scalar.cmpi .eq c32_i32_3218 c0_i32_3219
  let c1_i32_3220 : BitVec 32 := 1#32
  let v4479 : BitVec 32 := Scalar.select v4478 c1_i32_3220 c32_i32_3218
  let v4480 : BitVec 32 := Scalar.remsi v4477 v4479
  let c0_i32_3222 : BitVec 32 := 0#32
  let v4482 : BitVec 1 := Scalar.cmpi .slt v4480 c0_i32_3222
  let c0_i32_3223 : BitVec 32 := 0#32
  let v4483 : BitVec 1 := Scalar.cmpi .slt v4479 c0_i32_3223
  let v4484 : BitVec 1 := Scalar.xori v4482 v4483
  let c0_i32_3221 : BitVec 32 := 0#32
  let v4481 : BitVec 1 := Scalar.cmpi .ne v4480 c0_i32_3221
  let v4485 : BitVec 1 := Scalar.andi v4484 v4481
  let v4486 : BitVec 32 := Scalar.addi v4480 v4479
  let v4487 : BitVec 32 := Scalar.select v4485 v4486 v4480
  let c1_i32_3228 : BitVec 32 := 1#32
  let v4491 : BitVec 32 := Scalar.muli v4487 c1_i32_3228
  let v4492 : BitVec 32 := Scalar.addi c0_i32_3229 v4491
  v4492.toNat
def k0_dev144 (d0 : Dev nD) : Nat :=
  let c0_i32_3246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_3234 : BitVec 32 := 20#32
  let v4501 : BitVec 32 := Scalar.addi v2 c20_i32_3234
  let c32_i32_3235 : BitVec 32 := 32#32
  let c0_i32_3236 : BitVec 32 := 0#32
  let v4502 : BitVec 1 := Scalar.cmpi .eq c32_i32_3235 c0_i32_3236
  let c1_i32_3237 : BitVec 32 := 1#32
  let v4503 : BitVec 32 := Scalar.select v4502 c1_i32_3237 c32_i32_3235
  let v4504 : BitVec 32 := Scalar.remsi v4501 v4503
  let c0_i32_3239 : BitVec 32 := 0#32
  let v4506 : BitVec 1 := Scalar.cmpi .slt v4504 c0_i32_3239
  let c0_i32_3240 : BitVec 32 := 0#32
  let v4507 : BitVec 1 := Scalar.cmpi .slt v4503 c0_i32_3240
  let v4508 : BitVec 1 := Scalar.xori v4506 v4507
  let c0_i32_3238 : BitVec 32 := 0#32
  let v4505 : BitVec 1 := Scalar.cmpi .ne v4504 c0_i32_3238
  let v4509 : BitVec 1 := Scalar.andi v4508 v4505
  let v4510 : BitVec 32 := Scalar.addi v4504 v4503
  let v4511 : BitVec 32 := Scalar.select v4509 v4510 v4504
  let c1_i32_3245 : BitVec 32 := 1#32
  let v4515 : BitVec 32 := Scalar.muli v4511 c1_i32_3245
  let v4516 : BitVec 32 := Scalar.addi c0_i32_3246 v4515
  v4516.toNat
def k0_dev145 (d0 : Dev nD) : Nat :=
  let c0_i32_3263 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_3251 : BitVec 32 := 21#32
  let v4525 : BitVec 32 := Scalar.addi v2 c21_i32_3251
  let c32_i32_3252 : BitVec 32 := 32#32
  let c0_i32_3253 : BitVec 32 := 0#32
  let v4526 : BitVec 1 := Scalar.cmpi .eq c32_i32_3252 c0_i32_3253
  let c1_i32_3254 : BitVec 32 := 1#32
  let v4527 : BitVec 32 := Scalar.select v4526 c1_i32_3254 c32_i32_3252
  let v4528 : BitVec 32 := Scalar.remsi v4525 v4527
  let c0_i32_3256 : BitVec 32 := 0#32
  let v4530 : BitVec 1 := Scalar.cmpi .slt v4528 c0_i32_3256
  let c0_i32_3257 : BitVec 32 := 0#32
  let v4531 : BitVec 1 := Scalar.cmpi .slt v4527 c0_i32_3257
  let v4532 : BitVec 1 := Scalar.xori v4530 v4531
  let c0_i32_3255 : BitVec 32 := 0#32
  let v4529 : BitVec 1 := Scalar.cmpi .ne v4528 c0_i32_3255
  let v4533 : BitVec 1 := Scalar.andi v4532 v4529
  let v4534 : BitVec 32 := Scalar.addi v4528 v4527
  let v4535 : BitVec 32 := Scalar.select v4533 v4534 v4528
  let c1_i32_3262 : BitVec 32 := 1#32
  let v4539 : BitVec 32 := Scalar.muli v4535 c1_i32_3262
  let v4540 : BitVec 32 := Scalar.addi c0_i32_3263 v4539
  v4540.toNat
def k0_dev146 (d0 : Dev nD) : Nat :=
  let c0_i32_3280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_3268 : BitVec 32 := 22#32
  let v4549 : BitVec 32 := Scalar.addi v2 c22_i32_3268
  let c32_i32_3269 : BitVec 32 := 32#32
  let c0_i32_3270 : BitVec 32 := 0#32
  let v4550 : BitVec 1 := Scalar.cmpi .eq c32_i32_3269 c0_i32_3270
  let c1_i32_3271 : BitVec 32 := 1#32
  let v4551 : BitVec 32 := Scalar.select v4550 c1_i32_3271 c32_i32_3269
  let v4552 : BitVec 32 := Scalar.remsi v4549 v4551
  let c0_i32_3273 : BitVec 32 := 0#32
  let v4554 : BitVec 1 := Scalar.cmpi .slt v4552 c0_i32_3273
  let c0_i32_3274 : BitVec 32 := 0#32
  let v4555 : BitVec 1 := Scalar.cmpi .slt v4551 c0_i32_3274
  let v4556 : BitVec 1 := Scalar.xori v4554 v4555
  let c0_i32_3272 : BitVec 32 := 0#32
  let v4553 : BitVec 1 := Scalar.cmpi .ne v4552 c0_i32_3272
  let v4557 : BitVec 1 := Scalar.andi v4556 v4553
  let v4558 : BitVec 32 := Scalar.addi v4552 v4551
  let v4559 : BitVec 32 := Scalar.select v4557 v4558 v4552
  let c1_i32_3279 : BitVec 32 := 1#32
  let v4563 : BitVec 32 := Scalar.muli v4559 c1_i32_3279
  let v4564 : BitVec 32 := Scalar.addi c0_i32_3280 v4563
  v4564.toNat
def k0_dev147 (d0 : Dev nD) : Nat :=
  let c0_i32_3297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_3285 : BitVec 32 := 23#32
  let v4573 : BitVec 32 := Scalar.addi v2 c23_i32_3285
  let c32_i32_3286 : BitVec 32 := 32#32
  let c0_i32_3287 : BitVec 32 := 0#32
  let v4574 : BitVec 1 := Scalar.cmpi .eq c32_i32_3286 c0_i32_3287
  let c1_i32_3288 : BitVec 32 := 1#32
  let v4575 : BitVec 32 := Scalar.select v4574 c1_i32_3288 c32_i32_3286
  let v4576 : BitVec 32 := Scalar.remsi v4573 v4575
  let c0_i32_3290 : BitVec 32 := 0#32
  let v4578 : BitVec 1 := Scalar.cmpi .slt v4576 c0_i32_3290
  let c0_i32_3291 : BitVec 32 := 0#32
  let v4579 : BitVec 1 := Scalar.cmpi .slt v4575 c0_i32_3291
  let v4580 : BitVec 1 := Scalar.xori v4578 v4579
  let c0_i32_3289 : BitVec 32 := 0#32
  let v4577 : BitVec 1 := Scalar.cmpi .ne v4576 c0_i32_3289
  let v4581 : BitVec 1 := Scalar.andi v4580 v4577
  let v4582 : BitVec 32 := Scalar.addi v4576 v4575
  let v4583 : BitVec 32 := Scalar.select v4581 v4582 v4576
  let c1_i32_3296 : BitVec 32 := 1#32
  let v4587 : BitVec 32 := Scalar.muli v4583 c1_i32_3296
  let v4588 : BitVec 32 := Scalar.addi c0_i32_3297 v4587
  v4588.toNat
def k0_dev148 (d0 : Dev nD) : Nat :=
  let c0_i32_3314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_3302 : BitVec 32 := 24#32
  let v4597 : BitVec 32 := Scalar.addi v2 c24_i32_3302
  let c32_i32_3303 : BitVec 32 := 32#32
  let c0_i32_3304 : BitVec 32 := 0#32
  let v4598 : BitVec 1 := Scalar.cmpi .eq c32_i32_3303 c0_i32_3304
  let c1_i32_3305 : BitVec 32 := 1#32
  let v4599 : BitVec 32 := Scalar.select v4598 c1_i32_3305 c32_i32_3303
  let v4600 : BitVec 32 := Scalar.remsi v4597 v4599
  let c0_i32_3307 : BitVec 32 := 0#32
  let v4602 : BitVec 1 := Scalar.cmpi .slt v4600 c0_i32_3307
  let c0_i32_3308 : BitVec 32 := 0#32
  let v4603 : BitVec 1 := Scalar.cmpi .slt v4599 c0_i32_3308
  let v4604 : BitVec 1 := Scalar.xori v4602 v4603
  let c0_i32_3306 : BitVec 32 := 0#32
  let v4601 : BitVec 1 := Scalar.cmpi .ne v4600 c0_i32_3306
  let v4605 : BitVec 1 := Scalar.andi v4604 v4601
  let v4606 : BitVec 32 := Scalar.addi v4600 v4599
  let v4607 : BitVec 32 := Scalar.select v4605 v4606 v4600
  let c1_i32_3313 : BitVec 32 := 1#32
  let v4611 : BitVec 32 := Scalar.muli v4607 c1_i32_3313
  let v4612 : BitVec 32 := Scalar.addi c0_i32_3314 v4611
  v4612.toNat
def k0_dev149 (d0 : Dev nD) : Nat :=
  let c0_i32_3331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_3319 : BitVec 32 := 25#32
  let v4621 : BitVec 32 := Scalar.addi v2 c25_i32_3319
  let c32_i32_3320 : BitVec 32 := 32#32
  let c0_i32_3321 : BitVec 32 := 0#32
  let v4622 : BitVec 1 := Scalar.cmpi .eq c32_i32_3320 c0_i32_3321
  let c1_i32_3322 : BitVec 32 := 1#32
  let v4623 : BitVec 32 := Scalar.select v4622 c1_i32_3322 c32_i32_3320
  let v4624 : BitVec 32 := Scalar.remsi v4621 v4623
  let c0_i32_3324 : BitVec 32 := 0#32
  let v4626 : BitVec 1 := Scalar.cmpi .slt v4624 c0_i32_3324
  let c0_i32_3325 : BitVec 32 := 0#32
  let v4627 : BitVec 1 := Scalar.cmpi .slt v4623 c0_i32_3325
  let v4628 : BitVec 1 := Scalar.xori v4626 v4627
  let c0_i32_3323 : BitVec 32 := 0#32
  let v4625 : BitVec 1 := Scalar.cmpi .ne v4624 c0_i32_3323
  let v4629 : BitVec 1 := Scalar.andi v4628 v4625
  let v4630 : BitVec 32 := Scalar.addi v4624 v4623
  let v4631 : BitVec 32 := Scalar.select v4629 v4630 v4624
  let c1_i32_3330 : BitVec 32 := 1#32
  let v4635 : BitVec 32 := Scalar.muli v4631 c1_i32_3330
  let v4636 : BitVec 32 := Scalar.addi c0_i32_3331 v4635
  v4636.toNat
def k0_dev150 (d0 : Dev nD) : Nat :=
  let c0_i32_3348 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_3336 : BitVec 32 := 26#32
  let v4645 : BitVec 32 := Scalar.addi v2 c26_i32_3336
  let c32_i32_3337 : BitVec 32 := 32#32
  let c0_i32_3338 : BitVec 32 := 0#32
  let v4646 : BitVec 1 := Scalar.cmpi .eq c32_i32_3337 c0_i32_3338
  let c1_i32_3339 : BitVec 32 := 1#32
  let v4647 : BitVec 32 := Scalar.select v4646 c1_i32_3339 c32_i32_3337
  let v4648 : BitVec 32 := Scalar.remsi v4645 v4647
  let c0_i32_3341 : BitVec 32 := 0#32
  let v4650 : BitVec 1 := Scalar.cmpi .slt v4648 c0_i32_3341
  let c0_i32_3342 : BitVec 32 := 0#32
  let v4651 : BitVec 1 := Scalar.cmpi .slt v4647 c0_i32_3342
  let v4652 : BitVec 1 := Scalar.xori v4650 v4651
  let c0_i32_3340 : BitVec 32 := 0#32
  let v4649 : BitVec 1 := Scalar.cmpi .ne v4648 c0_i32_3340
  let v4653 : BitVec 1 := Scalar.andi v4652 v4649
  let v4654 : BitVec 32 := Scalar.addi v4648 v4647
  let v4655 : BitVec 32 := Scalar.select v4653 v4654 v4648
  let c1_i32_3347 : BitVec 32 := 1#32
  let v4659 : BitVec 32 := Scalar.muli v4655 c1_i32_3347
  let v4660 : BitVec 32 := Scalar.addi c0_i32_3348 v4659
  v4660.toNat
def k0_dev151 (d0 : Dev nD) : Nat :=
  let c0_i32_3365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_3353 : BitVec 32 := 27#32
  let v4669 : BitVec 32 := Scalar.addi v2 c27_i32_3353
  let c32_i32_3354 : BitVec 32 := 32#32
  let c0_i32_3355 : BitVec 32 := 0#32
  let v4670 : BitVec 1 := Scalar.cmpi .eq c32_i32_3354 c0_i32_3355
  let c1_i32_3356 : BitVec 32 := 1#32
  let v4671 : BitVec 32 := Scalar.select v4670 c1_i32_3356 c32_i32_3354
  let v4672 : BitVec 32 := Scalar.remsi v4669 v4671
  let c0_i32_3358 : BitVec 32 := 0#32
  let v4674 : BitVec 1 := Scalar.cmpi .slt v4672 c0_i32_3358
  let c0_i32_3359 : BitVec 32 := 0#32
  let v4675 : BitVec 1 := Scalar.cmpi .slt v4671 c0_i32_3359
  let v4676 : BitVec 1 := Scalar.xori v4674 v4675
  let c0_i32_3357 : BitVec 32 := 0#32
  let v4673 : BitVec 1 := Scalar.cmpi .ne v4672 c0_i32_3357
  let v4677 : BitVec 1 := Scalar.andi v4676 v4673
  let v4678 : BitVec 32 := Scalar.addi v4672 v4671
  let v4679 : BitVec 32 := Scalar.select v4677 v4678 v4672
  let c1_i32_3364 : BitVec 32 := 1#32
  let v4683 : BitVec 32 := Scalar.muli v4679 c1_i32_3364
  let v4684 : BitVec 32 := Scalar.addi c0_i32_3365 v4683
  v4684.toNat
def k0_dev152 (d0 : Dev nD) : Nat :=
  let c0_i32_3382 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_3370 : BitVec 32 := 28#32
  let v4693 : BitVec 32 := Scalar.addi v2 c28_i32_3370
  let c32_i32_3371 : BitVec 32 := 32#32
  let c0_i32_3372 : BitVec 32 := 0#32
  let v4694 : BitVec 1 := Scalar.cmpi .eq c32_i32_3371 c0_i32_3372
  let c1_i32_3373 : BitVec 32 := 1#32
  let v4695 : BitVec 32 := Scalar.select v4694 c1_i32_3373 c32_i32_3371
  let v4696 : BitVec 32 := Scalar.remsi v4693 v4695
  let c0_i32_3375 : BitVec 32 := 0#32
  let v4698 : BitVec 1 := Scalar.cmpi .slt v4696 c0_i32_3375
  let c0_i32_3376 : BitVec 32 := 0#32
  let v4699 : BitVec 1 := Scalar.cmpi .slt v4695 c0_i32_3376
  let v4700 : BitVec 1 := Scalar.xori v4698 v4699
  let c0_i32_3374 : BitVec 32 := 0#32
  let v4697 : BitVec 1 := Scalar.cmpi .ne v4696 c0_i32_3374
  let v4701 : BitVec 1 := Scalar.andi v4700 v4697
  let v4702 : BitVec 32 := Scalar.addi v4696 v4695
  let v4703 : BitVec 32 := Scalar.select v4701 v4702 v4696
  let c1_i32_3381 : BitVec 32 := 1#32
  let v4707 : BitVec 32 := Scalar.muli v4703 c1_i32_3381
  let v4708 : BitVec 32 := Scalar.addi c0_i32_3382 v4707
  v4708.toNat
def k0_dev153 (d0 : Dev nD) : Nat :=
  let c0_i32_3399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_3387 : BitVec 32 := 29#32
  let v4717 : BitVec 32 := Scalar.addi v2 c29_i32_3387
  let c32_i32_3388 : BitVec 32 := 32#32
  let c0_i32_3389 : BitVec 32 := 0#32
  let v4718 : BitVec 1 := Scalar.cmpi .eq c32_i32_3388 c0_i32_3389
  let c1_i32_3390 : BitVec 32 := 1#32
  let v4719 : BitVec 32 := Scalar.select v4718 c1_i32_3390 c32_i32_3388
  let v4720 : BitVec 32 := Scalar.remsi v4717 v4719
  let c0_i32_3392 : BitVec 32 := 0#32
  let v4722 : BitVec 1 := Scalar.cmpi .slt v4720 c0_i32_3392
  let c0_i32_3393 : BitVec 32 := 0#32
  let v4723 : BitVec 1 := Scalar.cmpi .slt v4719 c0_i32_3393
  let v4724 : BitVec 1 := Scalar.xori v4722 v4723
  let c0_i32_3391 : BitVec 32 := 0#32
  let v4721 : BitVec 1 := Scalar.cmpi .ne v4720 c0_i32_3391
  let v4725 : BitVec 1 := Scalar.andi v4724 v4721
  let v4726 : BitVec 32 := Scalar.addi v4720 v4719
  let v4727 : BitVec 32 := Scalar.select v4725 v4726 v4720
  let c1_i32_3398 : BitVec 32 := 1#32
  let v4731 : BitVec 32 := Scalar.muli v4727 c1_i32_3398
  let v4732 : BitVec 32 := Scalar.addi c0_i32_3399 v4731
  v4732.toNat
def k0_dev154 (d0 : Dev nD) : Nat :=
  let c0_i32_3416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_3404 : BitVec 32 := 30#32
  let v4741 : BitVec 32 := Scalar.addi v2 c30_i32_3404
  let c32_i32_3405 : BitVec 32 := 32#32
  let c0_i32_3406 : BitVec 32 := 0#32
  let v4742 : BitVec 1 := Scalar.cmpi .eq c32_i32_3405 c0_i32_3406
  let c1_i32_3407 : BitVec 32 := 1#32
  let v4743 : BitVec 32 := Scalar.select v4742 c1_i32_3407 c32_i32_3405
  let v4744 : BitVec 32 := Scalar.remsi v4741 v4743
  let c0_i32_3409 : BitVec 32 := 0#32
  let v4746 : BitVec 1 := Scalar.cmpi .slt v4744 c0_i32_3409
  let c0_i32_3410 : BitVec 32 := 0#32
  let v4747 : BitVec 1 := Scalar.cmpi .slt v4743 c0_i32_3410
  let v4748 : BitVec 1 := Scalar.xori v4746 v4747
  let c0_i32_3408 : BitVec 32 := 0#32
  let v4745 : BitVec 1 := Scalar.cmpi .ne v4744 c0_i32_3408
  let v4749 : BitVec 1 := Scalar.andi v4748 v4745
  let v4750 : BitVec 32 := Scalar.addi v4744 v4743
  let v4751 : BitVec 32 := Scalar.select v4749 v4750 v4744
  let c1_i32_3415 : BitVec 32 := 1#32
  let v4755 : BitVec 32 := Scalar.muli v4751 c1_i32_3415
  let v4756 : BitVec 32 := Scalar.addi c0_i32_3416 v4755
  v4756.toNat
def k0_dev155 (d0 : Dev nD) : Nat :=
  let c0_i32_3433 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_3421 : BitVec 32 := 31#32
  let v4765 : BitVec 32 := Scalar.addi v2 c31_i32_3421
  let c32_i32_3422 : BitVec 32 := 32#32
  let c0_i32_3423 : BitVec 32 := 0#32
  let v4766 : BitVec 1 := Scalar.cmpi .eq c32_i32_3422 c0_i32_3423
  let c1_i32_3424 : BitVec 32 := 1#32
  let v4767 : BitVec 32 := Scalar.select v4766 c1_i32_3424 c32_i32_3422
  let v4768 : BitVec 32 := Scalar.remsi v4765 v4767
  let c0_i32_3426 : BitVec 32 := 0#32
  let v4770 : BitVec 1 := Scalar.cmpi .slt v4768 c0_i32_3426
  let c0_i32_3427 : BitVec 32 := 0#32
  let v4771 : BitVec 1 := Scalar.cmpi .slt v4767 c0_i32_3427
  let v4772 : BitVec 1 := Scalar.xori v4770 v4771
  let c0_i32_3425 : BitVec 32 := 0#32
  let v4769 : BitVec 1 := Scalar.cmpi .ne v4768 c0_i32_3425
  let v4773 : BitVec 1 := Scalar.andi v4772 v4769
  let v4774 : BitVec 32 := Scalar.addi v4768 v4767
  let v4775 : BitVec 32 := Scalar.select v4773 v4774 v4768
  let c1_i32_3432 : BitVec 32 := 1#32
  let v4779 : BitVec 32 := Scalar.muli v4775 c1_i32_3432
  let v4780 : BitVec 32 := Scalar.addi c0_i32_3433 v4779
  v4780.toNat
abbrev stage0_0 : Fin 1 → Memref sig .tc .vmem S1x512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32x512x512 : Shape := ⟨3, ![32, 512, 512]⟩
abbrev S_ : Shape := ⟨0, ![]⟩
abbrev S512x512 : Shape := ⟨2, ![512, 512]⟩

abbrev nBuf : Space → Nat
  | .hbm => 3
  | .vmem => 0
  | .smem => 0
  | _ => 0

abbrev bufTy : (tb : Table) → Fin (tcTables nBuf tb) → BufTy
  | .hbm, ⟨0, _⟩ => ⟨S32x512x512, .f32⟩
  | .hbm, ⟨1, _⟩ => ⟨S_, .f32⟩
  | .hbm, ⟨2, _⟩ => ⟨S512x512, .f32⟩
  | _, _ => ⟨S32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Shape.lean ====
/-
  The kernel body written as counted loops.

  The printed body is one straight line of some seven hundred memory operations. Here it is stated as a handful of
  loops over the halves `h` of the array and the peers `r` of the device, each loop's step one operation (or one load
  and store) of the kernel, and the printed body is shown to be that text.
-/
module

public import proofs.«01_k».proof.Proof.Gen.KernelIdeal.Frame

@[expose] public section

noncomputable section

namespace Cert.AllReduce

open Idealize.ShloMosaic Idealize.ShloMosaic.TcCoe
open Idealize.SL.Sem
open Cert.KernelIdeal Cert.KernelIdeal.Gen

/-- `n` statements in order. -/
def steps {E : Type → Type} : (n : ℕ) → (Fin n → Prog E PUnit) → Prog E PUnit
  | 0, _ => pure ⟨⟩
  | n + 1, f => f 0 >>= fun _ => steps n fun i => f i.succ

/-- The peer at distance `1 + r`, in the kernel's own words. -/
def peerWord (d0 : Dev nD) (o : BitVec 32) : Nat :=
  let c0 : BitVec 32 := 0#32
  let v0 : BitVec 32 := Dev.word d0
  let c1 : BitVec 32 := 1#32
  let v1 : BitVec 32 := Scalar.divsi v0 c1
  let c32 : BitVec 32 := 32#32
  let v2 : BitVec 32 := Scalar.remsi v1 c32
  let v4 : BitVec 32 := Scalar.addi v2 o
  let v5 : BitVec 1 := Scalar.cmpi .eq c32 c0
  let v6 : BitVec 32 := Scalar.select v5 c1 c32
  let v7 : BitVec 32 := Scalar.remsi v4 v6
  let v9 : BitVec 1 := Scalar.cmpi .slt v7 c0
  let v10 : BitVec 1 := Scalar.cmpi .slt v6 c0
  let v11 : BitVec 1 := Scalar.xori v9 v10
  let v8 : BitVec 1 := Scalar.cmpi .ne v7 c0
  let v12 : BitVec 1 := Scalar.andi v11 v8
  let v13 : BitVec 32 := Scalar.addi v7 v6
  let v14 : BitVec 32 := Scalar.select v12 v13 v7
  let v15 : BitVec 32 := Scalar.muli v14 c1
  let v16 : BitVec 32 := Scalar.addi c0 v15
  v16.toNat

set_option maxRecDepth 10000 in
/-- The peer's number: the ring of 32 stepped `1 + r` times. -/
theorem peerWord_eq : ∀ (d0 : Dev nD) (r : Fin 31), peerWord d0 (BitVec.ofNat 32 (1 + r.val)) = (d0.val + 1 + r.val) % 32 := by
  decide +kernel

theorem peerWord_lt (d0 : Dev nD) (r : Fin 31) : peerWord d0 (BitVec.ofNat 32 (1 + r.val)) < nD := by
  rw [peerWord_eq]; exact Nat.mod_lt _ (by decide)

/-- The peer at distance `1 + r`. -/
abbrev peer (d0 : Dev nD) (r : Fin 31) : Dev nD := ⟨peerWord d0 (BitVec.ofNat 32 (1 + r.val)), peerWord_lt d0 r⟩

theorem lane_inb (h : Fin 2) (r : Fin 31) : ∀ a, (![32 * h.val + (1 + r.val)] : Fin 1 → ℕ) a + S1.size a ≤ S64.size a := by
  intro a; have := h.isLt; have := r.isLt
  fin_cases a; show 32 * h.val + (1 + r.val) + 1 ≤ 64; omega

theorem half_inb (h : Fin 2) : ∀ a, (![32 * h.val, 0, 0] : Fin 3 → ℕ) a + S32x8x512.size a ≤ S64x8x512.size a := by
  intro a; have := h.isLt
  fin_cases a
  · show 32 * h.val + 32 ≤ 64; omega
  · exact Nat.le_refl 8
  · exact Nat.le_refl 512

theorem rows_inb (h : Fin 2) : ∀ a, (![256 * h.val, 0] : Fin 2 → ℕ) a + S256x512.size a ≤ S512x512.size a := by
  intro a; have := h.isLt
  fin_cases a
  · show 256 * h.val + 256 ≤ 512; omega
  · exact Nat.le_refl 512

variable {F : FTy → Type} [FloatOps F]

section Body

variable (arg0 : Memref sig .tc .vmem S1x512x512 .f32) (harg0 : arg0.IsWhole)
  (arg1 : Memref sig .tc .vmem S512x512 .f32) (harg1 : arg1.IsWhole)
  (arg2 : Memref sig .tc .vmem S512x512 .bf16) (harg2 : arg2.IsWhole)
  (arg3 : Memref sig .tc .vmem S64x8x512 .bf16) (harg3 : arg3.IsWhole)
  (arg4 : Memref sig .tc .vmem S64x8x512 .bf16) (harg4 : arg4.IsWhole)
  (arg5 arg6 arg7 arg8 : DmaSems sig S64) (d0 : Dev nD)

/-- One semaphore of an array of 64: the one for a send to the peer at distance `1 + r`, -/
abbrev laneSem (a : DmaSems sig S64) (h : Fin 2) (r : Fin 31) : DmaSem sig :=
  ((a.slice (Rect.unit (s := S64) ![32 * h.val + (1 + r.val)] S1.size (lane_inb h r))).squeeze S_ squeezes_S1_S_).sem
/-- the one that device `d0` completes on a peer, -/
abbrev ownSem (a : DmaSems sig S64) (d0 : Dev nD) (h : Fin 2) : DmaSem sig :=
  ((a.slice (Rect.unit (s := S64) (k0_off1 d0 (BitVec.ofNat 32 (32 * h.val))) S1.size (k0_off1_inb d0 h))).squeeze S_ squeezes_S1_S_).sem
/-- and the one its peer completes on it. -/
abbrev peerSem (a : DmaSems sig S64) (d0 : Dev nD) (h : Fin 2) (r : Fin 31) : DmaSem sig :=
  ((a.slice (Rect.unit (s := S64) (k0_off6 d0 (BitVec.ofNat 32 (32 * h.val)) (BitVec.ofNat 32 (1 + r.val))) S1.size (k0_off6_inb d0 h r))).squeeze S_ squeezes_S1_S_).sem

/-- The slab of a 64-slab buffer that belongs to device `d0`, -/
abbrev ownSlab (a : Memref sig .tc .vmem S64x8x512 .bf16) (d0 : Dev nD) (h : Fin 2) : Memref sig .tc .vmem S8x512 .bf16 :=
  (a.slice (Rect.unit (s := S64x8x512) (k0_off2 d0 (BitVec.ofNat 32 (32 * h.val))) S1x8x512.size (k0_off2_inb d0 h)) (fun _ => rfl)).squeeze S8x512 squeezes_S1x8x512_S8x512
/-- and the one that belongs to a peer. -/
abbrev peerSlab (a : Memref sig .tc .vmem S64x8x512 .bf16) (d0 : Dev nD) (h : Fin 2) (r : Fin 31) : Memref sig .tc .vmem S8x512 .bf16 :=
  (a.slice (Rect.unit (s := S64x8x512) (k0_off7 d0 (BitVec.ofNat 32 (32 * h.val)) (BitVec.ofNat 32 (1 + r.val))) S1x8x512.size (k0_off7_inb d0 h r)) (fun _ => rfl)).squeeze S8x512 squeezes_S1x8x512_S8x512
/-- The eight rows of the narrowed input that a peer sums. -/
abbrev peerRows (a : Memref sig .tc .vmem S512x512 .bf16) (d0 : Dev nD) (h : Fin 2) (r : Fin 31) : Memref sig .tc .vmem S8x512 .bf16 :=
  a.slice (Rect.unit (s := S512x512) (k0_off3 d0 (BitVec.ofNat 32 (256 * h.val)) (BitVec.ofNat 32 (1 + r.val))) S8x512.size (k0_off3_inb d0 h r)) (fun _ => rfl)

/-- The whole input narrowed. -/
def narrowed (v : Vec F S1x512x512 .f32) : FVec F S512x512 .bf16 :=
  shapeCast S512x512 (truncf .bf16 (shapeCast S512x512 v shapeCasts_S1x512x512_S512x512 : FVec F S512x512 .f32) bitsLt_bf16_f32) shapeCasts_S512x512_S512x512
/-- Eight rows as a slab. -/
def asSlab (v : Vec F S8x512 .bf16) : FVec F S1x8x512 .bf16 := shapeCast S1x8x512 v shapeCasts_S8x512_S1x8x512
/-- The 32 slabs of a half summed, in the wide format, and narrowed. -/
def summed (v : Vec F S32x8x512 .bf16) : FVec F S1x8x512 .bf16 :=
  shapeCast S1x8x512 (truncf .bf16 (multiReduction .add [0] S8x512 (extf .f32 v bitsLt_bf16_f32 : FVec F S32x8x512 .f32) 0x00000000#32 reduces_S32x8x512_S8x512 (.inl rfl) rfl : FVec F S8x512 .f32) bitsLt_bf16_f32 : FVec F S8x512 .bf16) shapeCasts_S8x512_S1x8x512
/-- The 32 slabs of a half laid out as rows and widened. -/
def widened (v : Vec F S32x8x512 .bf16) : FVec F S256x512 .f32 :=
  extf .f32 (shapeCast S256x512 v shapeCasts_S32x8x512_S256x512 : FVec F S256x512 .bf16) bitsLt_bf16_f32

/-- The barrier semaphore. -/
abbrev bar : Sem sig := (SemArray.scalar (sig.barrier 0 rfl) : Sems sig S_).sem

/-- The programs of this kernel. -/
abbrev P : Type 1 := Prog (TpuEff nD τ sig (Elt F) Λ₀ .tc) PUnit

/-- Tell a peer that this device has entered. -/
def opSignal (r : Fin 31) : P (F := F) := semSignalWord (peer d0 r) bar 1#32

/-- Narrow the input. -/
def opNarrow : P (F := F) := do
  let v : Vec F S1x512x512 .f32 ← Prog.lift (.load arg0 (Rect.unit (s := S1x512x512) ![0, 0, 0] S1x512x512.size inb_S1x512x512_S1x512x512_0_0_0).toLoadRect (View.loadsAt_vmem h_S1x512x512))
  let v' : Vec F S512x512 .bf16 ← Prog.lift (.load arg2 (Rect.unit (s := S512x512) ![0, 0] S512x512.size inb_S512x512_S512x512_0_0).toLoadRect (View.loadsAt_vmem h_S512x512))
  Prog.lift (.store arg2 (Rect.unit (s := S512x512) ![0, 0] S512x512.size inb_S512x512_S512x512_0_0) (narrowed v) Finset.univ (View.stores_vmem h_S512x512 (harg2.storeExact_slice rfl _ packedbf16_S512x512_S512x512_0_0) (fun _ => rfl)) (.inl rfl))

/-- Send a peer the eight rows of half `h` it sums. -/
def opScatter (h : Fin 2) (r : Fin 31) : P (F := F) :=
  Prog.lift (.enqueueDma (peerRows arg2 d0 h r) (.remote (Dev.tc (peer d0 r)) (ownSlab arg3 d0 h) (.dma (laneSem arg5 h r))) (.dma (ownSem arg6 d0 h))
    (harg2.wordExact_slice rfl _ (k0_off3_wordsbf16 d0 h r)) ((harg3.wordExact_slice rfl _ (k0_off2_wordsbf16 d0 h)).reshape _ _) ⟨⟨rfl, Or.inl rfl⟩, trivial⟩)

/-- Keep this device's own eight rows of half `h`. -/
def opKeep (h : Fin 2) : P (F := F) := do
  let v : Vec F S8x512 .bf16 ← Prog.lift (.load arg2 (Rect.unit (s := S512x512) (k0_off4 d0 (BitVec.ofNat 32 (256 * h.val))) S8x512.size (k0_off4_inb d0 h)).toLoadRect (View.loadsAt_vmem h_S8x512))
  let v' : Vec F S1x8x512 .bf16 ← Prog.lift (.load arg3 (Rect.unit (s := S64x8x512) (k0_off5 d0 (BitVec.ofNat 32 (32 * h.val))) S1x8x512.size (k0_off5_inb d0 h)).toLoadRect (View.loadsAt_vmem h_S1x8x512))
  Prog.lift (.store arg3 (Rect.unit (s := S64x8x512) (k0_off5 d0 (BitVec.ofNat 32 (32 * h.val))) S1x8x512.size (k0_off5_inb d0 h)) (asSlab v) Finset.univ (View.stores_vmem h_S1x8x512 (harg3.storeExact_slice rfl _ (k0_off5_packedbf16 d0 h)) (fun _ => rfl)) (.inl rfl))

/-- Wait for a peer's eight rows. -/
def opScattered (h : Fin 2) (r : Fin 31) : P (F := F) :=
  Prog.lift (.waitDma2 (peerSem arg6 d0 h r) (peerRows arg2 d0 h r) (peerSlab arg3 d0 h r)
    (harg2.wordExact_slice rfl _ (k0_off3_wordsbf16 d0 h r)) ((harg3.wordExact_slice rfl _ (k0_off7_wordsbf16 d0 h r)).reshape _ _))

/-- Sum the 32 slabs of half `h` into this device's slab of the result. -/
def opSum (h : Fin 2) : P (F := F) := do
  let v : Vec F S32x8x512 .bf16 ← Prog.lift (.load arg3 (Rect.unit (s := S64x8x512) ![32 * h.val, 0, 0] S32x8x512.size (half_inb h)).toLoadRect (View.loadsAt_vmem h_S32x8x512))
  let v' : Vec F S1x8x512 .bf16 ← Prog.lift (.load arg4 (Rect.unit (s := S64x8x512) (k0_off5 d0 (BitVec.ofNat 32 (32 * h.val))) S1x8x512.size (k0_off5_inb d0 h)).toLoadRect (View.loadsAt_vmem h_S1x8x512))
  Prog.lift (.store arg4 (Rect.unit (s := S64x8x512) (k0_off5 d0 (BitVec.ofNat 32 (32 * h.val))) S1x8x512.size (k0_off5_inb d0 h)) (summed v) Finset.univ (View.stores_vmem h_S1x8x512 (harg4.storeExact_slice rfl _ (k0_off5_packedbf16 d0 h)) (fun _ => rfl)) (.inl rfl))

/-- Send a peer this device's slab of the result. -/
def opGather (h : Fin 2) (r : Fin 31) : P (F := F) :=
  Prog.lift (.enqueueDma (ownSlab arg4 d0 h) (.remote (Dev.tc (peer d0 r)) (ownSlab arg4 d0 h) (.dma (laneSem arg7 h r))) (.dma (ownSem arg8 d0 h))
    ((harg4.wordExact_slice rfl _ (k0_off2_wordsbf16 d0 h)).reshape _ _) ((harg4.wordExact_slice rfl _ (k0_off2_wordsbf16 d0 h)).reshape _ _) ⟨⟨rfl, Or.inl rfl⟩, trivial⟩)

/-- Wait until the eight rows sent to a peer have left. -/
def opScatterSent (h : Fin 2) (r : Fin 31) : P (F := F) :=
  Prog.lift (.waitDma2 (laneSem arg5 h r) (ownSlab arg3 d0 h) (peerRows arg2 d0 h r)
    ((harg3.wordExact_slice rfl _ (k0_off2_wordsbf16 d0 h)).reshape _ _) (harg2.wordExact_slice rfl _ (k0_off3_wordsbf16 d0 h r)))

/-- Wait for a peer's slab of the result. -/
def opGathered (h : Fin 2) (r : Fin 31) : P (F := F) :=
  Prog.lift (.waitDma2 (peerSem arg8 d0 h r) (peerSlab arg4 d0 h r) (peerSlab arg4 d0 h r)
    ((harg4.wordExact_slice rfl _ (k0_off7_wordsbf16 d0 h r)).reshape _ _) ((harg4.wordExact_slice rfl _ (k0_off7_wordsbf16 d0 h r)).reshape _ _))

/-- Write half `h` of the result out. -/
def opOut (h : Fin 2) : P (F := F) := do
  let v : Vec F S32x8x512 .bf16 ← Prog.lift (.load arg4 (Rect.unit (s := S64x8x512) ![32 * h.val, 0, 0] S32x8x512.size (half_inb h)).toLoadRect (View.loadsAt_vmem h_S32x8x512))
  let v' : Vec F S256x512 .f32 ← Prog.lift (.load arg1 (Rect.unit (s := S512x512) ![256 * h.val, 0] S256x512.size (rows_inb h)).toLoadRect (View.loadsAt_vmem h_S256x512))
  Prog.lift (.store arg1 (Rect.unit (s := S512x512) ![256 * h.val, 0] S256x512.size (rows_inb h)) (widened v) Finset.univ (View.stores_vmem_bits_univ h_S256x512 rfl) (.inl rfl))

/-- Wait until the slab sent to a peer has left. -/
def opGatherSent (h : Fin 2) (r : Fin 31) : P (F := F) :=
  Prog.lift (.waitDma2 (laneSem arg7 h r) (ownSlab arg4 d0 h) (ownSlab arg4 d0 h)
    ((harg4.wordExact_slice rfl _ (k0_off2_wordsbf16 d0 h)).reshape _ _) ((harg4.wordExact_slice rfl _ (k0_off2_wordsbf16 d0 h)).reshape _ _))

/-- The whole body. -/
def shape : P (F := F) := do
  let d0 : Dev nD ← Prog.lift .deviceId
  steps 31 (opSignal d0)
  opNarrow arg0 arg2 harg2
  semWaitWord bar 31#32
  steps 2 fun h => steps 31 (opScatter arg2 harg2 arg3 harg3 arg5 arg6 d0 h)
  steps 2 (opKeep arg2 arg3 harg3 d0)
  steps 2 fun h => do
    steps 31 (opScattered arg2 harg2 arg3 harg3 arg6 d0 h)
    opSum arg3 arg4 harg4 d0 h
    steps 31 (opGather arg4 harg4 arg7 arg8 d0 h)
  steps 2 fun h => steps 31 (opScatterSent arg2 harg2 arg3 harg3 arg5 d0 h)
  steps 2 fun h => do
    steps 31 (opGathered arg4 harg4 arg8 d0 h)
    opOut arg1 arg4 h
  steps 2 fun h => steps 31 (opGatherSent arg4 harg4 arg7 d0 h)

/-- The printed body is that text. -/
theorem body_eq : cc0_body (F := F) arg0 harg0 arg1 harg1 arg2 harg2 arg3 harg3 arg4 harg4 arg5 arg6 arg7 arg8
    = shape arg0 arg1 arg2 harg2 arg3 harg3 arg4 harg4 arg5 arg6 arg7 arg8 := by
  chain_rfl

end Body

end Cert.AllReduce

end
-- ==== Proof.Cells.lean ====
/-
  Which semaphore and which part of which buffer each operation touches.

  A transfer is named by a key: its family (a scatter's send or receive semaphore, a gather's send or receive one), the
  half of the array, and a place among 32. Slabs of the two 64-slab buffers and row groups of the narrowed input are
  named by a half and a device.
-/
module

public import proofs.«01_k».proof.Proof.Shape
public import Idealize.ShloMosaic.Lib.ValueLayout
public import Idealize.ShloMosaic.Lib.Rounds

@[expose] public section

noncomputable section

namespace Cert.AllReduce

open Idealize.ShloMosaic Idealize.ShloMosaic.TcCoe
open Idealize.SL.Sem
open Cert.KernelIdeal Cert.KernelIdeal.Gen
open ValueIdx

/-! ### Peers -/

theorem peer_val (d : Dev nD) (r : Fin 31) : (peer d r).val = (d.val + 1 + r.val) % 32 := peerWord_eq d r

theorem peer_ne (d : Dev nD) (r : Fin 31) : peer d r ≠ d := fun h => by
  have h' := congrArg Fin.val h
  rw [peer_val] at h'
  have := d.isLt; have := r.isLt
  have : nD = 32 := rfl
  omega

/-- Going on to the peer's peer at the complementary distance comes back. -/
theorem peer_rev (d : Dev nD) (r : Fin 31) : peer (peer d r) r.rev = d := by
  apply Fin.ext
  rw [peer_val, peer_val, Fin.val_rev]
  have := d.isLt; have := r.isLt
  have : nD = 32 := rfl
  omega

theorem peer_injective (d : Dev nD) : Function.Injective (peer d) := fun r r' h => by
  have h' := congrArg Fin.val h
  rw [peer_val, peer_val] at h'
  have := d.isLt; have := r.isLt; have := r'.isLt
  have : nD = 32 := rfl
  exact Fin.ext (by omega)

/-- The devices other than `d` are its peers. -/
theorem erase_eq_map (d : Dev nD) :
    (Finset.univ.erase d : Finset (Dev nD)) = Finset.univ.map ⟨peer d, peer_injective d⟩ := by
  ext e
  simp only [Finset.mem_erase, Finset.mem_univ, and_true, Finset.mem_map, Function.Embedding.coeFn_mk, true_and]
  constructor
  · intro hne
    have hv : e.val ≠ d.val := fun h => hne (Fin.ext h)
    have := d.isLt; have := e.isLt
    have h32 : nD = 32 := rfl
    refine ⟨⟨(e.val + 31 - d.val) % 32, by omega⟩, Fin.ext ?_⟩
    rw [peer_val]
    show (d.val + 1 + (e.val + 31 - d.val) % 32) % 32 = e.val
    omega
  · rintro ⟨r, rfl⟩; exact peer_ne d r

/-! ### Semaphores -/

/-- The name of a transfer's semaphore. -/
abbrev Key := Fin 4 × Fin 2 × Dev nD

/-- Where it is in the signature. -/
def semOf (k : Key) : DmaSem sig :=
  ⟨2 + 64 * k.1.val + 32 * k.2.1.val + k.2.2.val, by
    have := k.1.isLt; have := k.2.1.isLt; have := k.2.2.isLt
    have : nD = 32 := rfl
    show _ < 258
    omega⟩

/-- Its name read back off the position. -/
def keyOf (q : DmaSem sig) : Option Key :=
  if h : 2 ≤ q.val then
    some (⟨(q.val - 2) / 64, by have : q.val < 258 := q.isLt; omega⟩, ⟨(q.val - 2) / 32 % 2, Nat.mod_lt _ (by decide)⟩,
      ⟨(q.val - 2) % 32, Nat.mod_lt _ (by decide)⟩)
  else none

theorem keyOf_semOf (k : Key) : keyOf (semOf k) = some k := by
  obtain ⟨f, h, p⟩ := k
  have := f.isLt; have := h.isLt; have := p.isLt
  have : nD = 32 := rfl
  have h2 : 2 ≤ (semOf (f, h, p)).val := by show 2 ≤ 2 + 64 * f.val + 32 * h.val + p.val; omega
  rw [keyOf, dif_pos h2]
  refine congrArg some (Prod.ext (Fin.ext ?_) (Prod.ext (Fin.ext ?_) (Fin.ext ?_)))
  · show (2 + 64 * f.val + 32 * h.val + p.val - 2) / 64 = f.val; omega
  · show (2 + 64 * f.val + 32 * h.val + p.val - 2) / 32 % 2 = h.val; omega
  · show (2 + 64 * f.val + 32 * h.val + p.val - 2) % 32 = p.val; omega

theorem semOf_injective : Function.Injective semOf := fun k k' h =>
  Option.some.inj ((keyOf_semOf k).symm.trans ((congrArg keyOf h).trans (keyOf_semOf k')))

/-- The place of the send to the peer at distance `1 + r`. -/
def lane (r : Fin 31) : Dev nD := ⟨1 + r.val, by have := r.isLt; have : nD = 32 := rfl; omega⟩

theorem laneSem_5 : ∀ (h : Fin 2) (r : Fin 31), laneSem cc0_scratch3 h r = semOf (0, h, lane r) := by decide +kernel
theorem laneSem_7 : ∀ (h : Fin 2) (r : Fin 31), laneSem cc0_scratch5 h r = semOf (2, h, lane r) := by decide +kernel
theorem ownSem_6 : ∀ (d : Dev nD) (h : Fin 2), ownSem cc0_scratch4 d h = semOf (1, h, d) := by decide +kernel
theorem ownSem_8 : ∀ (d : Dev nD) (h : Fin 2), ownSem cc0_scratch6 d h = semOf (3, h, d) := by decide +kernel
theorem peerSem_6 : ∀ (d : Dev nD) (h : Fin 2) (r : Fin 31), peerSem cc0_scratch4 d h r = semOf (1, h, peer d r) := by
  decide +kernel
theorem peerSem_8 : ∀ (d : Dev nD) (h : Fin 2) (r : Fin 31), peerSem cc0_scratch6 d h r = semOf (3, h, peer d r) := by
  decide +kernel

/-! ### Parts of the buffers -/

theorem off3_eq : ∀ (d : Dev nD) (h : Fin 2) (r : Fin 31),
    k0_off3 d (BitVec.ofNat 32 (256 * h.val)) (BitVec.ofNat 32 (1 + r.val)) = ![256 * h.val + 8 * (peer d r).val, 0] := by
  decide +kernel

theorem off7_eq : ∀ (d : Dev nD) (h : Fin 2) (r : Fin 31),
    k0_off7 d (BitVec.ofNat 32 (32 * h.val)) (BitVec.ofNat 32 (1 + r.val)) = ![32 * h.val + (peer d r).val, 0, 0] := by
  decide +kernel

/-- A slab: a half and a device. -/
abbrev Slab := Fin 2 × Dev nD

/-- The slab's number in a 64-slab buffer. -/
def slabNo (k : Slab) : Fin 64 :=
  ⟨32 * k.1.val + k.2.val, by have := k.1.isLt; have := k.2.isLt; have : nD = 32 := rfl; omega⟩

/-- The slab with a given number. -/
def slabAt (n : Fin 64) : Slab := (⟨n.val / 32, by have := n.isLt; omega⟩, ⟨n.val % 32, Nat.mod_lt _ (by decide)⟩)

theorem slabAt_no (k : Slab) : slabAt (slabNo k) = k := by
  obtain ⟨h, p⟩ := k
  have := p.isLt
  have : nD = 32 := rfl
  refine Prod.ext (Fin.ext ?_) (Fin.ext ?_)
  · show (32 * h.val + p.val) / 32 = h.val; omega
  · show (32 * h.val + p.val) % 32 = p.val; omega

theorem slabNo_at (n : Fin 64) : slabNo (slabAt n) = n := Fin.ext (by
  show 32 * (n.val / 32) + n.val % 32 = n.val; omega)

/-- The slab an index of a 64-slab buffer lies in, -/
def slabI (i : S64x8x512.Idx) : Slab := slabAt ⟨(i 0).val, (i 0).isLt⟩
/-- and the slab an index of the narrowed input is summed in. -/
def rowI (i : S512x512.Idx) : Slab := slabAt ⟨(i 0).val / 8, by have : (i 0).val < 512 := (i 0).isLt; omega⟩

/-- The indices of a slab, -/
def slabSet (k : Slab) : Finset S64x8x512.Idx := Finset.univ.filter fun i => slabI i = k
/-- the rows of the input summed in it, -/
def rowSet (k : Slab) : Finset S512x512.Idx := Finset.univ.filter fun i => rowI i = k
/-- the slabs of a half, -/
def halfSet (h : Fin 2) : Finset S64x8x512.Idx := Finset.univ.filter fun i => (slabI i).1 = h
/-- and its rows of the output. -/
def outSet (h : Fin 2) : Finset S512x512.Idx := Finset.univ.filter fun i => (rowI i).1 = h

theorem mem_slabSet {k : Slab} {i : S64x8x512.Idx} : i ∈ slabSet k ↔ (i 0).val = (slabNo k).val := by
  rw [slabSet, Finset.mem_filter, and_iff_right (Finset.mem_univ i), slabI]
  constructor
  · rintro rfl; rw [slabNo_at]
  · intro h; rw [show (⟨(i 0).val, (i 0).isLt⟩ : Fin 64) = slabNo k from Fin.ext h, slabAt_no]

theorem mem_rowSet {k : Slab} {i : S512x512.Idx} : i ∈ rowSet k ↔ (i 0).val / 8 = (slabNo k).val := by
  have hi : (i 0).val < 512 := (i 0).isLt
  rw [rowSet, Finset.mem_filter, and_iff_right (Finset.mem_univ i), rowI]
  constructor
  · rintro rfl; rw [slabNo_at]
  · intro h; rw [show (⟨(i 0).val / 8, by omega⟩ : Fin 64) = slabNo k from Fin.ext h, slabAt_no]

theorem mem_halfSet {h : Fin 2} {i : S64x8x512.Idx} : i ∈ halfSet h ↔ (i 0).val / 32 = h.val := by
  rw [halfSet, Finset.mem_filter, and_iff_right (Finset.mem_univ i)]
  exact Fin.ext_iff

theorem mem_outSet {h : Fin 2} {i : S512x512.Idx} : i ∈ outSet h ↔ (i 0).val / 256 = h.val := by
  rw [outSet, Finset.mem_filter, and_iff_right (Finset.mem_univ i)]
  refine Fin.ext_iff.trans ?_
  show (i 0).val / 8 / 32 = h.val ↔ _
  rw [Nat.div_div_eq_div_mul]

/-! A rectangle of each form, by its first offset. -/

theorem unit_slab {off : Fin 3 → ℕ} {inb : ∀ a, off a + S1x8x512.size a ≤ S64x8x512.size a} (k : Slab) (ho : off = ![(slabNo k).val, 0, 0]) :
    (Rect.unit (s := S64x8x512) off S1x8x512.size inb).set = slabSet k := by
  subst ho
  ext i
  rw [Rect.mem_set_unit, mem_slabSet]
  have h1 : (i 1).val < 8 := (i 1).isLt
  have h2 : (i 2).val < 512 := (i 2).isLt
  constructor
  · intro h
    have h0 : (slabNo k).val ≤ (i 0).val ∧ (i 0).val < (slabNo k).val + 1 := h 0
    omega
  · intro h a
    fin_cases a
    · show (slabNo k).val ≤ (i 0).val ∧ (i 0).val < (slabNo k).val + 1; omega
    · show 0 ≤ (i 1).val ∧ (i 1).val < 0 + 8; omega
    · show 0 ≤ (i 2).val ∧ (i 2).val < 0 + 512; omega

theorem unit_rows {off : Fin 2 → ℕ} {inb : ∀ a, off a + S8x512.size a ≤ S512x512.size a} (k : Slab) (ho : off = ![256 * k.1.val + 8 * k.2.val, 0]) :
    (Rect.unit (s := S512x512) off S8x512.size inb).set = rowSet k := by
  subst ho
  ext i
  rw [Rect.mem_set_unit, mem_rowSet]
  have h1 : (i 1).val < 512 := (i 1).isLt
  have hs : (slabNo k).val = 32 * k.1.val + k.2.val := rfl
  rw [hs]
  constructor
  · intro h
    have h0 : 256 * k.1.val + 8 * k.2.val ≤ (i 0).val ∧ (i 0).val < 256 * k.1.val + 8 * k.2.val + 8 := h 0
    omega
  · intro h a
    fin_cases a
    · show 256 * k.1.val + 8 * k.2.val ≤ (i 0).val ∧ (i 0).val < 256 * k.1.val + 8 * k.2.val + 8; omega
    · show 0 ≤ (i 1).val ∧ (i 1).val < 0 + 512; omega

theorem unit_half (h : Fin 2) :
    (Rect.unit (s := S64x8x512) ![32 * h.val, 0, 0] S32x8x512.size (half_inb h)).set = halfSet h := by
  ext i
  rw [Rect.mem_set_unit, mem_halfSet]
  have h1 : (i 1).val < 8 := (i 1).isLt
  have h2 : (i 2).val < 512 := (i 2).isLt
  constructor
  · intro hh
    have h0 : 32 * h.val ≤ (i 0).val ∧ (i 0).val < 32 * h.val + 32 := hh 0
    omega
  · intro hh a
    fin_cases a
    · show 32 * h.val ≤ (i 0).val ∧ (i 0).val < 32 * h.val + 32; omega
    · show 0 ≤ (i 1).val ∧ (i 1).val < 0 + 8; omega
    · show 0 ≤ (i 2).val ∧ (i 2).val < 0 + 512; omega

theorem unit_out (h : Fin 2) :
    (Rect.unit (s := S512x512) ![256 * h.val, 0] S256x512.size (rows_inb h)).set = outSet h := by
  ext i
  rw [Rect.mem_set_unit, mem_outSet]
  have h1 : (i 1).val < 512 := (i 1).isLt
  constructor
  · intro hh
    have h0 : 256 * h.val ≤ (i 0).val ∧ (i 0).val < 256 * h.val + 256 := hh 0
    omega
  · intro hh a
    fin_cases a
    · show 256 * h.val ≤ (i 0).val ∧ (i 0).val < 256 * h.val + 256; omega
    · show 0 ≤ (i 1).val ∧ (i 1).val < 0 + 512; omega

/-! Where a rectangle's own indices are placed. -/

theorem emb_slab {off : Fin 3 → ℕ} {inb : ∀ a, off a + S1x8x512.size a ≤ S64x8x512.size a} (k : Slab) (ho : off = ![(slabNo k).val, 0, 0]) (z : Fin 1) (x : Fin 8) (y : Fin 512) :
    (Rect.unit (s := S64x8x512) off S1x8x512.size inb).emb (ix3 z x y) = ix3 (slabNo k) x y := by
  subst ho
  funext a
  apply Fin.ext
  rw [Rect.emb_apply]
  have := z.isLt
  fin_cases a
  · show (slabNo k).val + 1 * z.val = (slabNo k).val; omega
  · show 0 + 1 * x.val = x.val; omega
  · show 0 + 1 * y.val = y.val; omega

theorem emb_flat {off : Fin 3 → ℕ} {inb : ∀ a, off a + S1x8x512.size a ≤ S64x8x512.size a} (k : Slab) (ho : off = ![(slabNo k).val, 0, 0]) (hn) (x : Fin 8) (y : Fin 512) :
    (Rect.unit (s := S64x8x512) off S1x8x512.size inb).emb (Shape.reshapeEquiv (s := S1x8x512) (s' := S8x512) hn (ix2 x y))
      = ix3 (slabNo k) x y := by
  have h : Shape.reshapeEquiv (s := S1x8x512) (s' := S8x512) hn (ix2 x y) = ix3 (⟨0, Nat.one_pos⟩ : Fin 1) x y :=
    reshapeEquiv_ix2_1ab hn x y
  rw [h]
  exact emb_slab k ho _ x y

/-- Row `x` of a slab's rows of the input. -/
def rowNo (k : Slab) (x : Fin 8) : Fin 512 :=
  ⟨256 * k.1.val + 8 * k.2.val + x.val, by
    have := k.1.isLt; have := k.2.isLt; have := x.isLt; have : nD = 32 := rfl; omega⟩

theorem emb_rows {off : Fin 2 → ℕ} {inb : ∀ a, off a + S8x512.size a ≤ S512x512.size a} (k : Slab) (ho : off = ![256 * k.1.val + 8 * k.2.val, 0]) (x : Fin 8) (y : Fin 512) :
    (Rect.unit (s := S512x512) off S8x512.size inb).emb (ix2 x y) = ix2 (rowNo k x) y := by
  subst ho
  funext a
  apply Fin.ext
  rw [Rect.emb_apply]
  fin_cases a
  · show 256 * k.1.val + 8 * k.2.val + 1 * x.val = 256 * k.1.val + 8 * k.2.val + x.val; omega
  · show 0 + 1 * y.val = y.val; omega

theorem emb_half (h : Fin 2) (s : Dev nD) (x : Fin 8) (y : Fin 512) :
    (Rect.unit (s := S64x8x512) ![32 * h.val, 0, 0] S32x8x512.size (half_inb h)).emb (ix3 s x y) = ix3 (slabNo (h, s)) x y := by
  funext a
  apply Fin.ext
  rw [Rect.emb_apply]
  fin_cases a
  · show 32 * h.val + 1 * s.val = 32 * h.val + s.val; omega
  · show 0 + 1 * x.val = x.val; omega
  · show 0 + 1 * y.val = y.val; omega

/-- Row `x` of a half of the output. -/
def outNo (h : Fin 2) (x : Fin 256) : Fin 512 := ⟨256 * h.val + x.val, by have := h.isLt; have := x.isLt; omega⟩

theorem emb_out (h : Fin 2) (x : Fin 256) (y : Fin 512) :
    (Rect.unit (s := S512x512) ![256 * h.val, 0] S256x512.size (rows_inb h)).emb (ix2 x y) = ix2 (outNo h x) y := by
  funext a
  apply Fin.ext
  rw [Rect.emb_apply]
  fin_cases a
  · show 256 * h.val + 1 * x.val = 256 * h.val + x.val; omega
  · show 0 + 1 * y.val = y.val; omega

/-! ### The operations' views -/

/-- The scratch buffers as the body holds them. -/
abbrev nM : Memref sig .tc .vmem S512x512 .bf16 := Memref.whole cc0_scratch0
abbrev sM : Memref sig .tc .vmem S64x8x512 .bf16 := Memref.whole cc0_scratch1
abbrev gM : Memref sig .tc .vmem S64x8x512 .bf16 := Memref.whole cc0_scratch2

theorem off2_no (d : Dev nD) (h : Fin 2) :
    k0_off2 d (BitVec.ofNat 32 (32 * h.val)) = ![(slabNo (h, d)).val, 0, 0] := k0_off2_eq d h
theorem off5_no (d : Dev nD) (h : Fin 2) :
    k0_off5 d (BitVec.ofNat 32 (32 * h.val)) = ![(slabNo (h, d)).val, 0, 0] := k0_off5_eq d h
theorem off7_no (d : Dev nD) (h : Fin 2) (r : Fin 31) :
    k0_off7 d (BitVec.ofNat 32 (32 * h.val)) (BitVec.ofNat 32 (1 + r.val)) = ![(slabNo (h, peer d r)).val, 0, 0] := off7_eq d h r

theorem ownSlab_s (d : Dev nD) (h : Fin 2) : (ownSlab sM d h).view.set = slabSet (h, d) :=
  (View.set_reshape _ _).trans ((View.set_slice_whole _ _).trans (unit_slab (h, d) (off2_no d h)))
theorem ownSlab_g (d : Dev nD) (h : Fin 2) : (ownSlab gM d h).view.set = slabSet (h, d) :=
  (View.set_reshape _ _).trans ((View.set_slice_whole _ _).trans (unit_slab (h, d) (off2_no d h)))
theorem peerRows_n (d : Dev nD) (h : Fin 2) (r : Fin 31) : (peerRows nM d h r).view.set = rowSet (h, peer d r) :=
  (View.set_slice_whole _ _).trans (unit_rows (h, peer d r) (off3_eq d h r))

/-- A slab's bytes as a transfer counts them. -/
def slabAmt : ℕ := (ownSlab gM (0 : Dev nD) 0).view.dmaCredit

theorem amt_s (d : Dev nD) (h : Fin 2) : (ownSlab sM d h).view.dmaCredit = slabAmt := rfl
theorem amt_g (d : Dev nD) (h : Fin 2) : (ownSlab gM d h).view.dmaCredit = slabAmt := rfl
theorem amt_ps (d : Dev nD) (h : Fin 2) (r : Fin 31) : (peerSlab sM d h r).view.dmaCredit = slabAmt := rfl
theorem amt_pg (d : Dev nD) (h : Fin 2) (r : Fin 31) : (peerSlab gM d h r).view.dmaCredit = slabAmt := rfl
theorem amt_n (d : Dev nD) (h : Fin 2) (r : Fin 31) : (peerRows nM d h r).view.dmaCredit = slabAmt := rfl

end Cert.AllReduce

end
-- ==== Proof.Contents.lean ====
/-
  What the buffers hold, as functions of what every device narrowed.

  Each operation's effect on a slab, a half or a row group is stated once: the receive buffer of device `d` holds, slab
  by slab, the rows of its peers; the gathered buffer holds, slab by slab, the sums; the output is the gathered buffer
  laid out and widened.
-/
module

public import proofs.«01_k».proof.Proof.Cells
public import Idealize.ShloMosaic.Lib.Pipeline.Value

@[expose] public section

noncomputable section

namespace Cert.AllReduce

open Idealize.ShloMosaic Idealize.ShloMosaic.TcCoe
open Idealize.SL.Sem
open Cert.KernelIdeal Cert.KernelIdeal.Gen
open ValueIdx

variable {F : FTy → Type} [FloatOps F]

theorem slabI_ix (k : Slab) (x : Fin 8) (y : Fin 512) : slabI (ix3 (slabNo k) x y) = k := slabAt_no k

theorem exists_ix {k : Slab} {i : S64x8x512.Idx} (hi : i ∈ slabSet k) : ∃ (x : Fin 8) (y : Fin 512), i = ix3 (slabNo k) x y :=
  ⟨i 1, i 2, (eq_ix3 i).trans (by rw [show (i 0 : Fin 64) = slabNo k from Fin.ext (mem_slabSet.mp hi)]; rfl)⟩

/-- A half of a 64-slab buffer. -/
def halfOf (Z : Vec F S64x8x512 .bf16) (h : Fin 2) : Vec F S32x8x512 .bf16 :=
  fun i => Z (ix3 (slabNo (h, (i 0 : Fin 32))) (i 1 : Fin 8) (i 2 : Fin 512))

variable (X : Dev nD → Vec F S512x512 .bf16)

/-- What device `d` has received of everybody's input: slab `(h, s)` is device `s`'s rows. -/
def scat (d : Dev nD) : Vec F S64x8x512 .bf16 :=
  fun i => X (slabI i).2 (ix2 (rowNo ((slabI i).1, d) (i 1 : Fin 8)) (i 2 : Fin 512))

/-- The gathered sums: slab `(h, s)` is what device `s` summed. -/
def gath : Vec F S64x8x512 .bf16 :=
  fun i => summed (halfOf (scat X (slabI i).2) (slabI i).1) (ix3 (0 : Fin 1) (i 1 : Fin 8) (i 2 : Fin 512))

/-- The output. -/
def outc : Vec F S512x512 .f32 :=
  fun i => widened (halfOf (gath X) (rowI i).1) (ix2 (⟨(i 0).val % 256, Nat.mod_lt _ (by decide)⟩ : Fin 256) (i 1 : Fin 512))

theorem scat_ix (d : Dev nD) (k : Slab) (x : Fin 8) (y : Fin 512) :
    scat X d (ix3 (slabNo k) x y) = X k.2 (ix2 (rowNo (k.1, d) x) y) := by
  unfold scat; rw [slabI_ix]

theorem gath_ix (k : Slab) (x : Fin 8) (y : Fin 512) :
    gath X (ix3 (slabNo k) x y) = summed (halfOf (scat X k.2) k.1) (ix3 (0 : Fin 1) x y) := by
  unfold gath; rw [slabI_ix]

/-- A device's rows, sent to a peer, land as its slab there. -/
theorem scatter_lands (c : Dev nD) (h : Fin 2) (r : Fin 31) (fd : Vec F S64x8x512 .bf16) :
    ∀ i ∈ slabSet (h, c), (ownSlab sM c h).view.write (Elt F) fd ((peerRows nM c h r).view.read (Elt F) (X c)) Finset.univ i
      = scat X (peer c r) i := by
  intro i hi
  obtain ⟨x, y, rfl⟩ := exists_ix hi
  rw [scat_ix]
  have he : (ownSlab sM c h).view.emb (ix2 x y) = ix3 (slabNo (h, c)) x y := emb_flat (h, c) (off2_no c h) _ x y
  rw [← he]
  refine (View.write_emb_of_mem (v := (ownSlab sM c h).view) (Val := Elt F) fd _ (Finset.mem_univ (ix2 x y))).trans ?_
  show X c ((peerRows nM c h r).view.emb (ix2 x y)) = _
  exact congrArg (X c) (emb_rows (h, peer c r) (off3_eq c h r) x y)

/-- A device's own rows, kept as its own slab. -/
theorem keep_lands (c : Dev nD) (h : Fin 2) (fd : Vec F S64x8x512 .bf16) :
    ∀ i ∈ slabSet (h, c), (sM.access (Rect.unit (s := S64x8x512) (k0_off5 c (BitVec.ofNat 32 (32 * h.val))) S1x8x512.size (k0_off5_inb c h))).write (Elt F) fd
      (asSlab (nM.view.readAt (Elt F) (Rect.unit (s := S512x512) (k0_off4 c (BitVec.ofNat 32 (256 * h.val))) S8x512.size (k0_off4_inb c h)).toLoadRect (X c))) Finset.univ i
      = scat X c i := by
  intro i hi
  obtain ⟨x, y, rfl⟩ := exists_ix hi
  rw [scat_ix]
  have he : (sM.access (Rect.unit (s := S64x8x512) (k0_off5 c (BitVec.ofNat 32 (32 * h.val))) S1x8x512.size (k0_off5_inb c h))).emb (ix3 (0 : Fin 1) x y)
      = ix3 (slabNo (h, c)) x y := emb_slab (h, c) (off5_no c h) 0 x y
  rw [← he]
  refine (View.write_emb_of_mem (Val := Elt F) (v := sM.access (Rect.unit (s := S64x8x512) (k0_off5 c (BitVec.ofNat 32 (32 * h.val))) S1x8x512.size (k0_off5_inb c h))) fd _
    (Finset.mem_univ (ix3 (0 : Fin 1) x y))).trans ?_
  show asSlab _ (ix3 (0 : Fin 1) x y) = _
  unfold asSlab
  rw [shapeCast_apply (s := S8x512) (t := S1x8x512) _ _ (ix3 (0 : Fin 1) x y) (ix2 x y) (by
    rw [Shape.rowMajor_val_three, Shape.rowMajor_val_two]
    show x.val * 512 + y.val = (0 * 8 + x.val) * 512 + y.val; omega)]
  show X c ((Rect.unit (s := S512x512) (k0_off4 c (BitVec.ofNat 32 (256 * h.val))) S8x512.size (k0_off4_inb c h)).emb (ix2 x y)) = _
  exact congrArg (X c) (emb_rows (h, c) (k0_off4_eq c h) x y)

/-- The half a device sums. -/
theorem load_half (b : Vec F S64x8x512 .bf16) (h : Fin 2) :
    sM.view.readAt (Elt F) (Rect.unit (s := S64x8x512) ![32 * h.val, 0, 0] S32x8x512.size (half_inb h)).toLoadRect b = halfOf b h := by
  funext i
  show b ((Rect.unit (s := S64x8x512) ![32 * h.val, 0, 0] S32x8x512.size (half_inb h)).emb i) = _
  rw [eq_ix3 i]
  exact congrArg b (emb_half h _ _ _)

/-- The half a device writes out. -/
theorem load_half' (b : Vec F S64x8x512 .bf16) (h : Fin 2) :
    gM.view.readAt (Elt F) (Rect.unit (s := S64x8x512) ![32 * h.val, 0, 0] S32x8x512.size (half_inb h)).toLoadRect b = halfOf b h :=
  load_half b h

/-- A device's sum, stored as its slab of the result. -/
theorem sum_lands (c : Dev nD) (h : Fin 2) (fd : Vec F S64x8x512 .bf16) :
    ∀ i ∈ slabSet (h, c), (gM.access (Rect.unit (s := S64x8x512) (k0_off5 c (BitVec.ofNat 32 (32 * h.val))) S1x8x512.size (k0_off5_inb c h))).write (Elt F) fd
      (summed (halfOf (scat X c) h)) Finset.univ i = gath X i := by
  intro i hi
  obtain ⟨x, y, rfl⟩ := exists_ix hi
  rw [gath_ix]
  have he : (gM.access (Rect.unit (s := S64x8x512) (k0_off5 c (BitVec.ofNat 32 (32 * h.val))) S1x8x512.size (k0_off5_inb c h))).emb (ix3 (0 : Fin 1) x y)
      = ix3 (slabNo (h, c)) x y := emb_slab (h, c) (off5_no c h) 0 x y
  rw [← he]
  exact View.write_emb_of_mem (Val := Elt F) (v := gM.access (Rect.unit (s := S64x8x512) (k0_off5 c (BitVec.ofNat 32 (32 * h.val))) S1x8x512.size (k0_off5_inb c h))) fd _
    (Finset.mem_univ (ix3 (0 : Fin 1) x y))

/-- A device's slab of any buffer, sent to a peer, lands as the same slab there. -/
theorem gather_lands (c : Dev nD) (h : Fin 2) (g fd : Vec F S64x8x512 .bf16) :
    ∀ i ∈ slabSet (h, c), (ownSlab gM c h).view.write (Elt F) fd ((ownSlab gM c h).view.read (Elt F) g) Finset.univ i = g i := by
  intro i hi
  obtain ⟨x, y, rfl⟩ := exists_ix hi
  have he : (ownSlab gM c h).view.emb (ix2 x y) = ix3 (slabNo (h, c)) x y := emb_flat (h, c) (off2_no c h) _ x y
  rw [← he]
  exact View.write_emb_of_mem (v := (ownSlab gM c h).view) (Val := Elt F) fd _ (Finset.mem_univ (ix2 x y))

/-- The output staging block. -/
abbrev oM : Memref sig .tc .vmem S512x512 .f32 := Memref.whole cc0_stg1_0

/-- Writing half `h` out. -/
abbrev putOut (f : Vec F S512x512 .f32) (h : Fin 2) : Vec F S512x512 .f32 :=
  (oM.access (Rect.unit (s := S512x512) ![256 * h.val, 0] S256x512.size (rows_inb h))).write (Elt F) f
    (widened (halfOf (gath X) h)) Finset.univ

theorem putOut_in (f : Vec F S512x512 .f32) (h : Fin 2) (i : S512x512.Idx) (hi : i ∈ outSet h) : putOut X f h i = outc X i := by
  have hv : (i 0).val / 256 = h.val := mem_outSet.mp hi
  have he : (oM.access (Rect.unit (s := S512x512) ![256 * h.val, 0] S256x512.size (rows_inb h))).emb
      (ix2 (⟨(i 0).val % 256, Nat.mod_lt _ (by decide)⟩ : Fin 256) (i 1 : Fin 512)) = i := by
    refine (emb_out h _ _).trans ?_
    rw [eq_ix2 i]
    refine congrArg (fun n => ix2 n (i 1 : Fin 512)) (Fin.ext ?_)
    show 256 * h.val + (i 0).val % 256 = (i 0).val
    omega
  have hr : (rowI i).1 = h := (Finset.mem_filter.mp hi).2
  have hw := View.write_emb_of_mem (Val := Elt F) (v := oM.access (Rect.unit (s := S512x512) ![256 * h.val, 0] S256x512.size (rows_inb h))) f
    (widened (halfOf (gath X) h)) (Finset.mem_univ (ix2 (⟨(i 0).val % 256, Nat.mod_lt _ (by decide)⟩ : Fin 256) (i 1 : Fin 512)))
  refine (congrArg (putOut X f h) he.symm).trans (hw.trans ?_)
  unfold outc
  rw [hr]; rfl

theorem putOut_off (f : Vec F S512x512 .f32) (h : Fin 2) (i : S512x512.Idx) (hi : i ∉ outSet h) : putOut X f h i = f i :=
  View.write_of_not_mem (v := oM.access (Rect.unit (s := S512x512) ![256 * h.val, 0] S256x512.size (rows_inb h))) f _ _ (by
    show i ∉ (oM.access (Rect.unit (s := S512x512) ![256 * h.val, 0] S256x512.size (rows_inb h))).setOn Finset.univ
    have hs : (oM.access (Rect.unit (s := S512x512) ![256 * h.val, 0] S256x512.size (rows_inb h))).setOn Finset.univ = outSet h :=
      (View.set_slice_whole _ _).trans (unit_out h)
    rw [hs]; exact hi)

/-- Both halves written, the block is the output. -/
theorem putOut_both (f : Vec F S512x512 .f32) : putOut X (putOut X f 0) 1 = outc X := by
  funext i
  by_cases h1 : i ∈ outSet 1
  · exact putOut_in X _ 1 i h1
  · have h0 : i ∈ outSet 0 := by
      rw [mem_outSet] at h1 ⊢
      have : (i 0).val < 512 := (i 0).isLt
      have h1' : ¬(i 0).val / 256 = 1 := h1
      show (i 0).val / 256 = 0
      omega
    exact (putOut_off X _ 1 i h1).trans (putOut_in X f 0 i h0)

end Cert.AllReduce

end
-- ==== Proof.Schedule.lean ====
/-
  Who raises which semaphore, with what, and what everybody owes.

  One round. A device's barrier cell is raised once by each of its peers, who hands over its own slabs of the two
  64-slab buffers that belong to the device: where the device's transfers to it land. A transfer's send cell hands the
  source back, its receive cell the landed slab, both at contents fixed from the start by what every device narrowed.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers

@[expose] public section

noncomputable section

namespace Cert.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop shareTok pointsTo_toks_split pointsTo_toks_join)
open Cert.KernelIdeal Cert.KernelIdeal.Gen

/-! ### The algebra: the pipeline's copy, and the exchange's with a duty named by the device that pays it -/

abbrev ExU : Type := URounds (GSem nD τ sig) (Dev nD)
abbrev Alg : Type := UR sig nD τ × ExU

variable {F : FTy → Type} [FloatOps F]

local notation "𝕄" => MT nD τ sig Unit (Elt F) ℕ Alg ℕ

abbrev EP : Emb (UR sig nD τ) (MT nD τ sig Unit (Elt F) ℕ Alg ℕ) := embL
abbrev EX : Emb ExU (MT nD τ sig Unit (Elt F) ℕ Alg ℕ) := embR

/-! ### Cells -/

/-- A cell of a device: its barrier, or a transfer's semaphore. -/
abbrev Spot := Option Key

def spotSem : Spot → SemLoc sig
  | none => .reg bar
  | some k => .dma (semOf k)

/-- Which of them a semaphore is. -/
def spotOf : SemLoc sig → Option Spot
  | .reg _ => some none
  | .dma q => (keyOf q).map some

theorem spotOf_sem (o : Spot) : spotOf (spotSem o) = some o := by
  cases o with
  | none => rfl
  | some k => show (keyOf (semOf k)).map some = _; rw [keyOf_semOf]; rfl

theorem spotSem_injective : Function.Injective spotSem := fun a b h =>
  Option.some.inj ((spotOf_sem a).symm.trans ((congrArg spotOf h).trans (spotOf_sem b)))

abbrev cellAt (c : Dev nD) (o : Spot) : GSem nD τ sig := ((c : Thread nD τ), spotSem o)

theorem cellAt_injective : Function.Injective (fun co : Dev nD × Spot => cellAt co.1 co.2) := by
  rintro ⟨c, o⟩ ⟨c', o'⟩ h
  have h1 : c = c' := congrArg (fun g : GSem nD τ sig => g.1.1) h
  have h2 : o = o' := spotSem_injective (congrArg Prod.snd h)
  rw [h1, h2]

/-! ### Parts of buffers held -/

/-- Slab `k` of device `d`'s receive buffer, holding `f`; -/
def sAt (d : Dev nD) (k : Slab) (f : Vec F S64x8x512 .bf16) : sProp 𝕄 :=
  sM.view.loc (d : Thread nD τ) ↦[slabSet k]{fullShare} f
/-- slab `k` of its gathered buffer, at a share; -/
def gAt (d : Dev nD) (k : Slab) (q : PosShare TreeShare) (f : Vec F S64x8x512 .bf16) : sProp 𝕄 :=
  gM.view.loc (d : Thread nD τ) ↦[slabSet k]{q} f
/-- the rows of its narrowed input summed in slab `k`. -/
def nAt (d : Dev nD) (k : Slab) (f : Vec F S512x512 .bf16) : sProp 𝕄 :=
  nM.view.loc (d : Thread nD τ) ↦[rowSet k]{fullShare} f

instance sAt_storable (d : Dev nD) (k : Slab) (f : Vec F S64x8x512 .bf16) : BI.Storable (upEmb : UEmb _ 𝕄) (sAt d k f) := by
  unfold sAt; infer_instance
instance gAt_storable (d : Dev nD) (k : Slab) (q : PosShare TreeShare) (f : Vec F S64x8x512 .bf16) :
    BI.Storable (upEmb : UEmb _ 𝕄) (gAt d k q f) := by unfold gAt; infer_instance
instance nAt_storable (d : Dev nD) (k : Slab) (f : Vec F S512x512 .bf16) : BI.Storable (upEmb : UEmb _ 𝕄) (nAt d k f) := by
  unfold nAt; infer_instance

/-! ### The schedule -/

/-- The device `p` steps on from `c`. -/
def hop (c p : Dev nD) : Dev nD := ⟨(c.val + p.val) % 32, Nat.mod_lt _ (by decide)⟩

theorem hop_lane (c : Dev nD) (r : Fin 31) : hop c (lane r) = peer c r := Fin.ext (by
  rw [peer_val]; show (c.val + (1 + r.val)) % 32 = _; rw [← Nat.add_assoc])

/-- The place of a family that no transfer uses: no distance is zero, and no device sends to itself. -/
def idle (c : Dev nD) (f : Fin 4) : Dev nD := if f.val % 2 = 0 then 0 else c

/-- Who raises a cell of device `c`. -/
def raisers (c : Dev nD) : Spot → Finset (Dev nD)
  | none => Finset.univ.erase c
  | some k => if k.2.2 = idle c k.1 then ∅ else {0}

/-- What a peer hands over at the barrier. -/
def entryPay (c s : Dev nD) : sProp 𝕄 :=
  iprop((bigSep Finset.univ fun h : Fin 2 => iprop(∃ f, sAt (F := F) s (h, c) f))
    ∗ bigSep Finset.univ fun h : Fin 2 => iprop(∃ f, gAt (F := F) s (h, c) fullShare f))

variable (X : Dev nD → Vec F S512x512 .bf16)

/-- What a transfer's semaphore hands back. -/
def keyPay (c : Dev nD) (f : Fin 4) (h : Fin 2) (p : Dev nD) : sProp 𝕄 :=
  match f with
  | 0 => nAt c (h, hop c p) (X c)
  | 1 => sAt c (h, p) (scat X c)
  | 2 => gAt c (h, c) (shareTokN fullShare (p.val - 1)) (gath X)
  | 3 => gAt c (h, p) fullShare (gath X)

def spotPay (c s : Dev nD) : Option Spot → sProp 𝕄
  | some none => entryPay c s
  | some (some k) => keyPay X c k.1 k.2.1 k.2.2
  | none => iprop(emp)

instance keyPay_storable (c : Dev nD) (f : Fin 4) (h : Fin 2) (p : Dev nD) : BI.Storable (upEmb : UEmb _ 𝕄) (keyPay X c f h p) := by
  unfold keyPay; split <;> infer_instance

instance entryPay_storable (c s : Dev nD) : BI.Storable (upEmb : UEmb _ 𝕄) (entryPay (F := F) c s) := by
  unfold entryPay; infer_instance

instance spotPay_storable (c s : Dev nD) (o : Option Spot) : BI.Storable (upEmb : UEmb _ 𝕄) (spotPay X c s o) := by
  unfold spotPay; split <;> infer_instance

theorem slabAmt_pos : 0 < slabAmt := View.dmaCredit_pos _ (by decide)

def semAmt : SemLoc sig → ℕ
  | .reg _ => 1
  | .dma _ => slabAmt

def raisersAt (c : Dev nD) : Option Spot → Finset (Dev nD)
  | some o => raisers c o
  | none => ∅

def sched : Rounds.Schedule (GSem nD τ sig) (Dev nD) 𝕄 where
  duties g r := if r = 0 then raisersAt g.1.1 (spotOf g.2) else ∅
  unitless _ := False
  amount g _ _ := semAmt g.2
  payload g _ d := spotPay X g.1.1 d (spotOf g.2)
  amount_pos g _ _ _ := by
    unfold semAmt; split
    · exact Nat.one_pos
    · exact slabAmt_pos

instance sched_storable (g : GSem nD τ sig) (r : ℕ) (d : Dev nD) : BI.Storable (upEmb : UEmb _ 𝕄) ((sched X).payload g r d) :=
  spotPay_storable X g.1.1 d (spotOf g.2)

theorem duties_at (c : Dev nD) (o : Spot) : (sched X).duties (cellAt c o) 0 = raisers c o := by
  show (if 0 = 0 then raisersAt c (spotOf (spotSem o)) else ∅) = _
  rw [if_pos rfl, spotOf_sem]; rfl

theorem duties_later (g : GSem nD τ sig) : ∀ r, 1 ≤ r → (sched X).duties g r = ∅ :=
  fun r hr => if_neg (by omega)

theorem duties_idle (c : Dev nD) (k : Key) (hk : k.2.2 = idle c k.1) : ∀ r, 0 ≤ r → (sched X).duties (cellAt c (some k)) r = ∅ := by
  intro r _
  rcases Nat.eq_zero_or_pos r with rfl | hr
  · rw [duties_at]; exact if_pos hk
  · exact duties_later X _ r hr

theorem duties_key (c : Dev nD) (k : Key) (hk : k.2.2 ≠ idle c k.1) : (sched X).duties (cellAt c (some k)) 0 = {0} := by
  rw [duties_at]; exact if_neg hk

theorem payload_at (c : Dev nD) (o : Spot) (s : Dev nD) : (sched X).payload (cellAt c o) 0 s = spotPay X c s (some o) := by
  show spotPay X c s (spotOf (spotSem o)) = _
  rw [spotOf_sem]

theorem expect_bar (c : Dev nD) : (sched X).expect (cellAt c none) 0 = 31 := by
  unfold Schedule.expect Schedule.amountOf
  rw [duties_at, Finset.sum_congr rfl fun d _ => (show (sched X).amount (cellAt c none) 0 d = 1 from rfl), Finset.sum_const,
    smul_eq_mul, mul_one]
  show (Finset.univ.erase c).card = 31
  rw [Finset.card_erase_of_mem (Finset.mem_univ c), Finset.card_univ, Fintype.card_fin]; rfl

theorem expect_key (c : Dev nD) (k : Key) (hk : k.2.2 ≠ idle c k.1) : (sched X).expect (cellAt c (some k)) 0 = slabAmt := by
  unfold Schedule.expect Schedule.amountOf
  rw [duties_key X c k hk, Finset.sum_singleton]; rfl

/-- A used cell's round: its one payload. -/
theorem rest_key (c : Dev nD) (k : Key) (hk : k.2.2 ≠ idle c k.1) :
    bigSep ((sched X).duties (cellAt c (some k)) 0 \ ∅) (fun d => (sched X).payload (cellAt c (some k)) 0 d) = keyPay X c k.1 k.2.1 k.2.2 := by
  rw [Finset.sdiff_empty, duties_key X c k hk, bigSep_singleton, payload_at]; rfl

/-- The barrier cell's round: what every peer hands over. -/
theorem rest_bar (c : Dev nD) :
    bigSep ((sched X).duties (cellAt c none) 0 \ ∅) (fun d => (sched X).payload (cellAt c none) 0 d)
      = bigSep Finset.univ fun r : Fin 31 => entryPay (F := F) c (peer c r) := by
  rw [Finset.sdiff_empty, duties_at]
  show bigSep (Finset.univ.erase c) _ = _
  rw [erase_eq_map, bigSep_map]
  exact bigSep_congr fun r _ => payload_at X c none (peer c r)

theorem lane_used (c : Dev nD) (r : Fin 31) (f : Fin 4) (hf : f.val % 2 = 0) : lane r ≠ idle c f := by
  intro h
  rw [idle, if_pos hf] at h
  have : 1 + r.val = 0 := congrArg Fin.val h
  omega

theorem peer_used (c : Dev nD) (r : Fin 31) (f : Fin 4) (hf : ¬f.val % 2 = 0) : peer c r ≠ idle c f := by
  rw [idle, if_neg hf]; exact peer_ne c r

theorem self_used (c : Dev nD) (r : Fin 31) (f : Fin 4) (hf : ¬f.val % 2 = 0) : c ≠ idle (peer c r) f := by
  rw [idle, if_neg hf]; exact (peer_ne c r).symm

/-! ### What is owed -/

/-- The last `n - k` terms of a sum of `n`. -/
def restSum {M : Type} [AddCommMonoid M] (n : ℕ) (f : Fin n → M) (k : ℕ) : M := ∑ i ∈ Finset.univ.filter (fun i : Fin n => k ≤ i.val), f i

theorem restSum_step {M : Type} [AddCommMonoid M] {n : ℕ} (f : Fin n → M) (i : Fin n) : restSum n f i.val = f i + restSum n f (i.val + 1) := by
  unfold restSum
  have hi : i ∈ Finset.univ.filter (fun j : Fin n => i.val ≤ j.val) := Finset.mem_filter.mpr ⟨Finset.mem_univ _, le_rfl⟩
  rw [← Finset.add_sum_erase _ _ hi]
  congr 1
  refine Finset.sum_congr (Finset.ext fun j => ?_) fun _ _ => rfl
  rw [Finset.mem_erase, Finset.mem_filter, Finset.mem_filter, and_iff_right (Finset.mem_univ j), and_iff_right (Finset.mem_univ j)]
  constructor
  · rintro ⟨h1, h2⟩
    have : j.val ≠ i.val := fun h => h1 (Fin.ext h)
    omega
  · intro h
    exact ⟨fun h' => by rw [h'] at h; omega, by omega⟩

theorem restSum_end {M : Type} [AddCommMonoid M] (n : ℕ) (f : Fin n → M) : restSum n f n = 0 := by
  unfold restSum
  rw [Finset.filter_false_of_mem (fun j _ => by have := j.isLt; omega), Finset.sum_empty]

theorem restSum_zero {M : Type} [AddCommMonoid M] (n : ℕ) (f : Fin n → M) : restSum n f 0 = ∑ i, f i := by
  unfold restSum
  rw [Finset.filter_true_of_mem (fun j _ => Nat.zero_le _)]

/-- A signal to a peer; -/
def dueBar (c : Dev nD) (r : Fin 31) : CellTallies nD τ sig Unit := tallyAt (cellAt (peer c r) none) () 1
/-- a transfer of family `f` to a peer. -/
def dueKey (f : Fin 4) (c : Dev nD) (h : Fin 2) (r : Fin 31) : CellTallies nD τ sig Unit :=
  tallyAt (cellAt (peer c r) (some (f, h, c))) () slabAmt

/-- The signals from the `k`-th on; -/
def oweBar (c : Dev nD) (k : ℕ) : CellTallies nD τ sig Unit := restSum 31 (dueBar c) k
/-- the transfers of a family from half `h` on, -/
def oweHalf (f : Fin 4) (c : Dev nD) (h : ℕ) : CellTallies nD τ sig Unit := restSum 2 (fun h => restSum 31 (dueKey f c h) 0) h
/-- and from the `k`-th of half `h` on. -/
def oweKey (f : Fin 4) (c : Dev nD) (h : Fin 2) (k : ℕ) : CellTallies nD τ sig Unit :=
  restSum 31 (dueKey f c h) k + oweHalf f c (h.val + 1)

/-- All of it. -/
def owe₀ (c : Dev nD) : CellTallies nD τ sig Unit := oweBar c 0 + (oweHalf 1 c 0 + oweHalf 3 c 0)

theorem oweBar_step (c : Dev nD) (r : Fin 31) : oweBar c r.val = dueBar c r + oweBar c (r.val + 1) := restSum_step _ r
theorem oweBar_end (c : Dev nD) : oweBar c 31 = 0 := restSum_end 31 _
theorem oweKey_step (f : Fin 4) (c : Dev nD) (h : Fin 2) (r : Fin 31) : oweKey f c h r.val = dueKey f c h r + oweKey f c h (r.val + 1) := by
  unfold oweKey; rw [restSum_step, add_assoc]
theorem oweKey_start (f : Fin 4) (c : Dev nD) (h : Fin 2) : oweKey f c h 0 = oweHalf f c h.val := (restSum_step _ h).symm
theorem oweKey_end (f : Fin 4) (c : Dev nD) (h : Fin 2) : oweKey f c h 31 = oweHalf f c (h.val + 1) := by
  unfold oweKey; rw [restSum_end, zero_add]
theorem oweHalf_end (f : Fin 4) (c : Dev nD) : oweHalf f c 2 = 0 := restSum_end 2 _

/-! ### Levels -/

/-- A barrier below a scatter's landing below a gather's; the rest lowest. -/
def keyLv : Option Key → ℕ
  | some (1, _) => 2
  | some (3, _) => 3
  | _ => 0

def semLv : SemLoc sig → ℕ
  | .reg _ => 1
  | .dma q => keyLv (keyOf q)

def lvs (g : GSem nD τ sig) (_ : Unit) : ℕ := semLv g.2
def live (g : GSem nD τ sig) : Finset Unit := if g.1.2 = .tc then {()} else ∅

theorem live_of_ne (g : GSem nD τ sig) (h : g.1.2 ≠ .tc) : live g = ∅ := if_neg h

/-- Everything in `O` is owed to a core's cell above level `n`. -/
def Above (n : ℕ) (O : CellTallies nD τ sig Unit) : Prop := ∀ g u, 0 < O g u → g.1.2 = .tc ∧ n < lvs g u

theorem above_zero (n : ℕ) : Above n 0 := fun g u h => absurd h (Nat.lt_irrefl 0)

theorem above_add {n : ℕ} {O O' : CellTallies nD τ sig Unit} (h : Above n O) (h' : Above n O') : Above n (O + O') := fun g u hp => by
  rw [Pi.add_apply, Finsupp.add_apply] at hp
  rcases Nat.eq_zero_or_pos (O g u) with h0 | h0
  · rw [h0, Nat.zero_add] at hp; exact h' g u hp
  · exact h g u h0

theorem above_sum {ι : Type} {n : ℕ} (s : Finset ι) (f : ι → CellTallies nD τ sig Unit) (h : ∀ i ∈ s, Above n (f i)) : Above n (∑ i ∈ s, f i) :=
  Finset.sum_induction f (Above n) (fun _ _ => above_add) (above_zero n) h

theorem above_tally {n : ℕ} (c : Dev nD) (o : Spot) (k : ℕ) (h : n < semLv (spotSem o)) : Above n (tallyAt (cellAt c o) () k) := fun g u hp => by
  rw [tallyAt_apply] at hp
  by_cases hg : g = cellAt c o ∧ u = ()
  · rw [hg.1]; exact ⟨rfl, h⟩
  · rw [if_neg hg] at hp; exact absurd hp (Nat.lt_irrefl 0)

theorem semLv_key (k : Key) : semLv (spotSem (some k)) = keyLv (some k) := by
  show keyLv (keyOf (semOf k)) = _; rw [keyOf_semOf]

theorem above_bar (c : Dev nD) (k : ℕ) : Above 0 (oweBar c k) :=
  above_sum _ _ fun r _ => above_tally _ _ _ Nat.one_pos

theorem above_due {n : ℕ} (f : Fin 4) (hf : n < keyLv (some (f, 0, 0))) (c : Dev nD) (h : Fin 2) (r : Fin 31) : Above n (dueKey f c h r) :=
  above_tally _ _ _ (by
    rw [semLv_key]
    rcases f with ⟨_ | _ | _ | _ | f, h4⟩
    · exact hf
    · exact hf
    · exact hf
    · exact hf
    · omega)

theorem above_half {n : ℕ} (f : Fin 4) (hf : n < keyLv (some (f, 0, 0))) (c : Dev nD) (k : ℕ) : Above n (oweHalf f c k) :=
  above_sum _ _ fun h _ => above_sum _ _ fun r _ => above_due f hf c h r

theorem above_start (c : Dev nD) : Above 0 (owe₀ c) :=
  above_add (above_bar c 0) (above_add (above_half 1 (by decide) c 0) (above_half 3 (by decide) c 0))

/-- A device may wait on a cell at level at most `n` when all it owes is above. -/
theorem mayWait {n : ℕ} (c : Dev nD) (s : SemLoc sig) (hs : semLv s ≤ n) {O : CellTallies nD τ sig Unit} (hO : Above n O) :
    (levAts live lvs : sProp 𝕄) ⊢ MayWait (c : Thread nD τ) s () O :=
  MayOwe.of_cut (L := live) (lev := lvs) n
    (fun p hp => by rw [Finset.mem_singleton.mp hp]; exact Finset.mem_singleton_self _)
    (fun g u hg => by show u ∈ (if g.1.2 = .tc then {()} else ∅); rw [if_pos (hO g u hg).1]; exact Finset.mem_singleton_self _)
    (fun p hp => by rw [Finset.mem_singleton.mp hp]; exact hs)
    (fun g u hg => (hO g u hg).2)

end Cert.AllReduce

end
-- ==== Proof.Ops.lean ====
/-
  Each operation of the kernel, and a counted loop of them.

  An operation's statement says what it takes and what it gives back, under what everybody knows (the cells' invariants
  and that every cell is at its first round) and what the device still owes. A loop takes what its steps take.
-/
module

public import proofs.«01_k».proof.Proof.Schedule

@[expose] public section

noncomputable section

namespace Cert.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop shareTok pointsTo_toks_split pointsTo_toks_join)
open Cert.KernelIdeal Cert.KernelIdeal.Gen

variable {F : FTy → Type} [FloatOps F]

local notation "𝕄" => MT nD τ sig Unit (Elt F) ℕ Alg ℕ

abbrev 𝒱₀ : Variants := Variants.none

/-- Running `p` on device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- What device `c` still owes, whatever it has waited on. -/
def iOwe (c : Dev nD) (O : CellTallies nD τ sig Unit) : sProp 𝕄 := iprop(∃ W, owes (c : Thread nD τ) O W)

/-! ### Loops -/

theorem bigSep_succ {n : ℕ} (Φ : Fin (n + 1) → sProp 𝕄) :
    bigSep Finset.univ Φ = iprop(Φ 0 ∗ bigSep Finset.univ fun i : Fin n => Φ i.succ) := by
  rw [bigSep_erase (Finset.mem_univ (0 : Fin (n + 1)))]
  have h : (Finset.univ.erase (0 : Fin (n + 1))) = Finset.univ.map ⟨Fin.succ, Fin.succ_injective n⟩ := by
    ext i
    rw [Finset.mem_erase, Finset.mem_map]
    constructor
    · intro hi; exact ⟨i.pred hi.1, Finset.mem_univ _, Fin.succ_pred i hi.1⟩
    · rintro ⟨j, _, rfl⟩; exact ⟨Fin.succ_ne_zero j, Finset.mem_univ _⟩
  rw [h, bigSep_map]; rfl

/-- A loop: each step turns its `A` into its `B` and moves the running state on. -/
theorem run_steps (c : Dev nD) (R : sProp 𝕄) [BI.Persistent R] : ∀ (n : ℕ) (f : Fin n → P (F := F)) (A B : Fin n → sProp 𝕄) (C : ℕ → sProp 𝕄),
    (∀ r, iprop(R ∗ A r ∗ C r.val) ⊢ run c (f r) fun _ => iprop(B r ∗ C (r.val + 1)))
    → iprop(R ∗ bigSep Finset.univ A ∗ C 0) ⊢ run c (steps n f) fun _ => iprop(bigSep Finset.univ B ∗ C n)
  | 0, f, A, B, C, h => by
    rw [Finset.univ_eq_empty, bigSep_empty, bigSep_empty]
    show _ ⊢ run c (Prog.ret PUnit.unit) _
    rw [run, wp_ret]
    iintro ⟨-, -, HC⟩
    imodintro
    isplitr; · iempintro
    iexact HC
  | n + 1, f, A, B, C, h => by
    rw [bigSep_succ, bigSep_succ]
    show _ ⊢ run c (f 0 >>= fun _ => steps n fun i => f i.succ) _
    rw [run, wp_bind]
    iintro ⟨#HR, ⟨HA, HAs⟩, HC⟩
    have h0 : iprop(R ∗ A 0 ∗ C 0) ⊢ run c (f 0) fun _ => iprop(B 0 ∗ C (0 + 1)) := h 0
    ihave H := h0 $$ [HA HC]
    · isplitr; · iexact HR
      isplitl [HA]; · iexact HA
      iexact HC
    iapply (wp_wand _ _ _) $$ H
    iintro %_ ⟨HB, HC⟩
    ihave H := (run_steps c R n (fun i => f i.succ) (fun i => A i.succ) (fun i => B i.succ) (fun k => C (k + 1)) fun r => h r.succ) $$ [HAs HC]
    · isplitr; · iexact HR
      isplitl [HAs]; · iexact HAs
      iexact HC
    iapply (wp_wand _ _ _) $$ H
    iintro %_ ⟨HBs, HC⟩
    isplitl [HB HBs]
    · isplitl [HB]; · iexact HB
      iexact HBs
    iexact HC

/-- One program after another. -/
theorem run_then (c : Dev nD) {H R : sProp 𝕄} {p : P (F := F)} {k : PUnit → P (F := F)} {Q : PUnit → sProp 𝕄}
    (h : H ⊢ run c p fun _ => R) : iprop(H ∗ (R -∗ run c (k ⟨⟩) Q)) ⊢ run c (p >>= k) Q := by
  unfold run
  rw [wp_bind]
  iintro ⟨HH, Hk⟩
  ihave HH := h $$ HH
  iapply (wp_wand _ _ _) $$ HH
  iintro %_ HR
  iapply Hk
  iexact HR

/-! ### What everybody knows -/

variable (X : Dev nD → Vec F S512x512 .bf16) (K : Dev nD × Spot → ℕ)

/-- Every cell's invariant, and that every cell has reached round 0; -/
def records : sProp 𝕄 :=
  iprop((bigSep Finset.univ fun co : Dev nD × Spot => cellInv EX (sched X) (K co) (cellAt co.1 co.2))
    ∗ bigSep Finset.univ fun co : Dev nD × Spot => reached EX (cellAt co.1 co.2) 0)

/-- with the levels. -/
def known : sProp 𝕄 := iprop(records X K ∗ levAts live lvs)

instance records_persistent : BI.Persistent (records X K) := by unfold records; infer_instance
instance known_persistent : BI.Persistent (known X K) := by unfold known; infer_instance

theorem each {I : Type} {s : Finset I} {Φ Ψ : I → sProp 𝕄} (h : ∀ i, Φ i ⊢ Ψ i) : (bigSep s Φ : sProp 𝕄) ⊢ bigSep s Ψ :=
  bigSep_mono fun i _ => h i

theorem pick {I : Type} [DecidableEq I] {s : Finset I} {i : I} (h : i ∈ s) (Φ : I → sProp 𝕄) : (bigSep s Φ : sProp 𝕄) ⊢ Φ i := bigSep_elim h

theorem inv_at (c : Dev nD) (o : Spot) : known X K ⊢ cellInv EX (sched X) (K (c, o)) (cellAt c o) := by
  unfold known records
  iintro ⟨⟨H, -⟩, -⟩
  iapply (pick (Finset.mem_univ (c, o)) (fun co : Dev nD × Spot => cellInv EX (sched X) (K co) (cellAt co.1 co.2)))
  iexact H

theorem reached_at (c : Dev nD) (o : Spot) : known X K ⊢ reached EX (cellAt c o) 0 := by
  unfold known records
  iintro ⟨⟨-, H⟩, -⟩
  iapply (pick (Finset.mem_univ (c, o)) (fun co : Dev nD × Spot => reached EX (cellAt co.1 co.2) 0))
  iexact H

theorem known_mayWait {n : ℕ} (c : Dev nD) (s : SemLoc sig) (hs : semLv s ≤ n) {O : CellTallies nD τ sig Unit} (hO : Above n O) :
    known X K ⊢ MayWait (c : Thread nD τ) s () O := by
  unfold known
  iintro ⟨-, H⟩
  iapply (mayWait (F := F) c s hs hO)
  iexact H

/-! ### The barrier -/

theorem mem_bar (c : Dev nD) (r : Fin 31) : c ∈ (sched X).duties (cellAt (peer c r) none) 0 := by
  rw [duties_at X (peer c r) none]; exact Finset.mem_erase.mpr ⟨(peer_ne c r).symm, Finset.mem_univ _⟩

theorem pay_bar (c : Dev nD) (r : Fin 31) : entryPay (F := F) (peer c r) c ⊢ (sched X).payload ((peer c r : Thread nD τ), .reg bar) 0 c :=
  Entails.of_eq (payload_at X (peer c r) none c).symm

theorem op_signal (c : Dev nD) (r : Fin 31) {O : CellTallies nD τ sig Unit} :
    iprop(known X K ∗ (dutyTok EX (cellAt (peer c r) none) 0 c ∗ entryPay (peer c r) c) ∗ iOwe c (dueBar c r + O))
      ⊢ run c (opSignal c r) fun _ => iprop(emp ∗ iOwe c O) := by
  unfold opSignal semSignalWord iOwe
  iintro ⟨#HK, ⟨Ht, Hp⟩, ⟨%W, HO⟩⟩
  iapply (Rounds.wp_signal 𝒱₀ EX (sched X) (c : Thread nD τ) none (dst := (peer c r : Thread nD τ)) (sem := bar) (κ := K (peer c r, none)) (r := 0)
      (d := c) (mem_bar X c r) (show 1 = _ by decide) () O (add_comm _ _))
    $$ [HO Ht Hp]
  · isplitr; · iapply (inv_at X K (peer c r) none); iexact HK
    isplitl [HO]; · iexact HO
    isplitl [Ht]; · iexact Ht
    isplitl [Hp]; · iapply (pay_bar X c r); iexact Hp
    iapply (reached_at X K (peer c r) none); iexact HK
  iintro HO
  rw [wp_ret]; imodintro
  isplitr; · iempintro
  iexists W; iexact HO

theorem op_barrier (c : Dev nD) {O : CellTallies nD τ sig Unit} (hO : Above 1 O) :
    iprop(known X K ∗ (cred (tallyAt (cellAt c none) () 31) ∗ atPos EX (cellAt c none) 0 ∅ 0) ∗ iOwe c O)
      ⊢ run c (semWaitWord bar 31#32) fun _ => iprop((atPos EX (cellAt c none) 1 ∅ 0
          ∗ bigSep Finset.univ fun r : Fin 31 => entryPay (F := F) c (peer c r)) ∗ iOwe c O) := by
  unfold semWaitWord iOwe
  iintro ⟨#HK, ⟨Hc, Hat⟩, ⟨%W, HO⟩⟩
  iapply (Rounds.wp_wait_rest_token 𝒱₀ EX (sched X) (c : Thread nD τ) none (κ := K (c, none)) (sm := .reg bar)
      (wpE_semWait_eq 𝒱₀ (c : Thread nD τ) none Set.univ) (Set.mem_univ _) () (O := O) (W := W) (R := 0) (m := 0) (T := ∅)
      ((by decide : 0 + (31#32).toNat = 31).trans (expect_bar X c).symm)) $$ [Hc HO Hat]
  · isplitr; · iapply (inv_at X K c none); iexact HK
    isplitl [Hc]; · iexact Hc
    isplitl [HO]; · iexact HO
    isplitr; · iapply (known_mayWait X K c (.reg bar) (show semLv (.reg bar) ≤ 1 from Nat.le_refl 1) hO); iexact HK
    iexact Hat
  iintro ⟨HO, Hat, -, Hpay⟩
  rw [wp_ret]; imodintro
  isplitl [Hat Hpay]
  · isplitl [Hat]; · iexact Hat
    iapply (Entails.of_eq (rest_bar X c))
    iexact Hpay
  iexists _; iexact HO

/-! ### Transfers -/

theorem mem_key (c : Dev nD) (k : Key) (hk : k.2.2 ≠ idle c k.1) : (0 : Dev nD) ∈ (sched X).duties (cellAt c (some k)) 0 := by
  rw [duties_key X c k hk]; exact Finset.mem_singleton_self _

/-- A transfer from `c` to `c'`, its send semaphore and its receive semaphore used ones. -/
theorem run_send (c c' : Dev nD) (k k' : Key) (hk : k.2.2 ≠ idle c k.1) (hk' : k'.2.2 ≠ idle c' k'.1) {sS sR : DmaSem sig}
    (hS : sS = semOf k) (hR : sR = semOf k') {s : Shape} {e : EltTy}
    {src : Memref sig .tc .vmem s e} {dst : Memref sig .tc .vmem s e} {hsc : dst.view.ref.isScScratch = false}
    {hsrc : src.view.WordExact} {hdst : dst.view.WordExact}
    {hsem : DmaTarget.Typed .vmem (.dma sR) (.remote (Dev.tc c' : Thread nD τ) dst (.dma sS) hsc)}
    (hN : dst.view.dmaCredit = slabAmt) {q : PosShare TreeShare}
    (fs : Buf (Elt F) (src.view.loc (c : Thread nD τ))) (fd : Buf (Elt F) (dst.view.loc (c' : Thread nD τ)))
    (hp : (src.view.loc (c : Thread nD τ) ↦[src.view.set]{q} fs : sProp 𝕄) ⊢ keyPay X c k.1 k.2.1 k.2.2)
    (hp' : (dst.view.loc (c' : Thread nD τ) ↦[dst.view.set]{fullShare} dst.view.write (Elt F) fd (src.view.read (Elt F) fs) Finset.univ : sProp 𝕄)
      ⊢ keyPay X c' k'.1 k'.2.1 k'.2.2) {O : CellTallies nD τ sig Unit} :
    iprop(known X K ∗ (dutyTok EX (cellAt c (some k)) 0 0 ∗ dutyTok EX (cellAt c' (some k')) 0 0
        ∗ (src.view.loc (c : Thread nD τ) ↦[src.view.set]{q} fs) ∗ (dst.view.loc (c' : Thread nD τ) ↦[dst.view.set]{fullShare} fd))
        ∗ iOwe c (tallyAt (cellAt c' (some k')) () slabAmt + O))
      ⊢ run c (Prog.lift (.enqueueDma src (.remote (Dev.tc c' : Thread nD τ) dst (.dma sS) hsc) (.dma sR) hsrc hdst hsem))
          fun _ => iprop(cred (tallyAt (cellAt c (some k)) () slabAmt) ∗ iOwe c O) := by
  subst hS hR
  unfold iOwe Prog.lift
  iintro ⟨#HK, ⟨Ht, Ht', Hs, Hd⟩, ⟨%W, HO⟩⟩
  iapply (Rounds.wp_send_pointsTo 𝒱₀ EX (sched X) (c : Thread nD τ) none (κ₁ := K (c, some k)) (κ₂ := K (c', some k'))
      (r₁ := 0) (r₂ := 0) (d₁ := 0) (d₂ := 0) (fd := fd)
      (mem_key X c k hk) (mem_key X c' k' hk')
      () () slabAmt hN rfl rfl O (add_comm _ _) (W := W)
      (hp.trans (Entails.of_eq (payload_at X c (some k) 0).symm)) (hp'.trans (Entails.of_eq (payload_at X c' (some k') 0).symm))) $$ [HO Ht Ht' Hs Hd]
  · isplitr; · iapply (inv_at X K c (some k)); iexact HK
    isplitr; · iapply (inv_at X K c' (some k')); iexact HK
    isplitl [Hs]; · iexact Hs
    isplitl [Hd]; · iexact Hd
    isplitl [HO]; · iexact HO
    isplitl [Ht]; · iexact Ht
    isplitr; · iapply (reached_at X K c (some k)); iexact HK
    isplitl [Ht']; · iexact Ht'
    iapply (reached_at X K c' (some k')); iexact HK
  iintro ⟨Hc, HO⟩
  rw [wp_ret]; imodintro
  isplitl [Hc]; · iexact Hc
  iexists W; iexact HO

/-- A wait on a used semaphore of a transfer. -/
theorem run_wait (c : Dev nD) (k : Key) (hk : k.2.2 ≠ idle c k.1) {q : DmaSem sig} (hq : q = semOf k)
    {s s' : Shape} {e e' : EltTy} {src : Memref sig .tc .vmem s' e'} {dst : Memref sig .tc .vmem s e}
    {hsrc : src.view.WordExact} {hdst : dst.view.WordExact} (hN : dst.view.dmaCredit = slabAmt)
    {n : ℕ} (hn : keyLv (some k) ≤ n) {O : CellTallies nD τ sig Unit} (hO : Above n O) :
    iprop(known X K ∗ (cred (tallyAt (cellAt c (some k)) () slabAmt) ∗ atPos EX (cellAt c (some k)) 0 ∅ 0) ∗ iOwe c O)
      ⊢ run c (Prog.lift (.waitDma2 q src dst hsrc hdst))
          fun _ => iprop((atPos EX (cellAt c (some k)) 1 ∅ 0 ∗ keyPay X c k.1 k.2.1 k.2.2) ∗ iOwe c O) := by
  subst hq
  unfold iOwe Prog.lift
  iintro ⟨#HK, ⟨Hc, Hat⟩, ⟨%W, HO⟩⟩
  iapply (Rounds.wp_wait_rest_token 𝒱₀ EX (sched X) (c : Thread nD τ) none (κ := K (c, some k)) (sm := .dma (semOf k))
      (wpE_waitDma2_eq 𝒱₀ (c : Thread nD τ) none Set.univ) (Set.mem_univ _) () (O := O) (W := W) (R := 0) (m := 0) (T := ∅)
      (by rw [Nat.zero_add, hN]; exact (expect_key X c k hk).symm)) $$ [Hc HO Hat]
  · isplitr; · iapply (inv_at X K c (some k)); iexact HK
    isplitl [Hc]; · rw [hN]; iexact Hc
    isplitl [HO]; · iexact HO
    isplitr
    · iapply (known_mayWait X K c (.dma (semOf k)) (by rw [show semLv (.dma (semOf k)) = keyLv (some k) from semLv_key k]; exact hn) hO)
      iexact HK
    iexact Hat
  iintro ⟨HO, Hat, -, Hpay⟩
  rw [wp_ret]; imodintro
  isplitl [Hat Hpay]
  · isplitl [Hat]; · iexact Hat
    iapply (Entails.of_eq (rest_key X c k hk))
    iexact Hpay
  iexists _; iexact HO

end Cert.AllReduce

end
-- ==== Proof.Steps.lean ====
/-
  The kernel's own operations, each by the general statement for its kind.
-/
module

public import proofs.«01_k».proof.Proof.Ops

@[expose] public section

noncomputable section

namespace Cert.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop shareTok pointsTo_toks_split pointsTo_toks_join)
open Cert.KernelIdeal Cert.KernelIdeal.Gen

variable {F : FTy → Type} [FloatOps F]

local notation "𝕄" => MT nD τ sig Unit (Elt F) ℕ Alg ℕ

/-! ### Slabs of a half, and rows -/

/-- A device and its 31 peers are all the devices. -/
theorem around (c : Dev nD) (Φ : Dev nD → sProp 𝕄) :
    bigSep Finset.univ Φ = iprop(Φ c ∗ bigSep Finset.univ fun r : Fin 31 => Φ (peer c r)) := by
  rw [bigSep_erase (Finset.mem_univ c), erase_eq_map, bigSep_map]; rfl

theorem half_union (h : Fin 2) : halfSet h = Finset.univ.biUnion fun p : Dev nD => slabSet (h, p) := by
  ext i
  rw [Finset.mem_biUnion, halfSet, Finset.mem_filter, and_iff_right (Finset.mem_univ i)]
  constructor
  · intro e; exact ⟨(slabI i).2, Finset.mem_univ _, Finset.mem_filter.mpr ⟨Finset.mem_univ i, Prod.ext e rfl⟩⟩
  · rintro ⟨p, _, hp⟩; rw [(Finset.mem_filter.mp hp).2]

theorem slab_disjoint {k k' : Slab} (h : k ≠ k') : Disjoint (slabSet k) (slabSet k') :=
  Finset.disjoint_left.mpr fun i hi hi' => h ((Finset.mem_filter.mp hi).2.symm.trans (Finset.mem_filter.mp hi').2)

theorem half_disjoint (h : Fin 2) : ∀ p ∈ (Finset.univ : Finset (Dev nD)), ∀ p' ∈ (Finset.univ : Finset (Dev nD)), p ≠ p' →
    Disjoint (slabSet (h, p)) (slabSet (h, p')) :=
  fun p _ p' _ hne => slab_disjoint fun e => hne (congrArg Prod.snd e)

theorem half_s (c : Dev nD) (h : Fin 2) (f : Vec F S64x8x512 .bf16) :
    (sM.view.loc (c : Thread nD τ) ↦[halfSet h]{fullShare} f : sProp 𝕄)
      = iprop(sAt c (h, c) f ∗ bigSep Finset.univ fun r : Fin 31 => sAt c (h, peer c r) f) := by
  rw [half_union]
  exact (pointsTo_biUnion _ _ (half_disjoint h)).trans (around c fun p => sAt c (h, p) f)

theorem half_g (c : Dev nD) (h : Fin 2) (q : PosShare TreeShare) (f : Vec F S64x8x512 .bf16) :
    (gM.view.loc (c : Thread nD τ) ↦[halfSet h]{q} f : sProp 𝕄)
      = iprop(gAt c (h, c) q f ∗ bigSep Finset.univ fun r : Fin 31 => gAt c (h, peer c r) q f) := by
  rw [half_union]
  exact (pointsTo_biUnion _ _ (half_disjoint h)).trans (around c fun p => gAt c (h, p) q f)

theorem view_n (c d : Dev nD) (h : Fin 2) (r : Fin 31) (f : Vec F S512x512 .bf16) :
    nAt d (h, peer c r) f = ((peerRows nM c h r).view.loc (d : Thread nD τ) ↦[(peerRows nM c h r).view.set]{fullShare} f : sProp 𝕄) :=
  congrArg (fun S => (nM.view.loc (d : Thread nD τ) ↦[S]{fullShare} f : sProp 𝕄)) (peerRows_n c h r).symm

theorem view_s (c d : Dev nD) (h : Fin 2) (f : Vec F S64x8x512 .bf16) :
    sAt d (h, c) f = ((ownSlab sM c h).view.loc (d : Thread nD τ) ↦[(ownSlab sM c h).view.set]{fullShare} f : sProp 𝕄) :=
  congrArg (fun S => (sM.view.loc (d : Thread nD τ) ↦[S]{fullShare} f : sProp 𝕄)) (ownSlab_s c h).symm

theorem view_g (c d : Dev nD) (h : Fin 2) (q : PosShare TreeShare) (f : Vec F S64x8x512 .bf16) :
    gAt d (h, c) q f = ((ownSlab gM c h).view.loc (d : Thread nD τ) ↦[(ownSlab gM c h).view.set]{q} f : sProp 𝕄) :=
  congrArg (fun S => (gM.view.loc (d : Thread nD τ) ↦[S]{q} f : sProp 𝕄)) (ownSlab_g c h).symm

theorem sAt_congr (d : Dev nD) (k : Slab) {f g : Vec F S64x8x512 .bf16} (h : ∀ i ∈ slabSet k, f i = g i) : (sAt d k f : sProp 𝕄) = sAt d k g :=
  pointsTo_congr h
theorem gAt_congr (d : Dev nD) (k : Slab) (q : PosShare TreeShare) {f g : Vec F S64x8x512 .bf16} (h : ∀ i ∈ slabSet k, f i = g i) :
    (gAt d k q f : sProp 𝕄) = gAt d k q g :=
  pointsTo_congr h

/-! ### Transfers and their waits -/

variable (X : Dev nD → Vec F S512x512 .bf16) (K : Dev nD × Spot → ℕ)
variable {harg2 : nM.IsWhole} {harg3 : sM.IsWhole} {harg4 : gM.IsWhole}

/-- The credit a used semaphore's wait needs, and the waiter's place there. -/
def credAt (c : Dev nD) (k : Key) : sProp 𝕄 := cred (tallyAt (cellAt c (some k)) () slabAmt)
def posAt (c : Dev nD) (k : Key) (n : ℕ) : sProp 𝕄 := atPos EX (cellAt c (some k)) n ∅ 0
/-- The two tokens of a transfer from `c` to `peer c r`, of send family `f` and receive family `f'`. -/
def tokAt (f f' : Fin 4) (c : Dev nD) (h : Fin 2) (r : Fin 31) : sProp 𝕄 :=
  iprop(dutyTok EX (cellAt c (some (f, h, lane r))) 0 0 ∗ dutyTok EX (cellAt (peer c r) (some (f', h, c))) 0 0)

theorem op_scatter (c : Dev nD) (h : Fin 2) (r : Fin 31) {O : CellTallies nD τ sig Unit} :
    iprop(known X K ∗ (tokAt 0 1 c h r ∗ nAt c (h, peer c r) (X c) ∗ ∃ f, sAt (peer c r) (h, c) f) ∗ iOwe c (dueKey 1 c h r + O))
      ⊢ run c (opScatter nM harg2 sM harg3 cc0_scratch3 cc0_scratch4 c h r) fun _ => iprop(credAt c (0, h, lane r) ∗ iOwe c O) := by
  unfold opScatter tokAt credAt dueKey
  iintro ⟨#HK, ⟨⟨Ht, Ht'⟩, Hn, ⟨%f, Hs⟩⟩, HO⟩
  have hp : ((peerRows nM c h r).view.loc (c : Thread nD τ) ↦[(peerRows nM c h r).view.set]{fullShare} X c : sProp 𝕄) ⊢ keyPay X c 0 h (lane r) :=
    Entails.of_eq ((view_n c c h r (X c)).symm.trans (by show _ = nAt c (h, hop c (lane r)) (X c); rw [hop_lane]))
  have hp' : ((ownSlab sM c h).view.loc (peer c r : Thread nD τ) ↦[(ownSlab sM c h).view.set]{fullShare}
      (ownSlab sM c h).view.write (Elt F) f ((peerRows nM c h r).view.read (Elt F) (X c)) Finset.univ : sProp 𝕄) ⊢ keyPay X (peer c r) 1 h c :=
    Entails.of_eq ((view_s c (peer c r) h _).symm.trans (sAt_congr (peer c r) (h, c) (scatter_lands X c h r f)))
  iapply (run_send X K c (peer c r) (0, h, lane r) (1, h, c) (lane_used c r 0 rfl) (self_used c r 1 (by decide)) (laneSem_5 h r) (ownSem_6 c h)
    (src := peerRows nM c h r) (dst := ownSlab sM c h) (amt_s c h) (q := fullShare) (X c) f hp hp')
  isplitr; · iexact HK
  isplitr [HO]
  · isplitl [Ht]; · iexact Ht
    isplitl [Ht']; · iexact Ht'
    isplitl [Hn]
    · iapply (Entails.of_eq (view_n c c h r (X c))); iexact Hn
    iapply (Entails.of_eq (view_s c (peer c r) h f)); iexact Hs
  iexact HO

theorem op_gather (c : Dev nD) (h : Fin 2) (r : Fin 31) {O : CellTallies nD τ sig Unit} :
    iprop(known X K ∗ (tokAt 2 3 c h r ∗ gAt c (h, c) (shareTokN fullShare r.val) (gath X) ∗ ∃ f, gAt (peer c r) (h, c) fullShare f)
        ∗ iOwe c (dueKey 3 c h r + O))
      ⊢ run c (opGather gM harg4 cc0_scratch5 cc0_scratch6 c h r) fun _ => iprop(credAt c (2, h, lane r) ∗ iOwe c O) := by
  unfold opGather tokAt credAt dueKey
  iintro ⟨#HK, ⟨⟨Ht, Ht'⟩, Hn, ⟨%f, Hs⟩⟩, HO⟩
  have hp : ((ownSlab gM c h).view.loc (c : Thread nD τ) ↦[(ownSlab gM c h).view.set]{shareTokN fullShare r.val} gath X : sProp 𝕄)
      ⊢ keyPay X c 2 h (lane r) :=
    Entails.of_eq ((view_g c c h _ (gath X)).symm.trans (by
      show _ = gAt c (h, c) (shareTokN fullShare (1 + r.val - 1)) (gath X); rw [Nat.add_sub_cancel_left]))
  have hp' : ((ownSlab gM c h).view.loc (peer c r : Thread nD τ) ↦[(ownSlab gM c h).view.set]{fullShare}
      (ownSlab gM c h).view.write (Elt F) f ((ownSlab gM c h).view.read (Elt F) (gath X)) Finset.univ : sProp 𝕄) ⊢ keyPay X (peer c r) 3 h c :=
    Entails.of_eq ((view_g c (peer c r) h _ _).symm.trans (gAt_congr (peer c r) (h, c) fullShare (gather_lands c h (gath X) f)))
  iapply (run_send X K c (peer c r) (2, h, lane r) (3, h, c) (lane_used c r 2 rfl) (self_used c r 3 (by decide)) (laneSem_7 h r) (ownSem_8 c h)
    (src := ownSlab gM c h) (dst := ownSlab gM c h) (amt_g c h) (q := shareTokN fullShare r.val) (gath X) f hp hp')
  isplitr; · iexact HK
  isplitr [HO]
  · isplitl [Ht]; · iexact Ht
    isplitl [Ht']; · iexact Ht'
    isplitl [Hn]
    · iapply (Entails.of_eq (view_g c c h _ (gath X))); iexact Hn
    iapply (Entails.of_eq (view_g c (peer c r) h _ f)); iexact Hs
  iexact HO

theorem op_scattered (c : Dev nD) (h : Fin 2) (r : Fin 31) {O : CellTallies nD τ sig Unit} (hO : Above 2 O) :
    iprop(known X K ∗ (credAt c (1, h, peer c r) ∗ posAt c (1, h, peer c r) 0) ∗ iOwe c O)
      ⊢ run c (opScattered nM harg2 sM harg3 cc0_scratch4 c h r)
          fun _ => iprop((posAt c (1, h, peer c r) 1 ∗ sAt c (h, peer c r) (scat X c)) ∗ iOwe c O) := by
  unfold opScattered credAt posAt
  exact run_wait X K c (1, h, peer c r) (peer_used c r 1 (by decide)) (peerSem_6 c h r) (amt_ps c h r) (Nat.le_refl 2) hO

theorem op_scatterSent (c : Dev nD) (h : Fin 2) (r : Fin 31) {O : CellTallies nD τ sig Unit} (hO : Above 0 O) :
    iprop(known X K ∗ (credAt c (0, h, lane r) ∗ posAt c (0, h, lane r) 0) ∗ iOwe c O)
      ⊢ run c (opScatterSent nM harg2 sM harg3 cc0_scratch3 c h r)
          fun _ => iprop((posAt c (0, h, lane r) 1 ∗ nAt c (h, peer c r) (X c)) ∗ iOwe c O) := by
  unfold opScatterSent credAt posAt
  have e : keyPay X c 0 h (lane r) = nAt c (h, peer c r) (X c) := by
    show nAt c (h, hop c (lane r)) (X c) = _; rw [hop_lane]
  rw [← e]
  exact run_wait X K c (0, h, lane r) (lane_used c r 0 rfl) (laneSem_5 h r) (amt_n c h r) (Nat.le_refl 0) hO

theorem op_gathered (c : Dev nD) (h : Fin 2) (r : Fin 31) {O : CellTallies nD τ sig Unit} (hO : Above 3 O) :
    iprop(known X K ∗ (credAt c (3, h, peer c r) ∗ posAt c (3, h, peer c r) 0) ∗ iOwe c O)
      ⊢ run c (opGathered gM harg4 cc0_scratch6 c h r)
          fun _ => iprop((posAt c (3, h, peer c r) 1 ∗ gAt c (h, peer c r) fullShare (gath X)) ∗ iOwe c O) := by
  unfold opGathered credAt posAt
  exact run_wait X K c (3, h, peer c r) (peer_used c r 3 (by decide)) (peerSem_8 c h r) (amt_pg c h r) (Nat.le_refl 3) hO

theorem op_gatherSent (c : Dev nD) (h : Fin 2) (r : Fin 31) {O : CellTallies nD τ sig Unit} (hO : Above 0 O) :
    iprop(known X K ∗ (credAt c (2, h, lane r) ∗ posAt c (2, h, lane r) 0) ∗ iOwe c O)
      ⊢ run c (opGatherSent gM harg4 cc0_scratch5 c h r)
          fun _ => iprop((posAt c (2, h, lane r) 1 ∗ gAt c (h, c) (shareTokN fullShare r.val) (gath X)) ∗ iOwe c O) := by
  unfold opGatherSent credAt posAt
  have e : keyPay X c 2 h (lane r) = gAt c (h, c) (shareTokN fullShare r.val) (gath X) := by
    show gAt c (h, c) (shareTokN fullShare (1 + r.val - 1)) (gath X) = _; rw [Nat.add_sub_cancel_left]
  rw [← e]
  exact run_wait X K c (2, h, lane r) (lane_used c r 2 rfl) (laneSem_7 h r) (amt_g c h) (Nat.le_refl 0) hO

/-! ### Loads and stores -/

abbrev xM : Memref sig .tc .vmem S1x512x512 .f32 := Memref.whole cc0_stg0_0

theorem op_narrow (c : Dev nD) (x : Vec F S1x512x512 .f32) (f : Vec F S512x512 .bf16) :
    iprop((xM.view.loc (c : Thread nD τ) ↦{fullShare} x) ∗ (nM.view.loc (c : Thread nD τ) ↦{fullShare} f))
      ⊢ run c (opNarrow xM nM harg2) fun _ => iprop((xM.view.loc (c : Thread nD τ) ↦{fullShare} x)
          ∗ (nM.view.loc (c : Thread nD τ) ↦{fullShare} narrowed x) : sProp 𝕄) := by
  have hz2 : (![0, 0] : Fin 2 → ℕ) = fun _ => 0 := by funext a; fin_cases a <;> rfl
  have hz3 : (![0, 0, 0] : Fin 3 → ℕ) = fun _ => 0 := by funext a; fin_cases a <;> rfl
  unfold opNarrow
  simp only [Prog.lift, Prog.bind_op, Prog.bind_ret]
  iintro ⟨Hx, Hn⟩
  iapply (wp_load 𝒱₀ (c : Thread nD τ) none Set.univ (m := xM) (Finset.subset_univ _)) $$ Hx; iintro Hx
  iapply (wp_load 𝒱₀ (c : Thread nD τ) none Set.univ (m := nM) (Finset.subset_univ _)) $$ Hn; iintro Hn
  iapply (wp_store 𝒱₀ (c : Thread nD τ) none Set.univ (m := nM)
    (r := Rect.unit (s := S512x512) ![0, 0] S512x512.size inb_S512x512_S512x512_0_0) (Mk := Finset.univ) (Finset.subset_univ _)) $$ Hn; iintro Hn
  have e1 : xM.view.readAt (Elt F) (Rect.unit (s := S1x512x512) ![0, 0, 0] S1x512x512.size inb_S1x512x512_S1x512x512_0_0_0).toLoadRect x = x :=
    Memref.readAt_unit_zero (Elt F) cc0_stg0_0 hz3 _ x
  have e2 : ∀ w : Vec F S512x512 .bf16, (nM.access (Rect.unit (s := S512x512) ![0, 0] S512x512.size inb_S512x512_S512x512_0_0)).write (Elt F) f w
      Finset.univ = w := fun w => Memref.write_access_unit_zero_univ (Elt F) cc0_scratch0 hz2 _ f w
  rw [e2, e1, wp_ret]
  imodintro
  isplitl [Hx]; · iexact Hx
  iexact Hn

theorem op_keep (c : Dev nD) (h : Fin 2) :
    iprop(nAt c (h, c) (X c) ∗ ∃ f, sAt c (h, c) f)
      ⊢ run c (opKeep nM sM harg3 c h) fun _ => iprop(nAt c (h, c) (X c) ∗ sAt c (h, c) (scat X c)) := by
  unfold opKeep
  simp only [Prog.lift, Prog.bind_op, Prog.bind_ret]
  iintro ⟨Hn, ⟨%f, Hs⟩⟩
  have hn : nM.view.setOn (Rect.unit (s := S512x512) (k0_off4 c (BitVec.ofNat 32 (256 * h.val))) S8x512.size (k0_off4_inb c h)).toLoadRect.set
      ⊆ rowSet (h, c) := by
    have e : (nM.access (Rect.unit (s := S512x512) (k0_off4 c (BitVec.ofNat 32 (256 * h.val))) S8x512.size (k0_off4_inb c h))).set = rowSet (h, c) :=
      (View.set_slice_whole _ _).trans (unit_rows (h, c) (k0_off4_eq c h))
    rw [View.set_slice] at e
    exact e.le
  have e : (sM.access (Rect.unit (s := S64x8x512) (k0_off5 c (BitVec.ofNat 32 (32 * h.val))) S1x8x512.size (k0_off5_inb c h))).set = slabSet (h, c) :=
    (View.set_slice_whole _ _).trans (unit_slab (h, c) (off5_no c h))
  unfold nAt sAt
  iapply (wp_load 𝒱₀ (c : Thread nD τ) none Set.univ (m := nM) hn) $$ Hn; iintro Hn
  iapply (wp_load_rect 𝒱₀ (c : Thread nD τ) none Set.univ (m := sM) e.le) $$ Hs; iintro Hs
  iapply (wp_store 𝒱₀ (c : Thread nD τ) none Set.univ (m := sM) (Mk := Finset.univ) e.le) $$ Hs; iintro Hs
  rw [wp_ret]
  imodintro
  isplitl [Hn]; · iexact Hn
  have e' := Entails.of_eq (sAt_congr c (h, c) (keep_lands X c h f))
  unfold sAt at e'
  iapply e'
  iexact Hs

theorem op_sum (c : Dev nD) (h : Fin 2) :
    iprop((bigSep Finset.univ fun r : Fin 31 => sAt c (h, peer c r) (scat X c)) ∗ sAt c (h, c) (scat X c) ∗ ∃ f, gAt c (h, c) fullShare f)
      ⊢ run c (opSum sM gM harg4 c h) fun _ => iprop((bigSep Finset.univ fun r : Fin 31 => sAt c (h, peer c r) (scat X c))
          ∗ sAt c (h, c) (scat X c) ∗ gAt c (h, c) fullShare (gath X)) := by
  unfold opSum
  simp only [Prog.lift, Prog.bind_op, Prog.bind_ret]
  iintro ⟨Hp, Ho, ⟨%f, Hg⟩⟩
  have hh : sM.view.setOn (Rect.unit (s := S64x8x512) ![32 * h.val, 0, 0] S32x8x512.size (half_inb h)).toLoadRect.set ⊆ halfSet h := by
    have e : (sM.access (Rect.unit (s := S64x8x512) ![32 * h.val, 0, 0] S32x8x512.size (half_inb h))).set = halfSet h :=
      (View.set_slice_whole _ _).trans (unit_half h)
    rw [View.set_slice] at e
    exact e.le
  have e : (gM.access (Rect.unit (s := S64x8x512) (k0_off5 c (BitVec.ofNat 32 (32 * h.val))) S1x8x512.size (k0_off5_inb c h))).set = slabSet (h, c) :=
    (View.set_slice_whole _ _).trans (unit_slab (h, c) (off5_no c h))
  have ew := Entails.of_eq (gAt_congr c (h, c) fullShare (sum_lands X c h f))
  ihave Hs := (Entails.of_eq (half_s c h (scat X c)).symm) $$ [Hp Ho]
  · isplitl [Ho]; · iexact Ho
    iexact Hp
  iapply (wp_load 𝒱₀ (c : Thread nD τ) none Set.univ (m := sM) hh) $$ Hs; iintro Hs
  ihave Hs := (Entails.of_eq (half_s c h (scat X c))) $$ Hs
  icases Hs with ⟨Ho, Hp⟩
  rw [load_half]
  unfold gAt at *
  iapply (wp_load_rect 𝒱₀ (c : Thread nD τ) none Set.univ (m := gM) e.le) $$ Hg; iintro Hg
  iapply (wp_store 𝒱₀ (c : Thread nD τ) none Set.univ (m := gM) (Mk := Finset.univ) e.le) $$ Hg; iintro Hg
  rw [wp_ret]
  imodintro
  isplitl [Hp]; · iexact Hp
  isplitl [Ho]; · iexact Ho
  iapply ew
  iexact Hg

/-- A whole slab lends the share that is left of the own one, and takes it back. -/
theorem lend (c : Dev nD) (k : Slab) (g : Vec F S64x8x512 .bf16) :
    (gAt c k fullShare g : sProp 𝕄) ⊢ iprop(gAt c k (shareDrop fullShare 31) g ∗ bigSep Finset.univ fun i : Fin 31 => gAt c k (shareTokN fullShare i.val) g) :=
  pointsTo_toks_split fullShare 31
theorem give_back (c : Dev nD) (k : Slab) (g : Vec F S64x8x512 .bf16) :
    iprop(gAt c k (shareDrop fullShare 31) g ∗ bigSep Finset.univ fun i : Fin 31 => gAt c k (shareTokN fullShare i.val) g) ⊢ (gAt c k fullShare g : sProp 𝕄) :=
  pointsTo_toks_join fullShare 31

/-- What the output's block holds before half `k` is written. -/
def outAt (f : Vec F S512x512 .f32) : ℕ → Vec F S512x512 .f32
  | 0 => f
  | 1 => putOut X f 0
  | _ => outc X

theorem outAt_step (f : Vec F S512x512 .f32) : ∀ h : Fin 2, putOut X (outAt X f h.val) h = outAt X f (h.val + 1)
  | 0 => rfl
  | 1 => putOut_both X f

theorem op_out (c : Dev nD) (h : Fin 2) (f : Vec F S512x512 .f32) :
    iprop((bigSep Finset.univ fun r : Fin 31 => gAt c (h, peer c r) fullShare (gath X)) ∗ gAt c (h, c) (shareDrop fullShare 31) (gath X)
        ∗ (oM.view.loc (c : Thread nD τ) ↦{fullShare} f))
      ⊢ run c (opOut oM gM h) fun _ => iprop((bigSep Finset.univ fun r : Fin 31 => gAt c (h, peer c r) fullShare (gath X))
          ∗ gAt c (h, c) (shareDrop fullShare 31) (gath X) ∗ (oM.view.loc (c : Thread nD τ) ↦{fullShare} putOut X f h)) := by
  unfold opOut
  simp only [Prog.lift, Prog.bind_op, Prog.bind_ret]
  iintro ⟨Hp, Ho, Hf⟩
  have hh : gM.view.setOn (Rect.unit (s := S64x8x512) ![32 * h.val, 0, 0] S32x8x512.size (half_inb h)).toLoadRect.set ⊆ halfSet h := by
    have e : (gM.access (Rect.unit (s := S64x8x512) ![32 * h.val, 0, 0] S32x8x512.size (half_inb h))).set = halfSet h :=
      (View.set_slice_whole _ _).trans (unit_half h)
    rw [View.set_slice] at e
    exact e.le
  ihave Hp := ((each fun r : Fin 31 => lend c (h, peer c r) (gath X)).trans (Entails.of_eq (bigSep_sep' _ _ _))) $$ Hp
  icases Hp with ⟨Hd, Ht⟩
  ihave Hs := (Entails.of_eq (half_g c h (shareDrop fullShare 31) (gath X)).symm) $$ [Hd Ho]
  · isplitl [Ho]; · iexact Ho
    iexact Hd
  iapply (wp_load 𝒱₀ (c : Thread nD τ) none Set.univ (m := gM) hh) $$ Hs; iintro Hs
  ihave Hs := (Entails.of_eq (half_g c h (shareDrop fullShare 31) (gath X))) $$ Hs
  icases Hs with ⟨Ho, Hd⟩
  rw [load_half']
  iapply (wp_load 𝒱₀ (c : Thread nD τ) none Set.univ (m := oM) (Finset.subset_univ _)) $$ Hf; iintro Hf
  iapply (wp_store 𝒱₀ (c : Thread nD τ) none Set.univ (m := oM)
    (r := Rect.unit (s := S512x512) ![256 * h.val, 0] S256x512.size (rows_inb h)) (Mk := Finset.univ) (Finset.subset_univ _)) $$ Hf; iintro Hf
  rw [wp_ret]
  imodintro
  isplitl [Hd Ht]
  · iapply ((Entails.of_eq (bigSep_sep' _ _ _).symm).trans (each fun r : Fin 31 => give_back c (h, peer c r) (gath X)))
    isplitl [Hd]; · iexact Hd
    iexact Ht
  isplitl [Ho]; · iexact Ho
  iexact Hf

end Cert.AllReduce

end
-- ==== Proof.Stages.lean ====
/-
  The kernel's loops, each taken whole: what it takes for every half and every peer, and what it gives back.
-/
module

public import proofs.«01_k».proof.Proof.Steps

@[expose] public section

set_option maxRecDepth 8000

noncomputable section

namespace Cert.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop shareTok pointsTo_toks_split pointsTo_toks_join)
open Cert.KernelIdeal Cert.KernelIdeal.Gen

variable {F : FTy → Type} [FloatOps F]

local notation "𝕄" => MT nD τ sig Unit (Elt F) ℕ Alg ℕ

/-- Something for every half and every peer; -/
abbrev pairs (Φ : Fin 2 → Fin 31 → sProp 𝕄) : sProp 𝕄 := bigSep Finset.univ fun h : Fin 2 => bigSep Finset.univ fun r : Fin 31 => Φ h r
/-- for every half. -/
abbrev halves (Φ : Fin 2 → sProp 𝕄) : sProp 𝕄 := bigSep Finset.univ Φ

theorem zip {I : Type} {s : Finset I} (Φ Ψ : I → sProp 𝕄) : iprop(bigSep s Φ ∗ bigSep s Ψ) ⊢ bigSep s fun i => iprop(Φ i ∗ Ψ i) :=
  Entails.of_eq (bigSep_sep' s Φ Ψ).symm
theorem unzip {I : Type} {s : Finset I} (Φ Ψ : I → sProp 𝕄) : (bigSep s fun i => iprop(Φ i ∗ Ψ i)) ⊢ iprop(bigSep s Φ ∗ bigSep s Ψ) :=
  Entails.of_eq (bigSep_sep' s Φ Ψ)
theorem pairs_sep (Φ Ψ : Fin 2 → Fin 31 → sProp 𝕄) : (pairs fun h r => iprop(Φ h r ∗ Ψ h r)) = iprop(pairs Φ ∗ pairs Ψ) :=
  (bigSep_congr fun h _ => bigSep_sep' _ (Φ h) (Ψ h)).trans (bigSep_sep' _ _ _)
theorem zip2 (Φ Ψ : Fin 2 → Fin 31 → sProp 𝕄) : iprop(pairs Φ ∗ pairs Ψ) ⊢ pairs fun h r => iprop(Φ h r ∗ Ψ h r) :=
  Entails.of_eq (pairs_sep Φ Ψ).symm
theorem unzip2 (Φ Ψ : Fin 2 → Fin 31 → sProp 𝕄) : (pairs fun h r => iprop(Φ h r ∗ Ψ h r)) ⊢ iprop(pairs Φ ∗ pairs Ψ) :=
  Entails.of_eq (pairs_sep Φ Ψ)

variable (X : Dev nD → Vec F S512x512 .bf16) (K : Dev nD × Spot → ℕ)
variable {harg2 : nM.IsWhole} {harg3 : sM.IsWhole} {harg4 : gM.IsWhole}

theorem stage_signal (c : Dev nD) (O : CellTallies nD τ sig Unit) :
    iprop(known X K ∗ (bigSep Finset.univ fun r : Fin 31 => iprop(dutyTok EX (cellAt (peer c r) none) 0 c ∗ entryPay (peer c r) c)) ∗ iOwe c (oweBar c 0 + O))
      ⊢ run c (steps 31 (opSignal c)) fun _ => iprop((bigSep Finset.univ fun _ : Fin 31 => iprop(emp)) ∗ iOwe c O) := by
  have h := run_steps c (known X K) 31 (opSignal c) (fun r => iprop(dutyTok EX (cellAt (peer c r) none) 0 c ∗ entryPay (peer c r) c)) (fun _ => iprop(emp))
    (fun k => iOwe c (oweBar c k + O)) fun r => by
      rw [oweBar_step, add_assoc]; exact op_signal X K c r
  rw [oweBar_end, zero_add] at h
  exact h

/-- What a peer sent its rows to: its slab there, and both tokens. -/
def scatterIn (c : Dev nD) (h : Fin 2) (r : Fin 31) : sProp 𝕄 :=
  iprop(tokAt 0 1 c h r ∗ nAt c (h, peer c r) (X c) ∗ ∃ f, sAt (peer c r) (h, c) f)

theorem stage_scatter (c : Dev nD) (O : CellTallies nD τ sig Unit) :
    iprop(known X K ∗ pairs (scatterIn X c) ∗ iOwe c (oweHalf 1 c 0 + O))
      ⊢ run c (steps 2 fun h => steps 31 (opScatter nM harg2 sM harg3 cc0_scratch3 cc0_scratch4 c h))
          fun _ => iprop((pairs fun h r => credAt c (0, h, lane r)) ∗ iOwe c O) := by
  have h := run_steps c (known X K) 2 (fun h => steps 31 (opScatter nM harg2 sM harg3 cc0_scratch3 cc0_scratch4 c h))
    (fun h => bigSep Finset.univ (scatterIn X c h)) (fun h => bigSep Finset.univ fun r : Fin 31 => credAt c (0, h, lane r))
    (fun k => iOwe c (oweHalf 1 c k + O)) fun h => by
      rw [← oweKey_start, ← oweKey_end]
      exact run_steps c (known X K) 31 _ (scatterIn X c h) (fun r => credAt c (0, h, lane r)) (fun k => iOwe c (oweKey 1 c h k + O)) fun r => by
        rw [oweKey_step, add_assoc]; exact op_scatter X K c h r
  rw [oweHalf_end, zero_add] at h
  exact h

theorem stage_keep (c : Dev nD) :
    iprop(halves fun h => iprop(nAt c (h, c) (X c) ∗ ∃ f, sAt c (h, c) f))
      ⊢ run c (steps 2 (opKeep nM sM harg3 c)) fun _ => halves fun h => iprop(nAt c (h, c) (X c) ∗ sAt c (h, c) (scat X c)) := by
  have h := run_steps c iprop(emp) 2 (opKeep nM sM harg3 c) (fun h => iprop(nAt c (h, c) (X c) ∗ ∃ f, sAt c (h, c) f))
    (fun h => iprop(nAt c (h, c) (X c) ∗ sAt c (h, c) (scat X c))) (fun _ => iprop(emp)) fun r => by
      iintro ⟨-, HA, -⟩
      ihave H := (op_keep X c r) $$ HA
      iapply (wp_wand _ _ _) $$ H
      iintro %_ HB
      isplitl; · iexact HB
      iempintro
  iintro HA
  ihave H := h $$ [HA]
  · isplitr; · iempintro
    isplitl; · iexact HA
    iempintro
  iapply (wp_wand _ _ _) $$ H
  iintro %_ ⟨HB, -⟩
  iexact HB

/-- What a half's sum needs, -/
def sumIn (c : Dev nD) (h : Fin 2) : sProp 𝕄 :=
  iprop((bigSep Finset.univ fun r : Fin 31 => iprop(credAt c (1, h, peer c r) ∗ posAt c (1, h, peer c r) 0))
    ∗ sAt c (h, c) (scat X c) ∗ (∃ f, gAt c (h, c) fullShare f)
    ∗ bigSep Finset.univ fun r : Fin 31 => iprop(tokAt 2 3 c h r ∗ ∃ f, gAt (peer c r) (h, c) fullShare f))
/-- and what it and its gather leave. -/
def sumOut (c : Dev nD) (h : Fin 2) : sProp 𝕄 :=
  iprop((bigSep Finset.univ fun r : Fin 31 => posAt c (1, h, peer c r) 1)
    ∗ ((bigSep Finset.univ fun r : Fin 31 => sAt c (h, peer c r) (scat X c)) ∗ sAt c (h, c) (scat X c))
    ∗ gAt c (h, c) (shareDrop fullShare 31) (gath X)
    ∗ bigSep Finset.univ fun r : Fin 31 => credAt c (2, h, lane r))

theorem half_sum (c : Dev nD) (h : Fin 2) :
    iprop(known X K ∗ sumIn X c h ∗ iOwe c (oweHalf 3 c h.val))
      ⊢ run c (steps 31 (opScattered nM harg2 sM harg3 cc0_scratch4 c h) >>= fun _ => opSum sM gM harg4 c h >>= fun _ =>
          steps 31 (opGather gM harg4 cc0_scratch5 cc0_scratch6 c h)) fun _ => iprop(sumOut X c h ∗ iOwe c (oweHalf 3 c (h.val + 1))) := by
  have hw := run_steps c (known X K) 31 (opScattered nM harg2 sM harg3 cc0_scratch4 c h)
    (fun r => iprop(credAt c (1, h, peer c r) ∗ posAt c (1, h, peer c r) 0)) (fun r => iprop(posAt c (1, h, peer c r) 1 ∗ sAt c (h, peer c r) (scat X c)))
    (fun _ => iOwe c (oweHalf 3 c h.val)) fun r => op_scattered X K c h r (above_half 3 (by decide) c h.val)
  have hg : iprop(known X K ∗ (bigSep Finset.univ fun r : Fin 31 =>
        iprop(tokAt 2 3 c h r ∗ gAt c (h, c) (shareTokN fullShare r.val) (gath X) ∗ ∃ f, gAt (peer c r) (h, c) fullShare f)) ∗ iOwe c (oweHalf 3 c h.val))
      ⊢ run c (steps 31 (opGather gM harg4 cc0_scratch5 cc0_scratch6 c h))
          fun _ => iprop((bigSep Finset.univ fun r : Fin 31 => credAt c (2, h, lane r)) ∗ iOwe c (oweHalf 3 c (h.val + 1))) := by
    rw [← oweKey_start, ← oweKey_end]
    exact run_steps c (known X K) 31 _ _ (fun r => credAt c (2, h, lane r)) (fun k => iOwe c (oweKey 3 c h k)) fun r => by
      rw [oweKey_step]; exact op_gather X K c h r
  unfold sumIn sumOut
  iintro ⟨#HK, ⟨Hcp, Hs, Hg, Htg⟩, HO⟩
  iapply (run_then c hw)
  isplitl [Hcp HO]
  · isplitr; · iexact HK
    isplitl [Hcp]; · iexact Hcp
    iexact HO
  iintro ⟨Hps, HO⟩
  ihave Hps := (unzip _ _) $$ Hps
  icases Hps with ⟨Hpos, Hss⟩
  iapply (run_then c (op_sum X c h))
  isplitl [Hss Hs Hg]
  · isplitl [Hss]; · iexact Hss
    isplitl [Hs]; · iexact Hs
    iexact Hg
  iintro ⟨Hss, Hs, Hg⟩
  ihave Hg := (lend c (h, c) (gath X)) $$ Hg
  icases Hg with ⟨Hd, Hts⟩
  ihave Htg := (unzip _ _) $$ Htg
  icases Htg with ⟨Htok, Hdst⟩
  ihave H := hg $$ [Hts Htok Hdst HO]
  · isplitr; · iexact HK
    isplitr [HO]
    · iapply (zip _ _)
      isplitl [Htok]; · iexact Htok
      iapply (zip _ _)
      isplitl [Hts]; · iexact Hts
      iexact Hdst
    iexact HO
  iapply (wp_wand _ _ _) $$ H
  iintro %_ ⟨Hc, HO⟩
  isplitr [HO]
  · isplitl [Hpos]; · iexact Hpos
    isplitl [Hss Hs]
    · isplitl [Hss]; · iexact Hss
      iexact Hs
    isplitl [Hd]; · iexact Hd
    iexact Hc
  iexact HO

theorem stage_sum (c : Dev nD) :
    iprop(known X K ∗ halves (sumIn X c) ∗ iOwe c (oweHalf 3 c 0))
      ⊢ run c (steps 2 fun h => steps 31 (opScattered nM harg2 sM harg3 cc0_scratch4 c h) >>= fun _ => opSum sM gM harg4 c h >>= fun _ =>
          steps 31 (opGather gM harg4 cc0_scratch5 cc0_scratch6 c h)) fun _ => iprop(halves (sumOut X c) ∗ iOwe c 0) := by
  have h := run_steps c (known X K) 2 (fun h => steps 31 (opScattered nM harg2 sM harg3 cc0_scratch4 c h) >>= fun _ => opSum sM gM harg4 c h >>= fun _ =>
          steps 31 (opGather gM harg4 cc0_scratch5 cc0_scratch6 c h)) (sumIn X c) (sumOut X c) (fun k => iOwe c (oweHalf 3 c k)) fun h => half_sum X K c h
  rw [oweHalf_end] at h
  exact h

theorem stage_scatterSent (c : Dev nD) :
    iprop(known X K ∗ (pairs fun h r => iprop(credAt c (0, h, lane r) ∗ posAt c (0, h, lane r) 0)) ∗ iOwe c 0)
      ⊢ run c (steps 2 fun h => steps 31 (opScatterSent nM harg2 sM harg3 cc0_scratch3 c h))
          fun _ => iprop((pairs fun h r => iprop(posAt c (0, h, lane r) 1 ∗ nAt c (h, peer c r) (X c))) ∗ iOwe c 0) :=
  run_steps c (known X K) 2 (fun h => steps 31 (opScatterSent nM harg2 sM harg3 cc0_scratch3 c h)) _
    (fun h => bigSep Finset.univ fun r : Fin 31 => iprop(posAt c (0, h, lane r) 1 ∗ nAt c (h, peer c r) (X c))) (fun _ => iOwe c 0) fun h =>
      run_steps c (known X K) 31 _ _ (fun r => iprop(posAt c (0, h, lane r) 1 ∗ nAt c (h, peer c r) (X c))) (fun _ => iOwe c 0) fun r =>
        op_scatterSent X K c h r (above_zero 0)

theorem stage_gatherSent (c : Dev nD) :
    iprop(known X K ∗ (pairs fun h r => iprop(credAt c (2, h, lane r) ∗ posAt c (2, h, lane r) 0)) ∗ iOwe c 0)
      ⊢ run c (steps 2 fun h => steps 31 (opGatherSent gM harg4 cc0_scratch5 c h))
          fun _ => iprop((pairs fun h r => iprop(posAt c (2, h, lane r) 1 ∗ gAt c (h, c) (shareTokN fullShare r.val) (gath X))) ∗ iOwe c 0) :=
  run_steps c (known X K) 2 (fun h => steps 31 (opGatherSent gM harg4 cc0_scratch5 c h)) _
    (fun h => bigSep Finset.univ fun r : Fin 31 => iprop(posAt c (2, h, lane r) 1 ∗ gAt c (h, c) (shareTokN fullShare r.val) (gath X))) (fun _ => iOwe c 0) fun h =>
      run_steps c (known X K) 31 _ _ (fun r => iprop(posAt c (2, h, lane r) 1 ∗ gAt c (h, c) (shareTokN fullShare r.val) (gath X))) (fun _ => iOwe c 0) fun r =>
        op_gatherSent X K c h r (above_zero 0)

/-- What writing a half out needs, -/
def outIn (c : Dev nD) (h : Fin 2) : sProp 𝕄 :=
  iprop((bigSep Finset.univ fun r : Fin 31 => iprop(credAt c (3, h, peer c r) ∗ posAt c (3, h, peer c r) 0))
    ∗ gAt c (h, c) (shareDrop fullShare 31) (gath X))
/-- and leaves. -/
def outLeft (c : Dev nD) (h : Fin 2) : sProp 𝕄 :=
  iprop((bigSep Finset.univ fun r : Fin 31 => posAt c (3, h, peer c r) 1)
    ∗ (bigSep Finset.univ fun r : Fin 31 => gAt c (h, peer c r) fullShare (gath X)) ∗ gAt c (h, c) (shareDrop fullShare 31) (gath X))

theorem stage_out (c : Dev nD) (f : Vec F S512x512 .f32) :
    iprop(known X K ∗ halves (outIn X c) ∗ iOwe c 0 ∗ (oM.view.loc (c : Thread nD τ) ↦{fullShare} f))
      ⊢ run c (steps 2 fun h => steps 31 (opGathered gM harg4 cc0_scratch6 c h) >>= fun _ => opOut oM gM h)
          fun _ => iprop(halves (outLeft X c) ∗ iOwe c 0 ∗ (oM.view.loc (c : Thread nD τ) ↦{fullShare} outc X)) :=
  run_steps c (known X K) 2 (fun h => steps 31 (opGathered gM harg4 cc0_scratch6 c h) >>= fun _ => opOut oM gM h) (outIn X c) (outLeft X c)
    (fun k => iprop(iOwe c 0 ∗ (oM.view.loc (c : Thread nD τ) ↦{fullShare} outAt X f k))) fun h => by
      have hw := run_steps c (known X K) 31 (opGathered gM harg4 cc0_scratch6 c h)
        (fun r => iprop(credAt c (3, h, peer c r) ∗ posAt c (3, h, peer c r) 0)) (fun r => iprop(posAt c (3, h, peer c r) 1 ∗ gAt c (h, peer c r) fullShare (gath X)))
        (fun _ => iOwe c 0) fun r => op_gathered X K c h r (above_zero 3)
      unfold outIn outLeft
      iintro ⟨#HK, ⟨Hcp, Hd⟩, HO, Hf⟩
      iapply (run_then c hw)
      isplitl [Hcp HO]
      · isplitr; · iexact HK
        isplitl [Hcp]; · iexact Hcp
        iexact HO
      iintro ⟨Hps, HO⟩
      ihave Hps := (unzip _ _) $$ Hps
      icases Hps with ⟨Hpos, Hgs⟩
      ihave H := (op_out X c h (outAt X f h.val)) $$ [Hgs Hd Hf]
      · isplitl [Hgs]; · iexact Hgs
        isplitl [Hd]; · iexact Hd
        iexact Hf
      iapply (wp_wand _ _ _) $$ H
      iintro %_ ⟨Hgs, Hd, Hf⟩
      rw [outAt_step]
      isplitl [Hpos Hgs Hd]
      · isplitl [Hpos]; · iexact Hpos
        isplitl [Hgs]; · iexact Hgs
        iexact Hd
      isplitl [HO]; · iexact HO
      iexact Hf

end Cert.AllReduce

end
-- ==== Proof.Body.lean ====
/-
  The kernel's body on one device: from its buffers, its tokens and its credits to the sums of all the devices' blocks.
-/
module

public import proofs.«01_k».proof.Proof.Stages

@[expose] public section

set_option maxRecDepth 8000

noncomputable section

namespace Cert.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop shareTok pointsTo_toks_split pointsTo_toks_join)
open Cert.KernelIdeal Cert.KernelIdeal.Gen

variable {F : FTy → Type} [FloatOps F]

local notation "𝕄" => MT nD τ sig Unit (Elt F) ℕ Alg ℕ

/-! ### A buffer by slabs -/

theorem univ_halves : (Finset.univ : Finset S64x8x512.Idx) = Finset.univ.biUnion fun h : Fin 2 => halfSet h := by
  ext i
  rw [Finset.mem_biUnion]
  exact ⟨fun _ => ⟨(slabI i).1, Finset.mem_univ _, Finset.mem_filter.mpr ⟨Finset.mem_univ i, rfl⟩⟩, fun _ => Finset.mem_univ i⟩

theorem halves_disjoint : ∀ h ∈ (Finset.univ : Finset (Fin 2)), ∀ h' ∈ (Finset.univ : Finset (Fin 2)), h ≠ h' → Disjoint (halfSet h) (halfSet h') :=
  fun h _ h' _ hne => Finset.disjoint_left.mpr fun i hi hi' => hne ((Finset.mem_filter.mp hi).2.symm.trans (Finset.mem_filter.mp hi').2)

theorem univ_rows : (Finset.univ : Finset S512x512.Idx) = Finset.univ.biUnion fun k : Slab => rowSet k := by
  ext i
  rw [Finset.mem_biUnion]
  exact ⟨fun _ => ⟨rowI i, Finset.mem_univ _, Finset.mem_filter.mpr ⟨Finset.mem_univ i, rfl⟩⟩, fun _ => Finset.mem_univ i⟩

theorem rows_disjoint : ∀ k ∈ (Finset.univ : Finset Slab), ∀ k' ∈ (Finset.univ : Finset Slab), k ≠ k' → Disjoint (rowSet k) (rowSet k') :=
  fun h _ h' _ hne => Finset.disjoint_left.mpr fun i hi hi' => hne ((Finset.mem_filter.mp hi).2.symm.trans (Finset.mem_filter.mp hi').2)

theorem whole_s (c : Dev nD) (f : Vec F S64x8x512 .bf16) : (sM.view.loc (c : Thread nD τ) ↦{fullShare} f : sProp 𝕄)
    = iprop((halves fun h => sAt c (h, c) f) ∗ pairs fun h r => sAt c (h, peer c r) f) := by
  show (sM.view.loc (c : Thread nD τ) ↦[(Finset.univ : Finset S64x8x512.Idx)]{fullShare} f : sProp 𝕄) = _
  rw [univ_halves]
  exact (pointsTo_biUnion _ _ halves_disjoint).trans ((bigSep_congr fun h _ => half_s c h f).trans (bigSep_sep' _ _ _))

theorem whole_g (c : Dev nD) (f : Vec F S64x8x512 .bf16) : (gM.view.loc (c : Thread nD τ) ↦{fullShare} f : sProp 𝕄)
    = iprop((halves fun h => gAt c (h, c) fullShare f) ∗ pairs fun h r => gAt c (h, peer c r) fullShare f) := by
  show (gM.view.loc (c : Thread nD τ) ↦[(Finset.univ : Finset S64x8x512.Idx)]{fullShare} f : sProp 𝕄) = _
  rw [univ_halves]
  exact (pointsTo_biUnion _ _ halves_disjoint).trans ((bigSep_congr fun h _ => half_g c h fullShare f).trans (bigSep_sep' _ _ _))

theorem whole_n (c : Dev nD) (f : Vec F S512x512 .bf16) : (nM.view.loc (c : Thread nD τ) ↦{fullShare} f : sProp 𝕄)
    = iprop((halves fun h => nAt c (h, c) f) ∗ pairs fun h r => nAt c (h, peer c r) f) := by
  show (nM.view.loc (c : Thread nD τ) ↦[(Finset.univ : Finset S512x512.Idx)]{fullShare} f : sProp 𝕄) = _
  rw [univ_rows]
  refine (pointsTo_biUnion _ _ rows_disjoint).trans ?_
  rw [bigSep_univ_prod]
  exact (bigSep_congr fun h _ => around c fun p => nAt c (h, p) f).trans (bigSep_sep' _ _ _)

/-! ### What a peer is handed at the barrier -/

theorem some_s (c : Dev nD) (k : Slab) (f : Vec F S64x8x512 .bf16) : (sAt c k f : sProp 𝕄) ⊢ iprop(∃ f, sAt c k f) := by
  iintro H; iexists f; iexact H
theorem some_g (c : Dev nD) (k : Slab) (f : Vec F S64x8x512 .bf16) : (gAt c k fullShare f : sProp 𝕄) ⊢ iprop(∃ f, gAt c k fullShare f) := by
  iintro H; iexists f; iexact H

/-- A device's buffers without its own slabs, dealt to its peers. -/
theorem entries_out (c : Dev nD) (f g : Vec F S64x8x512 .bf16) :
    iprop((pairs fun h r => sAt c (h, peer c r) f) ∗ pairs fun h r => gAt c (h, peer c r) fullShare g)
      ⊢ (bigSep Finset.univ fun r : Fin 31 => entryPay (peer c r) c : sProp 𝕄) := by
  have h1 : (pairs fun h r => sAt c (h, peer c r) f : sProp 𝕄) ⊢ bigSep Finset.univ fun r : Fin 31 => bigSep Finset.univ fun h : Fin 2 => iprop(∃ f, sAt c (h, peer c r) f) :=
    (Entails.of_eq (bigSep_univ_comm fun (h : Fin 2) (r : Fin 31) => sAt c (h, peer c r) f)).trans (each fun r => each fun h => some_s c (h, peer c r) f)
  have h2 : (pairs fun h r => gAt c (h, peer c r) fullShare g : sProp 𝕄)
      ⊢ bigSep Finset.univ fun r : Fin 31 => bigSep Finset.univ fun h : Fin 2 => iprop(∃ f, gAt c (h, peer c r) fullShare f) :=
    (Entails.of_eq (bigSep_univ_comm fun (h : Fin 2) (r : Fin 31) => gAt c (h, peer c r) fullShare g)).trans (each fun r => each fun h => some_g c (h, peer c r) g)
  unfold entryPay
  iintro ⟨H1, H2⟩
  iapply (zip _ _)
  isplitl [H1]
  · iapply h1; iexact H1
  iapply h2; iexact H2

/-- What the peers hand over, by half. -/
theorem entries_in (c : Dev nD) : (bigSep Finset.univ fun r : Fin 31 => entryPay (F := F) c (peer c r))
    ⊢ iprop((pairs fun h r => iprop(∃ f, sAt (F := F) (peer c r) (h, c) f)) ∗ pairs fun h r => iprop(∃ f, gAt (F := F) (peer c r) (h, c) fullShare f)) := by
  unfold entryPay
  iintro H
  ihave H := (unzip _ _) $$ H
  icases H with ⟨H1, H2⟩
  isplitl [H1]
  · iapply (Entails.of_eq (bigSep_univ_comm fun (r : Fin 31) (h : Fin 2) => (iprop(∃ f, sAt (F := F) (peer c r) (h, c) f) : sProp 𝕄))); iexact H1
  iapply (Entails.of_eq (bigSep_univ_comm fun (r : Fin 31) (h : Fin 2) => (iprop(∃ f, gAt (F := F) (peer c r) (h, c) fullShare f) : sProp 𝕄))); iexact H2

/-! ### The body -/

/-- The places at the semaphores in use, at round `n`. -/
def places (c : Dev nD) (n : ℕ) : sProp 𝕄 :=
  iprop((pairs fun h r => posAt c (0, h, lane r) n) ∗ (pairs fun h r => posAt c (1, h, peer c r) n)
    ∗ (pairs fun h r => posAt c (2, h, lane r) n) ∗ pairs fun h r => posAt c (3, h, peer c r) n)

/-- The tokens device `c` uses up, -/
def myToks (c : Dev nD) : sProp 𝕄 :=
  iprop((bigSep Finset.univ fun r : Fin 31 => dutyTok EX (cellAt (peer c r) none) 0 c)
    ∗ (pairs fun h r => tokAt 0 1 c h r) ∗ pairs fun h r => tokAt 2 3 c h r)

/-- and the credits it waits with. -/
def myCreds (c : Dev nD) : sProp 𝕄 :=
  iprop(cred (tallyAt (cellAt c none) () 31)
    ∗ (pairs fun h r => credAt c (1, h, peer c r)) ∗ pairs fun h r => credAt c (3, h, peer c r))

/-- The three scratch buffers at some contents. -/
def scratch (c : Dev nD) : sProp 𝕄 :=
  iprop((∃ f, nM.view.loc (c : Thread nD τ) ↦{fullShare} f) ∗ (∃ f, sM.view.loc (c : Thread nD τ) ↦{fullShare} f)
    ∗ ∃ f, gM.view.loc (c : Thread nD τ) ↦{fullShare} f)

variable (X : Dev nD → Vec F S512x512 .bf16) (K : Dev nD × Spot → ℕ)
variable {harg2 : nM.IsWhole} {harg3 : sM.IsWhole} {harg4 : gM.IsWhole}

set_option maxHeartbeats 1600000 in
theorem body_run (c : Dev nD) (x : Vec F S1x512x512 .f32) (hx : narrowed x = X c) (f : Vec F S512x512 .f32) :
    iprop(known X K ∗ (atPos EX (cellAt c none) 0 ∅ 0 ∗ places c 0 ∗ myToks c ∗ myCreds c ∗ scratch c) ∗ iOwe c (owe₀ c)
        ∗ (xM.view.loc (c : Thread nD τ) ↦{fullShare} x) ∗ (oM.view.loc (c : Thread nD τ) ↦{fullShare} f))
      ⊢ run c (shape xM oM nM harg2 sM harg3 gM harg4 cc0_scratch3 cc0_scratch4 cc0_scratch5 cc0_scratch6)
          fun _ => iprop((atPos EX (cellAt c none) 1 ∅ 0 ∗ places c 1 ∗ scratch c) ∗ iOwe c 0
            ∗ (xM.view.loc (c : Thread nD τ) ↦{fullShare} x) ∗ (oM.view.loc (c : Thread nD τ) ↦{fullShare} outc X)) := by
  unfold shape places myToks myCreds scratch owe₀
  show _ ⊢ run c (.op .deviceId _) _
  simp only [run, wp_deviceId]
  iintro ⟨#HK, ⟨HpB, ⟨Hp0, Hp1, Hp2, Hp3⟩, ⟨HtB, Ht1, Ht3⟩, ⟨HcB, Hc1, Hc3⟩, ⟨%fn, Hn⟩, ⟨%fs, Hs⟩, ⟨%fg, Hg⟩⟩, HO, Hx, Hf⟩
  ihave Hs := (Entails.of_eq (whole_s c fs)) $$ Hs
  icases Hs with ⟨Hso, Hsp⟩
  ihave Hg := (Entails.of_eq (whole_g c fg)) $$ Hg
  icases Hg with ⟨Hgo, Hgp⟩
  ihave Hent := (entries_out c fs fg) $$ [Hsp Hgp]
  · isplitl [Hsp]; · iexact Hsp
    iexact Hgp
  -- the barrier
  iapply (run_then c (stage_signal X K c (oweHalf 1 c 0 + oweHalf 3 c 0)))
  isplitl [HtB Hent HO]
  · isplitr; · iexact HK
    isplitr [HO]
    · iapply (zip _ _)
      isplitl [HtB]; · iexact HtB
      iexact Hent
    iexact HO
  iintro ⟨-, HO⟩
  iapply (run_then c (op_narrow c x fn))
  isplitl [Hx Hn]
  · isplitl [Hx]; · iexact Hx
    iexact Hn
  iintro ⟨Hx, Hn⟩
  rw [hx]
  iapply (run_then c (op_barrier X K c (O := oweHalf 1 c 0 + oweHalf 3 c 0) (above_add (above_half 1 (by decide) c 0) (above_half 3 (by decide) c 0))))
  isplitl [HcB HpB HO]
  · isplitr; · iexact HK
    isplitl [HcB HpB]
    · isplitl [HcB]; · iexact HcB
      iexact HpB
    iexact HO
  iintro ⟨⟨HpB, Hin⟩, HO⟩
  ihave Hin := (entries_in c) $$ Hin
  icases Hin with ⟨Hsd, Hgd⟩
  ihave Hn := (Entails.of_eq (whole_n c (X c))) $$ Hn
  icases Hn with ⟨Hno, Hnp⟩
  -- the scatter
  iapply (run_then c (stage_scatter X K c (oweHalf 3 c 0)))
  isplitl [Ht1 Hnp Hsd HO]
  · isplitr; · iexact HK
    isplitr [HO]
    · iapply (zip2 _ _)
      isplitl [Ht1]; · iexact Ht1
      iapply (zip2 _ _)
      isplitl [Hnp]; · iexact Hnp
      iexact Hsd
    iexact HO
  iintro ⟨Hc0, HO⟩
  iapply (run_then c (stage_keep X c))
  isplitl [Hno Hso]
  · iapply (zip _ _)
    isplitl [Hno]; · iexact Hno
    iapply (each fun h => some_s c (h, c) fs); iexact Hso
  iintro Hk
  ihave Hk := (unzip _ _) $$ Hk
  icases Hk with ⟨Hno, Hso⟩
  -- the sums and the gather
  iapply (run_then c (stage_sum X K c))
  isplitl [Hc1 Hp1 Hso Hgo Ht3 Hgd HO]
  · isplitr; · iexact HK
    isplitr [HO]
    · unfold sumIn
      iapply (zip _ _)
      isplitl [Hc1 Hp1]
      · iapply (zip2 _ _)
        isplitl [Hc1]; · iexact Hc1
        iexact Hp1
      iapply (zip _ _)
      isplitl [Hso]; · iexact Hso
      iapply (zip _ _)
      isplitl [Hgo]
      · iapply (each fun h => some_g c (h, c) fg); iexact Hgo
      iapply (zip2 _ _)
      isplitl [Ht3]; · iexact Ht3
      iexact Hgd
    iexact HO
  iintro ⟨Hsum, HO⟩
  unfold sumOut
  ihave Hsum := (unzip _ _) $$ Hsum
  icases Hsum with ⟨Hp1, Hsum⟩
  ihave Hsum := (unzip _ _) $$ Hsum
  icases Hsum with ⟨Hs, Hsum⟩
  ihave Hs := (unzip _ _) $$ Hs
  icases Hs with ⟨Hsp, Hso⟩
  ihave Hsum := (unzip _ _) $$ Hsum
  icases Hsum with ⟨Hgo, Hc2⟩
  -- the scatter has left
  iapply (run_then c (stage_scatterSent X K c))
  isplitl [Hc0 Hp0 HO]
  · isplitr; · iexact HK
    isplitr [HO]
    · iapply (zip2 _ _)
      isplitl [Hc0]; · iexact Hc0
      iexact Hp0
    iexact HO
  iintro ⟨Hnp, HO⟩
  ihave Hnp := (unzip2 _ _) $$ Hnp
  icases Hnp with ⟨Hp0, Hnp⟩
  -- the output
  iapply (run_then c (stage_out X K c f))
  isplitl [Hc3 Hp3 Hgo HO Hf]
  · isplitr; · iexact HK
    isplitl [Hc3 Hp3 Hgo]
    · unfold outIn
      iapply (zip _ _)
      isplitl [Hc3 Hp3]
      · iapply (zip2 _ _)
        isplitl [Hc3]; · iexact Hc3
        iexact Hp3
      iexact Hgo
    isplitl [HO]; · iexact HO
    iexact Hf
  iintro ⟨Hl, HO, Hf⟩
  unfold outLeft
  ihave Hl := (unzip _ _) $$ Hl
  icases Hl with ⟨Hp3, Hl⟩
  ihave Hl := (unzip _ _) $$ Hl
  icases Hl with ⟨Hgp, Hgo⟩
  -- the gather has left
  ihave H := (stage_gatherSent X K c) $$ [Hc2 Hp2 HO]
  · isplitr; · iexact HK
    isplitr [HO]
    · iapply (zip2 _ _)
      isplitl [Hc2]; · iexact Hc2
      iexact Hp2
    iexact HO
  iapply (wp_wand _ _ _) $$ H
  iintro %_ ⟨Hl, HO⟩
  ihave Hl := (unzip2 _ _) $$ Hl
  icases Hl with ⟨Hp2, Hgt⟩
  ihave Hgo := ((zip _ _).trans (each fun h => give_back c (h, c) (gath X))) $$ [Hgo Hgt]
  · isplitl [Hgo]; · iexact Hgo
    iexact Hgt
  isplitr [HO Hx Hf]
  · isplitl [HpB]; · iexact HpB
    isplitl [Hp0 Hp1 Hp2 Hp3]
    · isplitl [Hp0]; · iexact Hp0
      isplitl [Hp1]; · iexact Hp1
      isplitl [Hp2]; · iexact Hp2
      iexact Hp3
    isplitl [Hno Hnp]
    · iexists (X c)
      iapply (Entails.of_eq (whole_n c (X c)).symm)
      isplitl [Hno]; · iexact Hno
      iexact Hnp
    isplitl [Hso Hsp]
    · iexists (scat X c)
      iapply (Entails.of_eq (whole_s c (scat X c)).symm)
      isplitl [Hso]; · iexact Hso
      iexact Hsp
    iexists (gath X)
    iapply (Entails.of_eq (whole_g c (gath X)).symm)
    isplitl [Hgo]; · iexact Hgo
    iexact Hgp
  isplitl [HO]; · iexact HO
  isplitl [Hx]; · iexact Hx
  iexact Hf

end Cert.AllReduce

end
-- ==== Proof.Deal.lean ====
/-
  What a device holds at the start, and what it is left with at the end: its places, its tokens and its credits, counted
  over all the cells.
-/
module

public import proofs.«01_k».proof.Proof.Body

@[expose] public section

set_option maxRecDepth 8000

noncomputable section

namespace Cert.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ Alg ℕ

/-! ### All the cells of a device -/

theorem by_spot (Φ : Spot → sProp 𝕄) : bigSep Finset.univ Φ = iprop(Φ none ∗ bigSep Finset.univ fun k : Key => Φ (some k)) := by
  rw [bigSep_erase (Finset.mem_univ none)]
  have h : (Finset.univ.erase none : Finset Spot) = Finset.univ.map Function.Embedding.some := by
    ext o
    cases o <;> simp
  rw [h, bigSep_map]; rfl

theorem by_family (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem peer_zero (r : Fin 31) : peer 0 r = lane r := Fin.ext (by
  rw [peer_val]; show (0 + 1 + r.val) % 32 = 1 + r.val; have := r.isLt; omega)

/-- One family's cells: the idle ones, and one for every half and every peer. -/
theorem family_split (c : Dev nD) (Φ : Fin 2 → Dev nD → sProp 𝕄) :
    (bigSep Finset.univ fun h : Fin 2 => bigSep Finset.univ (Φ h)) = iprop((halves fun h => Φ h c) ∗ pairs fun h r => Φ h (peer c r)) :=
  (bigSep_congr fun h _ => around c (Φ h)).trans (bigSep_sep' _ _ _)

/-- The cells of the transfers: the used ones of each family, -/
def used (c : Dev nD) (Φ : Key → sProp 𝕄) : sProp 𝕄 :=
  iprop((pairs fun h r => Φ (0, h, lane r)) ∗ (pairs fun h r => Φ (1, h, peer c r))
    ∗ (pairs fun h r => Φ (2, h, lane r)) ∗ pairs fun h r => Φ (3, h, peer c r))
/-- and the idle ones. -/
def unused (c : Dev nD) (Φ : Key → sProp 𝕄) : sProp 𝕄 :=
  iprop((halves fun h => Φ (0, h, 0)) ∗ (halves fun h => Φ (1, h, c)) ∗ (halves fun h => Φ (2, h, 0)) ∗ halves fun h => Φ (3, h, c))

theorem family_lanes (Φ : Fin 2 → Dev nD → sProp 𝕄) :
    (bigSep Finset.univ fun h : Fin 2 => bigSep Finset.univ (Φ h)) = iprop((halves fun h => Φ h 0) ∗ pairs fun h r => Φ h (lane r)) := by
  refine (family_split 0 Φ).trans ?_
  simp only [peer_zero]

theorem by_key (c : Dev nD) (Φ : Key → sProp 𝕄) : bigSep Finset.univ Φ = iprop(used c Φ ∗ unused c Φ) := by
  have e : bigSep Finset.univ Φ = iprop(((halves fun h => Φ (0, h, 0)) ∗ pairs fun h r => Φ (0, h, lane r))
      ∗ ((halves fun h => Φ (1, h, c)) ∗ pairs fun h r => Φ (1, h, peer c r))
      ∗ ((halves fun h => Φ (2, h, 0)) ∗ pairs fun h r => Φ (2, h, lane r))
      ∗ ((halves fun h => Φ (3, h, c)) ∗ pairs fun h r => Φ (3, h, peer c r))) := by
    rw [bigSep_univ_prod, by_family, bigSep_univ_prod, bigSep_univ_prod, bigSep_univ_prod, bigSep_univ_prod,
      family_lanes fun h p => Φ (0, h, p), family_split c fun h p => Φ (1, h, p), family_lanes fun h p => Φ (2, h, p),
      family_split c fun h p => Φ (3, h, p)]
  rw [e]
  unfold used unused
  refine BI.equiv_iff.mp ⟨?_, ?_⟩
  · show (_ : sProp 𝕄) ⊢ _
    iintro ⟨⟨A0, B0⟩, ⟨A1, B1⟩, ⟨A2, B2⟩, A3, B3⟩
    isplitl [B0 B1 B2 B3]
    · isplitl [B0]; · iexact B0
      isplitl [B1]; · iexact B1
      isplitl [B2]; · iexact B2
      iexact B3
    isplitl [A0]; · iexact A0
    isplitl [A1]; · iexact A1
    isplitl [A2]; · iexact A2
    iexact A3
  · show (_ : sProp 𝕄) ⊢ _
    iintro ⟨⟨B0, B1, B2, B3⟩, A0, A1, A2, A3⟩
    isplitl [A0 B0]
    · isplitl [A0]; · iexact A0
      iexact B0
    isplitl [A1 B1]
    · isplitl [A1]; · iexact A1
      iexact B1
    isplitl [A2 B2]
    · isplitl [A2]; · iexact A2
      iexact B2
    isplitl [A3]; · iexact A3
    iexact B3

/-! ### Every cell closed -/

/-- From something that may be used again and again. -/
theorem each_using {I : Type} [DecidableEq I] {s : Finset I} {R : sProp 𝕄} [BI.Persistent R] {Φ Ψ : I → sProp 𝕄}
    (h : ∀ i, iprop(R ∗ Φ i) ⊢ Ψ i) : (iprop(R ∗ bigSep s Φ) : sProp 𝕄) ⊢ bigSep s Ψ := by
  iintro ⟨HR, HΦ⟩
  ihave HR := (BI.bigSep_of_persistent s R) $$ HR
  iapply (each (Φ := fun i => iprop(R ∗ Φ i)) h)
  iapply (zip _ _)
  isplitl [HR]; · iexact HR
  iexact HΦ

variable (X : Dev nD → Vec F S512x512 .bf16) (K : Dev nD × Spot → ℕ)

/-- The counter of a cell at zero. -/
def zeroAt (c : Dev nD) (k : Key) : sProp 𝕄 := semVal (cellAt c (some k)) 0

theorem close_at (c : Dev nD) (o : Spot) (n : ℕ) (h : ∀ r, n ≤ r → (sched X).duties (cellAt c o) r = ∅) :
    iprop(known X K ∗ atPos EX (cellAt c o) n ∅ 0) ⊢ (|={Set.univ}=> semVal (cellAt c o) 0 : sProp 𝕄) := by
  iintro ⟨#HK, H⟩
  iapply (Rounds.cell_close EX (sched X) (Set.mem_univ (K (c, o))) (fun h => h) (R := n) h)
  isplitr
  · iapply (inv_at X K c o); iexact HK
  iexact H

theorem close_all {I : Type} [DecidableEq I] {s : Finset I} (c : Dev nD) (κ : I → Key) (n : ℕ)
    (h : ∀ i r, n ≤ r → (sched X).duties (cellAt c (some (κ i))) r = ∅) :
    iprop(known X K ∗ bigSep s fun i => posAt c (κ i) n) ⊢ (|={Set.univ}=> bigSep s fun i => zeroAt c (κ i) : sProp 𝕄) :=
  (each_using fun i => close_at X K c (some (κ i)) n (h i)).trans (bigSep_fupd _ _)

theorem close_pairs (c : Dev nD) (κ : Fin 2 → Fin 31 → Key) :
    iprop(known X K ∗ pairs fun h r => posAt c (κ h r) 1) ⊢ (|={Set.univ}=> pairs fun h r => zeroAt c (κ h r) : sProp 𝕄) :=
  (each_using fun h => close_all X K c (κ h) 1 fun r => duties_later X _).trans (bigSep_fupd _ _)

theorem close_halves (c : Dev nD) (κ : Fin 2 → Key) (hκ : ∀ h, (κ h).2.2 = idle c (κ h).1) :
    iprop(known X K ∗ halves fun h => posAt c (κ h) 0) ⊢ (|={Set.univ}=> halves fun h => zeroAt c (κ h) : sProp 𝕄) :=
  close_all X K c κ 0 fun h => duties_idle X c (κ h) (hκ h)

theorem idle_even (c : Dev nD) (f : Fin 4) (hf : f.val % 2 = 0) : idle c f = 0 := if_pos hf
theorem idle_odd (c : Dev nD) (f : Fin 4) (hf : ¬f.val % 2 = 0) : idle c f = c := if_neg hf

/-- Every counter of the device's cells at zero. -/
def zeros (c : Dev nD) : sProp 𝕄 := bigSep Finset.univ fun o : Spot => semVal (cellAt c o) 0

theorem close_device (c : Dev nD) :
    iprop(known X K ∗ (atPos EX (cellAt c none) 1 ∅ 0 ∗ places c 1) ∗ unused c fun k => posAt c k 0)
      ⊢ (|={Set.univ}=> zeros c : sProp 𝕄) := by
  unfold places unused
  iintro ⟨#HK, ⟨HB, H0, H1, H2, H3⟩, I0, I1, I2, I3⟩
  imod (close_at X K c none 1 (duties_later X _)) $$ [HB] with HB
  · isplitr; · iexact HK
    iexact HB
  imod (close_pairs X K c fun h r => (0, h, lane r)) $$ [H0] with H0
  · isplitr; · iexact HK
    iexact H0
  imod (close_pairs X K c fun h r => (1, h, peer c r)) $$ [H1] with H1
  · isplitr; · iexact HK
    iexact H1
  imod (close_pairs X K c fun h r => (2, h, lane r)) $$ [H2] with H2
  · isplitr; · iexact HK
    iexact H2
  imod (close_pairs X K c fun h r => (3, h, peer c r)) $$ [H3] with H3
  · isplitr; · iexact HK
    iexact H3
  imod (close_halves X K c (fun h => (0, h, 0)) fun h => (idle_even c 0 rfl).symm) $$ [I0] with I0
  · isplitr; · iexact HK
    iexact I0
  imod (close_halves X K c (fun h => (1, h, c)) fun h => (idle_odd c 1 (by decide)).symm) $$ [I1] with I1
  · isplitr; · iexact HK
    iexact I1
  imod (close_halves X K c (fun h => (2, h, 0)) fun h => (idle_even c 2 (by decide)).symm) $$ [I2] with I2
  · isplitr; · iexact HK
    iexact I2
  imod (close_halves X K c (fun h => (3, h, c)) fun h => (idle_odd c 3 (by decide)).symm) $$ [I3] with I3
  · isplitr; · iexact HK
    iexact I3
  imodintro
  unfold zeros
  iapply (Entails.of_eq (by_spot fun o : Spot => (semVal (cellAt c o) 0 : sProp 𝕄)).symm)
  isplitl [HB]; · iexact HB
  iapply (Entails.of_eq (by_key c (zeroAt (F := F) c)).symm)
  unfold used unused
  isplitl [H0 H1 H2 H3]
  · isplitl [H0]; · iexact H0
    isplitl [H1]; · iexact H1
    isplitl [H2]; · iexact H2
    iexact H3
  isplitl [I0]; · iexact I0
  isplitl [I1]; · iexact I1
  isplitl [I2]; · iexact I2
  iexact I3

/-! ### Tokens -/

/-- A token: a signal's, or one of a transfer's two, by the device that uses it. -/
abbrev Tok := Fin 31 ⊕ (Fin 4 × Fin 2 × Fin 31)

/-- The cell it is for, and who raises it. -/
def tokSpot (c : Dev nD) : Tok → Dev nD × Spot × Dev nD
  | .inl r => (peer c r, none, c)
  | .inr (f, h, r) => if f.val % 2 = 0 then (c, some (f, h, lane r), 0) else (peer c r, some (f, h, c), 0)

theorem lane_injective : Function.Injective lane := fun r r' h => by
  have h' : 1 + r.val = 1 + r'.val := congrArg Fin.val h
  exact Fin.ext (by omega)

theorem tokSpot_injective : Function.Injective (fun p : Dev nD × Tok => tokSpot p.1 p.2) := by
  rintro ⟨c, t⟩ ⟨c', t'⟩ h
  rcases t with r | ⟨f, g, r⟩ <;> rcases t' with r' | ⟨f', g', r'⟩
  · obtain ⟨h1, -, h3⟩ : peer c r = peer c' r' ∧ (none : Spot) = none ∧ c = c' := by
      simpa only [tokSpot, Prod.mk.injEq] using h
    subst h3
    rw [peer_injective c h1]
  · exfalso
    have h2 := congrArg (fun p => p.2.1) h
    simp only [tokSpot] at h2
    split at h2 <;> exact absurd h2 (by simp)
  · exfalso
    have h2 := congrArg (fun p => p.2.1) h
    simp only [tokSpot] at h2
    split at h2 <;> exact absurd h2 (by simp)
  · have hf : f = f' := by
      have h2 := congrArg (fun p => p.2.1.map Prod.fst) h
      simp only [tokSpot] at h2
      split at h2 <;> split at h2 <;> simpa using h2
    subst hf
    by_cases hp : f.val % 2 = 0
    · simp only [tokSpot, if_pos hp, Prod.mk.injEq, Option.some.injEq, and_true, true_and] at h
      obtain ⟨rfl, rfl, h3⟩ := h
      rw [lane_injective h3]
    · simp only [tokSpot, if_neg hp, Prod.mk.injEq, Option.some.injEq, and_true, true_and] at h
      obtain ⟨h1, rfl, rfl⟩ := h
      rw [peer_injective _ h1]

def tokOf (p : Dev nD × Tok) : GSem nD τ sig × ℕ × Dev nD :=
  (cellAt (tokSpot p.1 p.2).1 (tokSpot p.1 p.2).2.1, 0, (tokSpot p.1 p.2).2.2)

theorem tokOf_injective : Function.Injective tokOf := fun p p' h => by
  have h1 := congrArg (fun x : GSem nD τ sig × ℕ × Dev nD => x.1) h
  have h2 := congrArg (fun x : GSem nD τ sig × ℕ × Dev nD => x.2.2) h
  have h3 := cellAt_injective (a₁ := ((tokSpot p.1 p.2).1, (tokSpot p.1 p.2).2.1)) (a₂ := ((tokSpot p'.1 p'.2).1, (tokSpot p'.1 p'.2).2.1)) h1
  have h4 : tokSpot p.1 p.2 = tokSpot p'.1 p'.2 := Prod.ext (Prod.mk.inj h3).1 (Prod.ext (Prod.mk.inj h3).2 h2)
  exact tokSpot_injective h4

def allCells : Finset (GSem nD τ sig) := Finset.univ.map ⟨fun co : Dev nD × Spot => cellAt co.1 co.2, cellAt_injective⟩
def allToks : Finset (GSem nD τ sig × ℕ × Dev nD) := Finset.univ.map ⟨tokOf, tokOf_injective⟩

theorem by_cell (Φ : GSem nD τ sig → sProp 𝕄) :
    bigSep allCells Φ = bigSep Finset.univ fun c : Dev nD => bigSep Finset.univ fun o : Spot => Φ (cellAt c o) := by
  unfold allCells; rw [bigSep_map, bigSep_univ_prod]; rfl

theorem by_kind {A B : Type} [Fintype A] [Fintype B] (Φ : A ⊕ B → sProp 𝕄) :
    bigSep Finset.univ Φ = iprop(bigSep Finset.univ (fun a => Φ (.inl a)) ∗ bigSep Finset.univ fun b => Φ (.inr b)) := BI.bigSep_univ_sum Φ

/-- The tokens of one device: exactly those it uses. -/
theorem toks_of (c : Dev nD) :
    (bigSep Finset.univ fun t : Tok => (dutyTok EX (tokOf (c, t)).1 (tokOf (c, t)).2.1 (tokOf (c, t)).2.2 : sProp 𝕄)) = myToks c := by
  rw [by_kind, bigSep_univ_prod, by_family, bigSep_univ_prod, bigSep_univ_prod, bigSep_univ_prod, bigSep_univ_prod]
  unfold myToks tokAt
  rw [pairs_sep, pairs_sep]
  refine BI.equiv_iff.mp ⟨?_, ?_⟩
  · show (_ : sProp 𝕄) ⊢ _
    iintro ⟨H, H0, H1, H2, H3⟩
    isplitl [H]; · iexact H
    isplitl [H0 H1]
    · isplitl [H0]; · iexact H0
      iexact H1
    isplitl [H2]; · iexact H2
    iexact H3
  · show (_ : sProp 𝕄) ⊢ _
    iintro ⟨H, ⟨H0, H1⟩, H2, H3⟩
    isplitl [H]; · iexact H
    isplitl [H0]; · iexact H0
    isplitl [H1]; · iexact H1
    isplitl [H2]; · iexact H2
    iexact H3

theorem by_tok : (bigSep allToks fun x => (dutyTok EX x.1 x.2.1 x.2.2 : sProp 𝕄)) = bigSep Finset.univ fun c : Dev nD => myToks (F := F) c := by
  unfold allToks; rw [bigSep_map, bigSep_univ_prod]
  exact bigSep_congr fun c _ => toks_of c

/-! ### Credits -/

/-- Counting pairs of a device and its peer from either end. -/
theorem swap_sum {M : Type} [AddCommMonoid M] (g : Dev nD → Dev nD → M) :
    ∑ d : Dev nD, ∑ r : Fin 31, g (peer d r) d = ∑ c : Dev nD, ∑ r : Fin 31, g c (peer c r) := by
  have e (c : Dev nD) (f : Dev nD → M) : ∑ r : Fin 31, f (peer c r) = ∑ d ∈ Finset.univ.erase c, f d := by
    rw [erase_eq_map, Finset.sum_map]; rfl
  rw [Finset.sum_congr rfl fun d _ => e d fun p => g p d, Finset.sum_congr rfl fun c _ => e c (g c)]
  exact Finset.sum_comm' fun d c => by
    simp only [Finset.mem_univ, Finset.mem_erase, true_and, and_true]
    exact ne_comm

/-- What is owed to device `c`'s cells. -/
def dueTo (c : Dev nD) : CellTallies nD τ sig Unit :=
  (∑ r : Fin 31, tallyAt (cellAt c none) () 1)
    + ((∑ h : Fin 2, ∑ r : Fin 31, tallyAt (cellAt c (some (1, h, peer c r))) () slabAmt)
      + ∑ h : Fin 2, ∑ r : Fin 31, tallyAt (cellAt c (some (3, h, peer c r))) () slabAmt)

theorem owe_keys (f : Fin 4) : ∑ d : Dev nD, oweHalf f d 0
    = ∑ c : Dev nD, ∑ h : Fin 2, ∑ r : Fin 31, tallyAt (cellAt c (some (f, h, peer c r))) () slabAmt := by
  unfold oweHalf
  simp only [restSum_zero]
  rw [Finset.sum_comm, Finset.sum_comm (s := Finset.univ (α := Dev nD)) (t := Finset.univ (α := Fin 2))]
  refine Finset.sum_congr rfl fun h _ => ?_
  exact swap_sum fun c d => (tallyAt (cellAt c (some (f, h, d))) () slabAmt : CellTallies nD τ sig Unit)

theorem owe_all : ∑ d : Dev nD, owe₀ d = ∑ c : Dev nD, dueTo c := by
  unfold owe₀ dueTo
  rw [Finset.sum_add_distrib, Finset.sum_add_distrib, Finset.sum_add_distrib, Finset.sum_add_distrib, owe_keys, owe_keys]
  refine congrArg (· + _) ?_
  unfold oweBar
  simp only [restSum_zero]
  exact swap_sum fun c d => (tallyAt (cellAt c none) () 1 : CellTallies nD τ sig Unit)

theorem due_own (c : Dev nD) (g : GSem nD τ sig) (h : dueTo c g ≠ 0) : g.1 = c.tc := by
  by_contra hne
  refine h ?_
  have z (o : Spot) (k : ℕ) : (tallyAt (cellAt c o) () k : CellTallies nD τ sig Unit) g = 0 :=
    tallyAt_ne_cell (fun e => hne (congrArg Prod.fst e)) () k
  unfold dueTo
  simp only [Pi.add_apply, Finset.sum_apply, z, Finset.sum_const_zero, add_zero]

theorem tally_count (g : GSem nD τ sig) (n : ℕ) : ∑ _r : Fin n, (tallyAt g () 1 : CellTallies nD τ sig Unit) = tallyAt g () n := by
  induction n with
  | zero => rw [tallyAt_zero]; rfl
  | succ n ih => rw [Fin.sum_univ_castSucc, ih, tallyAt_add]

theorem cred_keys (c : Dev nD) (f : Fin 4) :
    (cred (∑ h : Fin 2, ∑ r : Fin 31, tallyAt (cellAt c (some (f, h, peer c r))) () slabAmt) : sProp 𝕄) = pairs fun h r => credAt c (f, h, peer c r) := by
  rw [Pipeline.cred_finsetSum]
  exact bigSep_congr fun h _ => Pipeline.cred_finsetSum _ _

theorem launch_creds (c : Dev nD) : (Pipeline.launchCred owe₀ c : sProp 𝕄) ⊢ myCreds c := by
  rw [Pipeline.launchCred_of_sum owe₀ dueTo owe_all due_own c]
  unfold dueTo myCreds
  rw [tally_count]
  iintro H
  ihave H := (cred_add _ _).1 $$ H
  icases H with ⟨HB, H⟩
  ihave H := (cred_add _ _).1 $$ H
  icases H with ⟨H1, H3⟩
  isplitl [HB]; · iexact HB
  isplitl [H1]
  · iapply (Entails.of_eq (cred_keys (F := F) c 1)); iexact H1
  iapply (Entails.of_eq (cred_keys (F := F) c 3)); iexact H3

end Cert.AllReduce

end
-- ==== Proof.Run.lean ====
/-
  The whole program from any memory: it ends, every device's result at the sums its body computes and its argument
  unchanged, every counter at zero.
-/
module

public import proofs.«01_k».proof.Proof.Deal
public import Idealize.ShloMosaic.Lib.Pipeline.CollectiveSegs

@[expose] public section

set_option maxRecDepth 8000

noncomputable section

namespace Cert.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ Alg ℕ

variable (m : (ℓ : Loc nD τ sig) → Buf (Elt F) ℓ) (ρ : Dev nD → PrngReg)

/-! ### The pipeline's data -/

/-- The block a device is given, as it is staged, -/
def block (c : Dev nD) : Vec F S1x512x512 .f32 :=
  (win0_0.blk (0 : Fin 1)).view.read (Elt F) (m ((c : Thread nD τ).loc main_arg0))
/-- and narrowed. -/
def narrow (c : Dev nD) : Vec F S512x512 .bf16 := narrowed (block m c)

/-- What the launch gives a device: its cells' invariants, places and tokens; -/
def dealt (c : Dev nD) : sProp 𝕄 :=
  iprop((∃ K, records (narrow m) K) ∗ (bigSep Finset.univ fun o : Spot => atPos EX (cellAt c o) 0 ∅ 0) ∗ myToks c)
/-- with its credits and the levels. -/
def entry (c : Dev nD) : sProp 𝕄 := iprop(dealt m c ∗ myCreds c ∗ levAts live lvs)

def before₀ (c : Dev nD) : sProp 𝕄 := iprop(entry m c ∗ scratch c)
def after₀ (c : Dev nD) : sProp 𝕄 := iprop(scratch (F := F) c ∗ zeros c)

def dats (_ : Fin 1) (c : Dev nD) : Dat τ (Elt F) Unit ℕ Alg ℕ cfg0 c where
  A w := m ((cfg0.win w).arr.view.loc (c : Thread nD τ))
  after w _ := match w with
    | ⟨0, _⟩ => block m c
    | ⟨1, _⟩ => outc (narrow m)
  Φ t := match t with
    | ⟨0, _⟩ => before₀ m c
    | ⟨_ + 1, _⟩ => after₀ c
  q _ := fullShare
  owed t := match t with
    | ⟨0, _⟩ => owe₀ c
    | ⟨_ + 1, _⟩ => 0

theorem fetches (t : Fin cfg0.N) : (cfg0.win (0 : Fin 2)).fetch t = true := by rw [fin_N0 t]; rfl

theorem owns_whole (c : Dev nD) (b : Ref sig .tc) (Y : b.ty.Contents (Elt F)) :
    (owns (Ix := Unit) (Name := ℕ) (U := Alg) (Lvl := ℕ) (c : Thread nD τ) (Memref.whole b) fullShare Y : sProp 𝕄)
      = iprop(∃ f : Buf (Elt F) ((c : Thread nD τ).loc b), ⌜f = Y⌝ ∗ (((c : Thread nD τ).loc b) ↦{fullShare} f)) := by
  unfold owns; simp only [Memref.view_whole, View.read_whole, View.set_whole]

abbrev staged (c : Dev nD) (b : Ref sig .tc) (Y : b.ty.Contents (Elt F)) : sProp 𝕄 :=
  iprop(∃ f : Buf (Elt F) ((c : Thread nD τ).loc b), ⌜f = Y⌝ ∗ (((c : Thread nD τ).loc b) ↦{fullShare} f))

def bodyPre (c : Dev nD) : sProp 𝕄 :=
  iprop(before₀ m c ∗ (dats m 0 c).owesAt () t0_0.castSucc
    ∗ (∃ d, staged c cc0_stg0_0 ((dats m 0 c).before (0 : Fin 2) t0_0 d))
    ∗ (∃ d, staged c cc0_stg1_0 ((dats m 0 c).before (1 : Fin 2) t0_0 d)))

def bodyPost (c : Dev nD) : sProp 𝕄 :=
  iprop(after₀ c ∗ (dats m 0 c).owesAt () t0_0.succ ∗ staged c cc0_stg0_0 (block m c) ∗ staged c cc0_stg1_0 (outc (narrow m)))

theorem places_split (c : Dev nD) : (bigSep Finset.univ fun o : Spot => (atPos EX (cellAt c o) 0 ∅ 0 : sProp 𝕄))
    = iprop(atPos EX (cellAt c none) 0 ∅ 0 ∗ places c 0 ∗ unused c fun k => posAt c k 0) :=
  (by_spot _).trans (congrArg (fun P => iprop(atPos EX (cellAt c none) 0 ∅ 0 ∗ P)) (by_key c fun k => posAt c k 0))

variable {harg2 : nM.IsWhole} {harg3 : sM.IsWhole} {harg4 : gM.IsWhole}

theorem body_sound (c : Dev nD) :
    bodyPre m c ⊢ run c (shape xM oM nM harg2 sM harg3 gM harg4 cc0_scratch3 cc0_scratch4 cc0_scratch5 cc0_scratch6) fun _ => bodyPost m c := by
  unfold bodyPre before₀ entry dealt
  iintro ⟨⟨⟨⟨⟨%K, #HR⟩, Hp, Ht⟩, Hc, #Hl⟩, Hs⟩, Ho, ⟨%d0, %g0, %hg0, Hx⟩, ⟨%d1, %g1, %hg1, Hf⟩⟩
  have hx : g0 = block m c := by rw [hg0]; unfold Dat.before; rw [if_pos (fetches t0_0)]; rfl
  subst hx
  unfold Dat.owesAt Pipeline.owesWithin
  icases Ho with ⟨%W, %hW, HO⟩
  rw [show (dats m 0 c).owed t0_0.castSucc = owe₀ c from rfl]
  ihave Hp := (Entails.of_eq (places_split (F := F) c)) $$ Hp
  icases Hp with ⟨HpB, Hp, Hu⟩
  ihave H := (body_run (narrow m) K c (block m c) rfl g1) $$ [HpB Hp Ht Hc Hs HO Hx Hf]
  · isplitr
    · unfold known; isplitr; · iexact HR
      iexact Hl
    isplitl [HpB Hp Ht Hc Hs]
    · isplitl [HpB]; · iexact HpB
      isplitl [Hp]; · iexact Hp
      isplitl [Ht]; · iexact Ht
      isplitl [Hc]; · iexact Hc
      iexact Hs
    isplitl [HO]
    · unfold iOwe; iexists W; iexact HO
    isplitl [Hx]; · iexact Hx
    iexact Hf
  unfold run
  iapply (wp_fupd _ _ _)
  iapply (wp_wand _ _ _) $$ H
  iintro %_ ⟨⟨HpB, Hp, Hs⟩, HO, Hx, Hf⟩
  imod (close_device (narrow m) K c) $$ [HpB Hp Hu] with Hz
  · isplitr
    · unfold known; isplitr; · iexact HR
      iexact Hl
    isplitl [HpB Hp]
    · isplitl [HpB]; · iexact HpB
      iexact Hp
    iexact Hu
  imodintro
  unfold bodyPost after₀ Dat.owesAt Pipeline.owesWithin iOwe
  icases HO with ⟨%W', HO⟩
  rw [show (dats m 0 c).owed t0_0.succ = 0 from rfl]
  isplitl [Hs Hz]
  · isplitl [Hs]; · iexact Hs
    iexact Hz
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hf

theorem slot_in : win0_0.stage (cfg0.slots t0_0 0) = xM := rfl
theorem slot_out : win0_1.stage (cfg0.slots t0_0 1) = oM := rfl

/-- What the pipeline calls at its one point. -/
theorem called : (defs₀ (F := F)) .tc cfg0.body (cfg0.bodyArgs t0_0 (cfg0.slots t0_0))
    = shape xM oM nM (Memref.isWhole_whole _) sM (Memref.isWhole_whole _) gM (Memref.isWhole_whole _) cc0_scratch3 cc0_scratch4 cc0_scratch5 cc0_scratch6 := by
  have h : (defs₀ (F := F)) .tc cfg0.body (cfg0.bodyArgs t0_0 (cfg0.slots t0_0)) = bodyAt0 t0_0 := rfl
  rw [h]
  unfold bodyAt0
  rw [body_eq, slot_in, slot_out]

theorem body_obligation (c : Dev nD) : BodyObligation (dats m 0 c) (defs₀ (F := F)) 𝒱₀ () Set.univ := fun t => by
  rw [fin_N0 t]
  rw [bigSep_W0, bigSep_W0, called]
  simp only [owns_whole]
  rw [show (dats m 0 c).Φ t0_0.castSucc = before₀ m c from rfl, show (dats m 0 c).Φ t0_0.succ = after₀ c from rfl]
  have h := body_sound m (harg2 := Memref.isWhole_whole _) (harg3 := Memref.isWhole_whole _) (harg4 := Memref.isWhole_whole _) c
  unfold bodyPre bodyPost at h
  rw [show (dats m 0 c).after 0 t0_0 = block m c from rfl, show (dats m 0 c).after 1 t0_0 = outc (narrow m) from rfl]
  unfold run at h
  refine BIBase.Entails.trans (Q := _) ?_ (BIBase.Entails.trans h ?_)
  · iintro ⟨Ha, Hb, Hc, Hd⟩
    isplitl [Ha]; · iexact Ha
    isplitl [Hb]; · iexact Hb
    isplitl [Hc]
    · icases Hc with ⟨%d, %f, %hf, Hc⟩
      iexists d; iexists f
      isplitr; · (ipureintro; exact hf)
      iexact Hc
    icases Hd with ⟨%d, %f, %hf, Hd⟩
    iexists d; iexists f
    isplitr; · (ipureintro; exact hf)
    iexact Hd
  · iintro H
    iapply (wp_wand _ _ _) $$ H
    iintro %_ ⟨Ha, Hb, Hc, Hd⟩
    isplitl [Ha]; · iexact Ha
    isplitl [Hb]; · iexact Hb
    isplitl [Hc]
    · icases Hc with ⟨%f, %hf, Hc⟩
      iexists f
      isplitr; · (ipureintro; exact hf)
      iexact Hc
    icases Hd with ⟨%f, %hf, Hd⟩
    iexists f
    isplitr; · (ipureintro; exact hf)
    iexact Hd

/-! ### The launch -/

/-- The kernel's own semaphores. -/
abbrev osem (k : Key) : SemLoc sig := spotSem (some k)

theorem keyOf_stage (w : Fin 2) (s : Fin (cfg0.spec w).nbuf) : keyOf ((cfg0.spec w).sem s) = none := by
  fin_cases w <;> fin_cases s <;> rfl

theorem ownSemFacts : Pipeline.OwnSemFacts cfg0.spec osem where
  isScoped k := by revert k; decide +kernel
  inj k k' h := Option.some.inj (spotSem_injective h)
  disj k w s h := by
    have h1 : spotOf (osem k) = spotOf (.dma ((cfg0.spec w).sem s)) := congrArg spotOf h
    rw [spotOf_sem] at h1
    have h2 : spotOf (.dma ((cfg0.spec w).sem s)) = none := by
      show (keyOf _).map some = none
      rw [keyOf_stage]; rfl
    rw [h2] at h1
    exact absurd h1 (by simp)

theorem share_eq (c : Dev nD) (w : Fin cfg0.W) : (dats m 0 c).share w = fullShare := by unfold Dat.share; split <;> rfl

def u₀ : Alg :=
  (initOf (Pipeline.cells cfgs cellOf_inj) (Pipeline.launchToks cfgs cellOf_inj), initOf allCells allToks)

/-- What a device is funded with. -/
def funded (c : Dev nD) : sProp 𝕄 :=
  iprop((bigSep Finset.univ fun o : Spot => roundState EX (sched (narrow m)) (cellAt c o) 0)
    ∗ (bigSep Finset.univ fun o : Spot => reached EX (cellAt c o) 0)
    ∗ (bigSep Finset.univ fun o : Spot => atPos EX (cellAt c o) 0 ∅ 0) ∗ myToks c)

theorem fund_all : BI.own (EX (initOf allCells allToks)) ⊢ (|==> bigSep Finset.univ (funded m) : sProp 𝕄) := by
  iintro H
  imod (Rounds.fund EX (sched (narrow m)) allCells allToks) $$ H with ⟨Hs, Hr, Hp, Ht⟩
  imodintro
  ihave Hs := (Entails.of_eq (by_cell fun g => roundState EX (sched (narrow m)) g 0)) $$ Hs
  ihave Hr := (Entails.of_eq (by_cell fun g => (reached EX g 0 : sProp 𝕄))) $$ Hr
  ihave Hp := (Entails.of_eq (by_cell fun g => (atPos EX g 0 ∅ 0 : sProp 𝕄))) $$ Hp
  ihave Ht := (Entails.of_eq (by_tok (F := F))) $$ Ht
  unfold funded
  iapply (zip _ _)
  isplitl [Hs]; · iexact Hs
  iapply (zip _ _)
  isplitl [Hr]; · iexact Hr
  iapply (zip _ _)
  isplitl [Hp]; · iexact Hp
  iexact Ht

theorem unscoped_eq (c : Dev nD) : (unscopedSems0 c : sProp 𝕄) = semVal (cellAt c none) 0 := by
  unfold unscopedSems0; rw [bigSep_eq_bigSepL_of_eq [SemLoc.reg bar] (by decide +kernel) (by decide)]; rfl

theorem own_zeros (c : Dev nD) : iprop(unscopedSems0 c ∗ Pipeline.ownSems0 (Ix := Unit) (Name := ℕ) (U := Alg) (Lvl := ℕ) (Val := Elt F) (τ := τ) osem c)
    = (zeros c : sProp 𝕄) := by
  unfold zeros
  rw [unscoped_eq, by_spot]; rfl

/-- A device's cells with their invariants set up, at some names; what it holds besides. -/
def setUp (c : Dev nD) : sProp 𝕄 :=
  iprop((bigSep Finset.univ fun o : Spot => iprop(∃ κ : ℕ, cellInv EX (sched (narrow m)) κ (cellAt c o)))
    ∗ (bigSep Finset.univ fun o : Spot => reached EX (cellAt c o) 0)
    ∗ (bigSep Finset.univ fun o : Spot => atPos EX (cellAt c o) 0 ∅ 0) ∗ myToks c)

theorem set_up (c : Dev nD) :
    iprop(Pipeline.ownSems0 (Ix := Unit) (Name := ℕ) (U := Alg) (Lvl := ℕ) (Val := Elt F) (τ := τ) osem c ∗ unscopedSems0 c ∗ funded m c)
      ⊢ (|={Set.univ}=> setUp m c : sProp 𝕄) := by
  have hinv : iprop((bigSep Finset.univ fun o : Spot => semVal (cellAt c o) 0) ∗ bigSep Finset.univ fun o : Spot => roundState EX (sched (narrow m)) (cellAt c o) 0)
      ⊢ (|={Set.univ}=> bigSep Finset.univ fun o : Spot => iprop(∃ κ : ℕ, cellInv EX (sched (narrow m)) κ (cellAt c o)) : sProp 𝕄) :=
    (zip _ _).trans ((each fun o => (Rounds.body_intro EX (sched (narrow m)) (cellAt c o)).trans inv_alloc).trans (bigSep_fupd _ _))
  unfold funded
  iintro ⟨Ho, Hu, Hs, Hrest⟩
  ihave Hz := (Entails.of_eq (own_zeros (F := F) c)) $$ [Ho Hu]
  · isplitl [Hu]; · iexact Hu
    iexact Ho
  imod hinv $$ [Hz Hs] with HI
  · isplitl [Hz]
    · unfold zeros; iexact Hz
    iexact Hs
  imodintro
  unfold setUp
  isplitl [HI]; · iexact HI
  iexact Hrest

/-- The names are shared by all. -/
theorem share_names : (bigSep Finset.univ (setUp m) : sProp 𝕄) ⊢ bigSep Finset.univ (dealt m) := by
  unfold setUp
  iintro H
  ihave H := (unzip _ _) $$ H
  icases H with ⟨HI, H⟩
  ihave H := (unzip _ _) $$ H
  icases H with ⟨HR, H⟩
  ihave HI := (Entails.of_eq (bigSep_univ_prod fun co : Dev nD × Spot => iprop(∃ κ : ℕ, cellInv EX (sched (narrow m)) κ (cellAt co.1 co.2))).symm) $$ HI
  ihave HR := (Entails.of_eq (bigSep_univ_prod fun co : Dev nD × Spot => (reached EX (cellAt co.1 co.2) 0 : sProp 𝕄)).symm) $$ HR
  ihave HK := (BI.bigSep_exists_pi Finset.univ (fun (co : Dev nD × Spot) (κ : ℕ) => (cellInv EX (sched (narrow m)) κ (cellAt co.1 co.2) : sProp 𝕄))) $$ HI
  icases HK with ⟨%K, HK⟩
  have hd (c : Dev nD) : iprop(records (narrow m) K ∗ (bigSep Finset.univ fun o : Spot => atPos EX (cellAt c o) 0 ∅ 0) ∗ myToks c) ⊢ dealt m c := by
    unfold dealt
    iintro ⟨#HR, H⟩
    isplitr
    · iexists K; iexact HR
    iexact H
  iapply (each_using (R := records (narrow m) K) hd)
  isplitl [HK HR]
  · unfold records
    isplitl [HK]; · iexact HK
    iexact HR
  iexact H

theorem deal_all :
    (bigSep Finset.univ fun c => iprop(Pipeline.ownSems0 (Ix := Unit) (Name := ℕ) (U := Alg) (Lvl := ℕ) (Val := Elt F) (τ := τ) osem c ∗ unscopedSems0 c ∗ funded m c) : sProp 𝕄)
      ⊢ |={Set.univ}=> bigSep Finset.univ (dealt m) :=
  ((bigSep_mono fun c _ => set_up m c).trans (bigSep_fupd _ _)).trans (BI.fupd_mono (share_names m))

theorem entry_intro (c : Dev nD) :
    iprop(Pipeline.unscopedRestP Pipeline.Prefetch.none cfg0.spec c (fun b => m ((c : Thread nD τ).loc b)) ∗ levAts live lvs
        ∗ Pipeline.launchCred owe₀ c ∗ prngReg c (ρ c) ∗ dealt m c)
      ⊢ (|={Set.univ}=> iprop(entry m c ∗ emp) : sProp 𝕄) := by
  iintro ⟨-, Hl, Hc, -, Hd⟩
  ihave Hc := (launch_creds (F := F) c) $$ Hc
  imodintro
  unfold entry
  isplitl
  · isplitl [Hd]; · iexact Hd
    isplitl [Hc]; · iexact Hc
    iexact Hl
  · iempintro

theorem scratch_eq (c : Dev nD) : (Pipeline.scopedRest (Ix := Unit) (Name := ℕ) (U := Alg) (Lvl := ℕ) (Val := Elt F) cfg0.spec c : sProp 𝕄) = scratch c :=
  (scopedRest0_eq c).trans rfl

theorem before_intro (c : Dev nD) :
    iprop(entry m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before₀ m c from rfl, scratch_eq]
  unfold before₀
  iintro ⟨He, -, Hs⟩
  isplitl [He]; · iexact He
  iexact Hs

theorem after_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = after₀ c from rfl, scratch_eq]
  unfold after₀
  iintro ⟨Hs, Hz⟩
  ihave Hz := (Entails.of_eq (own_zeros (F := F) c).symm) $$ Hz
  icases Hz with ⟨Hu, Ho⟩
  isplitl [Hu]; · iexact Hu
  isplitl [Ho]; · iexact Ho
  iexact Hs

theorem waits (c : Dev nD) : (levAts live lvs : sProp 𝕄) ⊢ Pipeline.cellsWaits cfgs (dats m) () 0 c :=
  Pipeline.cellsWaits_intro cfgs (dats m) () 0 c fun w s t =>
    mayWait (n := 0) c _ (by
      show keyLv (keyOf ((cfg0.spec w).sem s)) ≤ 0
      rw [keyOf_stage]; exact le_rfl) (by
      rcases t with ⟨_ | _, ht⟩
      · exact above_start c
      · exact above_zero 0)

/-- What a window's array holds at the end. -/
def final (c : Dev nD) (w : Fin cfg0.W) : Buf (Elt F) ((cfg0.win w).arr.view.loc (c : Thread nD τ)) := (dats m 0 c).arrAt w cfg0.N

def Ends (r : PUnit × MemSt nD τ sig (Elt F)) : Prop :=
  ∀ c : Dev nD, ∀ w : Fin cfg0.W, r.2.mem ((cfg0.win w).arr.view.loc (c : Thread nD τ)) = final m c w

theorem run_main : θ_run defs (onTc (τ := τ) (main (F := F))) ⟨m, fun _ => 0, ρ⟩ (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0) (hshare := share_eq m)
    (hdistinct := winFacts0.arr_inj)
    (O₀ := owe₀) (howed₀ := fun _ => rfl) (howedN := fun _ => rfl)
    (L := live) (lv := lvs) (hL := live_of_ne) (hwaits := waits m)
    (G := funded m) (G' := dealt m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := deal_all m)
    (hA := fun _ _ => rfl) (hpf := fun _ k => k.elim0)
    (X := entry m) (Y := fun c => unscopedSems0 c) (Z := fun _ => iprop(emp))
    (hX := entry_intro m ρ) (hin := before_intro m) (hout := after_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument is unchanged. -/
theorem final_arg (c : Dev nD) : final m c (0 : Fin 2) = m (win0_0.arr.view.loc (c : Thread nD τ)) :=
  (dats m 0 c).arrAt_in (0 : Fin 2) rfl _

end Cert.AllReduce

end
-- ==== Proof.Sums.lean ====
/-
  What the body computes, over the extended reals: every entry of the output is the sum, over the 32 devices, of that
  entry of their inputs.
-/
module

public import proofs.«01_k».proof.Proof.Contents
public import Idealize.ShloMosaic.Lib.ValueLayout
public import Idealize.ShloMosaic.PureOps.Ideal.Laws

@[expose] public section

set_option maxRecDepth 8000

noncomputable section

namespace Cert.AllReduce

open Idealize.ShloMosaic Idealize.ShloMosaic.TcCoe
open Cert.KernelIdeal Cert.KernelIdeal.Gen
open ValueIdx

/-- Narrowing drops the unit axis and, over the extended reals, changes no entry. -/
theorem narrowed_at (v : Vec Ideal S1x512x512 .f32) (x y : Fin 512) : narrowed v (ix2 x y) = v (ix3 (0 : Fin 1) x y) := by
  unfold narrowed
  rw [shapeCast_self]
  exact shapeCast_1ab_ab_apply v shapeCasts_S1x512x512_S512x512 x y

/-- A device's sum of a half: entry by entry over its 32 slabs. -/
theorem summed_at (v : Vec Ideal S32x8x512 .bf16) (x : Fin 8) (y : Fin 512) :
    summed v (ix3 (0 : Fin 1) x y) = ∑ d : Fin 32, v (ix3 d x y) := by
  unfold summed
  refine (shapeCast_ab_1ab_apply _ shapeCasts_S8x512_S1x8x512 (0 : Fin 1) x y).trans ?_
  refine (Ideal.reduceAdd_single reduces_S32x8x512_S8x512 v (ix2 x y)).trans ?_
  refine Finset.sum_congr rfl fun d _ => congrArg v (funext fun a => ?_)
  fin_cases a <;> exact Fin.ext rfl

/-- The 32 slabs of a half laid out one after another: row `a` is row `a % 8` of slab `a / 8`. -/
theorem widened_at (v : Vec Ideal S32x8x512 .bf16) (a : Fin 256) (y : Fin 512) :
    widened v (ix2 a y) = v (ix3 (⟨a.val / 8, by have := a.isLt; omega⟩ : Fin 32) (⟨a.val % 8, Nat.mod_lt _ (by decide)⟩ : Fin 8) y) := by
  unfold widened
  refine shapeCast_apply (s := S32x8x512) (t := S256x512) v shapeCasts_S32x8x512_S256x512 (ix2 a y) _ ?_
  rw [Shape.rowMajor_val_three, Shape.rowMajor_val_two]
  show (a.val / 8 * 8 + a.val % 8) * 512 + y.val = a.val * 512 + y.val
  omega

/-- The row of the input a row of the output is the sum of: itself. -/
theorem row_back (a : Fin 512) (k : Slab) (x : Fin 8) (hk : (slabNo k).val = a.val / 8) (hx : x.val = a.val % 8) : rowNo k x = a := by
  apply Fin.ext
  show 256 * k.1.val + 8 * k.2.val + x.val = a.val
  have h : 32 * k.1.val + k.2.val = a.val / 8 := hk
  omega

/-- The slab a row of the output is laid out from, and its number. -/
theorem slab_of_row (a : Fin 512) (k : Slab) (hk : k = ((slabAt ⟨a.val / 8, by have := a.isLt; omega⟩).1, (⟨a.val % 256 / 8, by have := Nat.mod_lt a.val (show 0 < 256 by decide); omega⟩ : Fin 32))) :
    (slabNo k).val = a.val / 8 := by
  subst hk
  show 32 * (a.val / 8 / 32) + a.val % 256 / 8 = a.val / 8
  omega

/-- The output, entry by entry. -/
theorem outc_at (X : Dev nD → Vec Ideal S512x512 .bf16) (a y : Fin 512) : outc X (ix2 a y) = ∑ d : Fin 32, X d (ix2 a y) := by
  have ha : a.val < 512 := a.isLt
  let r : Fin 256 := ⟨a.val % 256, Nat.mod_lt _ (by decide)⟩
  let k : Slab := ((slabAt ⟨a.val / 8, by omega⟩).1, (⟨r.val / 8, by have := r.isLt; omega⟩ : Fin 32))
  let x : Fin 8 := ⟨r.val % 8, Nat.mod_lt _ (by decide)⟩
  refine (widened_at (halfOf (gath X) k.1) r y).trans ?_
  show gath X (ix3 (slabNo k) x y) = _
  rw [gath_ix, summed_at]
  refine Finset.sum_congr rfl fun d _ => ?_
  show scat X k.2 (ix3 (slabNo (k.1, d)) x y) = _
  rw [scat_ix]
  show X d (ix2 (rowNo k x) y) = _
  rw [row_back a k x (slab_of_row a k rfl) (by show a.val % 256 % 8 = a.val % 8; omega)]

end Cert.AllReduce

end
-- ==== Proof.Claims.lean ====
/-
  The claims: each program runs, leaves its argument as it was and every counter at zero; and over the extended reals the
  kernel's result on every device is the reference's sum.
-/
module

public import proofs.«01_k».proof.Defs
public import proofs.«01_k».proof.Proof.Gen.Kernel
public import proofs.«01_k».proof.Proof.Gen.ReferenceIdeal.Run
public import proofs.«01_k».proof.Proof.Run
public import proofs.«01_k».proof.Proof.Sums
public import Idealize.ShloMosaic.Lib.Pipeline.ValueKit

@[expose] public section

set_option maxRecDepth 8000

noncomputable section

namespace Cert.AllReduce

open Idealize.ShloMosaic hiding ix2 ix3 eq_ix2 eq_ix3
open Idealize.ShloMosaic.TcCoe
open Idealize.SL.Sem
open Cert.KernelIdeal Cert.KernelIdeal.Gen
open ValueIdx

section Ends
variable {F : FTy → Type} [FloatOps F] (m : (ℓ : Loc nD τ sig) → Buf (Elt F) ℓ)

/-- A device's result ends at what its body computes. -/
theorem final_out (c : Dev nD) : final m c (1 : Fin 2) = outc (narrow m) := by
  refine funext fun i => ((dats m 0 c).arrAt_emb_eq_after_last (1 : Fin 2) t0_0 (by decide +kernel) i).trans ?_
  rfl

/-- A device is staged its whole argument. -/
theorem block_at (c : Dev nD) (z : Fin 1) (x y : Fin 512) :
    block m c (ix3 z x y) = m ((c : Thread nD τ).loc main_arg0) (ix3 z x y) := by
  refine congrArg (m ((c : Thread nD τ).loc main_arg0)) (funext fun a => Fin.ext ?_)
  fin_cases a
  · show 0 * 1 + 1 * z.val = z.val; omega
  · show 0 * 512 + 1 * x.val = x.val; omega
  · show 0 * 512 + 1 * y.val = y.val; omega

end Ends

/-- The kernel over the extended reals. -/
theorem frame_ideal : Cert.quiescent_KernelIdeal := fun m ρ _ =>
  (θ_run Cert.KernelIdeal.defs _ _).mono (fun _ h => ⟨fun c => (h.1 c (0 : Fin 2)).trans (final_arg m c), h.2⟩) (run_main (F := Ideal) m ρ)

/-- The program printed for machine floats is the one printed for the extended reals. -/
theorem run_same : θ_run (Cert.Kernel.defs (F := Bits)) (onTc (τ := Cert.Kernel.τ) (Cert.Kernel.main (F := Bits)))
    = θ_run (Cert.KernelIdeal.defs (F := Bits)) (onTc (τ := Cert.KernelIdeal.τ) (Cert.KernelIdeal.main (F := Bits))) := by chain_rfl

/-- The kernel over machine floats. -/
theorem frame_kernel : Cert.quiescent_Kernel := fun m ρ _ => by
  rw [run_same]
  exact (θ_run Cert.KernelIdeal.defs _ _).mono (fun _ h => ⟨fun c => (h.1 c (0 : Fin 2)).trans (final_arg m c), h.2⟩) (run_main (F := Bits) m ρ)

/-- The reference, which has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem whole_tiles : Layout.Tiles ⟨3, ![1, 512, 512]⟩ ⟨3, ![32, 512, 512]⟩ 0 32 := by decide

/-- Block `d` of the whole array is its slice at `d`. -/
theorem block_of (w : (⟨3, ![32, 512, 512]⟩ : Shape).Idx → EReal) (d : Fin 32) (x y : Fin 512) :
    Layout.block ⟨3, ![1, 512, 512]⟩ ⟨3, ![32, 512, 512]⟩ 0 32 d w whole_tiles (ix3 (0 : Fin 1) x y) = w (ix3 d x y) := by
  rw [Layout.block_apply]
  refine congrArg w (funext fun a => Fin.ext ?_)
  rw [Layout.Tiles.idx_val]
  fin_cases a
  · show d.val * 1 + 0 = d.val; omega
  · rfl
  · rfl

/-- The reference's sum, entry by entry. -/
theorem reference_at (w : (⟨3, ![32, 512, 512]⟩ : Shape).Idx → EReal) (x y : Fin 512) :
    (Host.reduceAdd (F := Ideal) (φ := .f32) w (constant (F := Ideal) Cert.ReferenceIdeal.S_ .f32 0x00000000#32)
        Cert.ReferenceIdeal.Gen.reducesTo_S32x512x512_S512x512_d0 Cert.ReferenceIdeal.Gen.h_S_ : S512x512.Idx → EReal) (ix2 x y)
      = ∑ d : Fin 32, w (ix3 d x y) := by
  refine (Ideal.hostReduceAdd_single (s := ⟨3, ![32, 512, 512]⟩) (t := S512x512) (a := 0) _ (by decide) w _ (ix2 x y)).trans ?_
  show Ideal.ofBits .f32 0x00000000#32 + _ = _
  rw [Ideal.ofBits_zero_f32, zero_add]
  refine Finset.sum_congr rfl fun d _ => congrArg w (funext fun a => ?_)
  fin_cases a <;> exact Fin.ext rfl

/-- On every device the kernel's result is the reference's. -/
theorem sums_agree (m : (ℓ : Loc nD τ sig) → Buf (Elt Ideal) ℓ) (w : (⟨3, ![32, 512, 512]⟩ : Shape).Idx → EReal)
    (h : ∀ c : Dev nD, m ((c : Thread nD τ).loc main_arg0) = Layout.block ⟨3, ![1, 512, 512]⟩ ⟨3, ![32, 512, 512]⟩ 0 32 c w whole_tiles) :
    outc (narrow m) = (Host.reduceAdd (F := Ideal) (φ := .f32) w (constant (F := Ideal) Cert.ReferenceIdeal.S_ .f32 0x00000000#32)
        Cert.ReferenceIdeal.Gen.reducesTo_S32x512x512_S512x512_d0 Cert.ReferenceIdeal.Gen.h_S_ : S512x512.Idx → EReal) := by
  funext i
  obtain ⟨x, y, rfl⟩ : ∃ x y : Fin 512, i = ix2 x y := ⟨i 0, i 1, eq_ix2 i⟩
  rw [outc_at, reference_at]
  refine Finset.sum_congr rfl fun d _ => ?_
  unfold narrow
  refine (narrowed_at _ _ _).trans ?_
  rw [block_at, h]
  exact block_of w d _ _

theorem value : Cert.algebraic_KernelIdeal_ReferenceIdeal := by
  intro m ρ m' ρ' _ hagree
  refine ⟨_, (θ_run Cert.KernelIdeal.defs _ _).mono (fun _ h c =>
      ⟨((h.1 c (1 : Fin 2)).trans (final_out m c)).trans (sums_agree m _ hagree), (h.1 c (0 : Fin 2)).trans (final_arg m c)⟩) (run_main (F := Ideal) m ρ),
    (θ_run Cert.ReferenceIdeal.defs _ _).mono (fun r h => h 0) (Cert.ReferenceIdeal.Value.run (F := Ideal) m' ρ')⟩

end Cert.AllReduce

end
-- ==== Proof.lean ====
/-
  The certificate: the five claims (proofs.«01_k».proof.Defs), each proved in Proof/Claims.lean.
-/
module

public import proofs.«01_k».proof.Proof.Claims

@[expose] public section

noncomputable section

namespace Cert.Proof

/-- Nothing was rewritten between the two printings of the kernel, so there is nothing to preserve but the text. -/
theorem claim : Cert.Claim :=
  ⟨Cert.Kernel.Gen.facts, Cert.KernelIdeal.Gen.facts, Cert.ReferenceIdeal.Gen.facts,
    Cert.AllReduce.frame_kernel, Cert.AllReduce.frame_ideal, Cert.AllReduce.frame_reference, trivial, Cert.AllReduce.value⟩

end Cert.Proof

end
